-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_table : Cert.Pre_in_table.Facts] (m : (ℓ : Loc Cert.Reference.nD Cert.Reference.τ Cert.Reference.sig) → Buf (Elt Bits) ℓ) : Prop :=
  ∀ c : Dev Cert.Reference.nD,
    (Cert.Pre_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Topk (m : (ℓ : Loc Cert.Topk.nD Cert.Topk.τ Cert.Topk.sig) → Buf (Elt Bits) ℓ) : Prop :=
  True

def Pre_TopkIdeal (m : (ℓ : Loc Cert.TopkIdeal.nD Cert.TopkIdeal.τ Cert.TopkIdeal.sig) → Buf (Elt Ideal) ℓ) : Prop :=
  True

def Pre_TopkIdeal_finite [hPre_finite : Cert.Pre_finite.Facts] (m : (ℓ : Loc Cert.TopkIdeal.nD Cert.TopkIdeal.τ Cert.TopkIdeal.sig) → Buf (Elt Ideal) ℓ) : Prop :=
  ∀ c : Dev Cert.TopkIdeal.nD,
    (Cert.Pre_finite.fn (F := Ideal) (m ((c.tc : Thread Cert.TopkIdeal.nD Cert.TopkIdeal.τ).loc Cert.TopkIdeal.main_arg0)) (m ((c.tc : Thread Cert.TopkIdeal.nD Cert.TopkIdeal.τ).loc Cert.TopkIdeal.main_arg1)) (m ((c.tc : Thread Cert.TopkIdeal.nD Cert.TopkIdeal.τ).loc Cert.TopkIdeal.main_arg2))) = (fun _ => 1#1)

def Pre_TopkReferenceIdeal (m : (ℓ : Loc Cert.TopkReferenceIdeal.nD Cert.TopkReferenceIdeal.τ Cert.TopkReferenceIdeal.sig) → Buf (Elt Ideal) ℓ) : Prop :=
  True

def Pre_TopkReferenceIdeal_finite [hPre_finite : Cert.Pre_finite.Facts] (m : (ℓ : Loc Cert.TopkReferenceIdeal.nD Cert.TopkReferenceIdeal.τ Cert.TopkReferenceIdeal.sig) → Buf (Elt Ideal) ℓ) : Prop :=
  ∀ c : Dev Cert.TopkReferenceIdeal.nD,
    (Cert.Pre_finite.fn (F := Ideal) (m ((c.tc : Thread Cert.TopkReferenceIdeal.nD Cert.TopkReferenceIdeal.τ).loc Cert.TopkReferenceIdeal.main_arg0)) (m ((c.tc : Thread Cert.TopkReferenceIdeal.nD Cert.TopkReferenceIdeal.τ).loc Cert.TopkReferenceIdeal.main_arg1)) (m ((c.tc : Thread Cert.TopkReferenceIdeal.nD Cert.TopkReferenceIdeal.τ).loc Cert.TopkReferenceIdeal.main_arg2))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_table : Cert.Pre_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Topk [hTopk : Cert.Topk.Facts] : Prop :=
  ∀ (m : (ℓ : Loc Cert.Topk.nD Cert.Topk.τ Cert.Topk.sig) → Buf (Elt Bits) ℓ) (g : Dev Cert.Topk.nD → PrngReg), Pre_Topk m →
    θ_run (Cert.Topk.defs (F := Bits)) (onTc (τ := Cert.Topk.τ) (Cert.Topk.main (F := Bits))) ⟨m, fun _ => 0, g⟩ (fun r => (∀ c : Dev Cert.Topk.nD,
      r.2.mem ((c.tc : Thread Cert.Topk.nD Cert.Topk.τ).loc Cert.Topk.main_arg0) = m ((c.tc : Thread Cert.Topk.nD Cert.Topk.τ).loc Cert.Topk.main_arg0)
      ∧ r.2.mem ((c.tc : Thread Cert.Topk.nD Cert.Topk.τ).loc Cert.Topk.main_arg1) = m ((c.tc : Thread Cert.Topk.nD Cert.Topk.τ).loc Cert.Topk.main_arg1)
      ∧ r.2.mem ((c.tc : Thread Cert.Topk.nD Cert.Topk.τ).loc Cert.Topk.main_arg2) = m ((c.tc : Thread Cert.Topk.nD Cert.Topk.τ).loc Cert.Topk.main_arg2))
      ∧ r.2.sem = fun _ => 0)

def quiescent_TopkIdeal [hTopkIdeal : Cert.TopkIdeal.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1)
      ∧ r.2.mem ((c.tc : Thread Cert.TopkIdeal.nD Cert.TopkIdeal.τ).loc Cert.TopkIdeal.main_arg2) = m ((c.tc : Thread Cert.TopkIdeal.nD Cert.TopkIdeal.τ).loc Cert.TopkIdeal.main_arg2))
      ∧ r.2.sem = fun _ => 0)

def quiescent_TopkIdeal_pre_finite [hTopkIdeal : Cert.TopkIdeal.Facts] [hPre_finite : Cert.Pre_finite.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal_finite m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1)
      ∧ r.2.mem ((c.tc : Thread Cert.TopkIdeal.nD Cert.TopkIdeal.τ).loc Cert.TopkIdeal.main_arg2) = m ((c.tc : Thread Cert.TopkIdeal.nD Cert.TopkIdeal.τ).loc Cert.TopkIdeal.main_arg2))
      ∧ r.2.sem = fun _ => 0)

def quiescent_TopkReferenceIdeal [hTopkReferenceIdeal : Cert.TopkReferenceIdeal.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1)
      ∧ r.2.mem ((c.tc : Thread Cert.TopkReferenceIdeal.nD Cert.TopkReferenceIdeal.τ).loc Cert.TopkReferenceIdeal.main_arg2) = m ((c.tc : Thread Cert.TopkReferenceIdeal.nD Cert.TopkReferenceIdeal.τ).loc Cert.TopkReferenceIdeal.main_arg2))
      ∧ r.2.sem = fun _ => 0)

def quiescent_TopkReferenceIdeal_pre_finite [hTopkReferenceIdeal : Cert.TopkReferenceIdeal.Facts] [hPre_finite : Cert.Pre_finite.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal_finite m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1)
      ∧ r.2.mem ((c.tc : Thread Cert.TopkReferenceIdeal.nD Cert.TopkReferenceIdeal.τ).loc Cert.TopkReferenceIdeal.main_arg2) = m ((c.tc : Thread Cert.TopkReferenceIdeal.nD Cert.TopkReferenceIdeal.τ).loc Cert.TopkReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v8)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v8) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Topk_TopkIdeal : Prop :=
  True

def algebraic_TopkIdeal_TopkReferenceIdeal_pre_finite [hTopkIdeal : Cert.TopkIdeal.Facts] [hTopkReferenceIdeal : Cert.TopkReferenceIdeal.Facts] [hPre_finite : Cert.Pre_finite.Facts] : Prop :=
  ∀ (m : (ℓ : Loc Cert.TopkIdeal.nD Cert.TopkIdeal.τ Cert.TopkIdeal.sig) → Buf (Elt Ideal) ℓ) (g : Dev Cert.TopkIdeal.nD → PrngReg)
    (m' : (ℓ : Loc Cert.TopkReferenceIdeal.nD Cert.TopkReferenceIdeal.τ Cert.TopkReferenceIdeal.sig) → Buf (Elt Ideal) ℓ) (g' : Dev Cert.TopkReferenceIdeal.nD → PrngReg), Pre_TopkIdeal_finite m →
    (∀ c : Dev Cert.TopkIdeal.nD,
      m' ((c.tc : Thread Cert.TopkReferenceIdeal.nD Cert.TopkReferenceIdeal.τ).loc Cert.TopkReferenceIdeal.main_arg0) = m ((c.tc : Thread Cert.TopkIdeal.nD Cert.TopkIdeal.τ).loc Cert.TopkIdeal.main_arg0)
      ∧ m' ((c.tc : Thread Cert.TopkReferenceIdeal.nD Cert.TopkReferenceIdeal.τ).loc Cert.TopkReferenceIdeal.main_arg1) = m ((c.tc : Thread Cert.TopkIdeal.nD Cert.TopkIdeal.τ).loc Cert.TopkIdeal.main_arg1)
      ∧ m' ((c.tc : Thread Cert.TopkReferenceIdeal.nD Cert.TopkReferenceIdeal.τ).loc Cert.TopkReferenceIdeal.main_arg2) = m ((c.tc : Thread Cert.TopkIdeal.nD Cert.TopkIdeal.τ).loc Cert.TopkIdeal.main_arg2)) →
    ∃ (v0 : (c : Dev Cert.TopkIdeal.nD) → Buf (Elt Ideal) ((c.tc : Thread Cert.TopkIdeal.nD Cert.TopkIdeal.τ).loc Cert.TopkIdeal.main_v3_0)) (v1 : (c : Dev Cert.TopkIdeal.nD) → Buf (Elt Ideal) ((c.tc : Thread Cert.TopkIdeal.nD Cert.TopkIdeal.τ).loc Cert.TopkIdeal.main_v3_1)) (v2 : (c : Dev Cert.TopkIdeal.nD) → Buf (Elt Ideal) ((c.tc : Thread Cert.TopkIdeal.nD Cert.TopkIdeal.τ).loc Cert.TopkIdeal.main_v3_2)),
      θ_run (Cert.TopkIdeal.defs (F := Ideal)) (onTc (τ := Cert.TopkIdeal.τ) (Cert.TopkIdeal.main (F := Ideal))) ⟨m, fun _ => 0, g⟩ (fun r => ∀ c : Dev Cert.TopkIdeal.nD,
          r.2.mem ((c.tc : Thread Cert.TopkIdeal.nD Cert.TopkIdeal.τ).loc Cert.TopkIdeal.main_v3_0) = v0 c
          ∧ r.2.mem ((c.tc : Thread Cert.TopkIdeal.nD Cert.TopkIdeal.τ).loc Cert.TopkIdeal.main_v3_1) = v1 c
          ∧ r.2.mem ((c.tc : Thread Cert.TopkIdeal.nD Cert.TopkIdeal.τ).loc Cert.TopkIdeal.main_v3_2) = v2 c
          ∧ r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
          ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1)
          ∧ r.2.mem ((c.tc : Thread Cert.TopkIdeal.nD Cert.TopkIdeal.τ).loc Cert.TopkIdeal.main_arg2) = m ((c.tc : Thread Cert.TopkIdeal.nD Cert.TopkIdeal.τ).loc Cert.TopkIdeal.main_arg2))
      ∧ θ_run (Cert.TopkReferenceIdeal.defs (F := Ideal)) (onTc (τ := Cert.TopkReferenceIdeal.τ) (Cert.TopkReferenceIdeal.main (F := Ideal))) ⟨m', fun _ => 0, g'⟩ (fun r => ∀ c : Dev Cert.TopkReferenceIdeal.nD,
          r.2.mem ((c.tc : Thread Cert.TopkReferenceIdeal.nD Cert.TopkReferenceIdeal.τ).loc Cert.TopkReferenceIdeal.main_v42) = v0 c
          ∧ r.2.mem ((c.tc : Thread Cert.TopkReferenceIdeal.nD Cert.TopkReferenceIdeal.τ).loc Cert.TopkReferenceIdeal.main_v44) = v1 c
          ∧ r.2.mem ((c.tc : Thread Cert.TopkReferenceIdeal.nD Cert.TopkReferenceIdeal.τ).loc Cert.TopkReferenceIdeal.main_v46) = v2 c
          ∧ r.2.mem ((c.tc : Thread Cert.TopkReferenceIdeal.nD Cert.TopkReferenceIdeal.τ).loc Cert.TopkReferenceIdeal.main_arg0) = m' ((c.tc : Thread Cert.TopkReferenceIdeal.nD Cert.TopkReferenceIdeal.τ).loc Cert.TopkReferenceIdeal.main_arg0)
          ∧ r.2.mem ((c.tc : Thread Cert.TopkReferenceIdeal.nD Cert.TopkReferenceIdeal.τ).loc Cert.TopkReferenceIdeal.main_arg1) = m' ((c.tc : Thread Cert.TopkReferenceIdeal.nD Cert.TopkReferenceIdeal.τ).loc Cert.TopkReferenceIdeal.main_arg1)
          ∧ r.2.mem ((c.tc : Thread Cert.TopkReferenceIdeal.nD Cert.TopkReferenceIdeal.τ).loc Cert.TopkReferenceIdeal.main_arg2) = m' ((c.tc : Thread Cert.TopkReferenceIdeal.nD Cert.TopkReferenceIdeal.τ).loc Cert.TopkReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hTopk : Cert.Topk.Facts) (hTopkIdeal : Cert.TopkIdeal.Facts) (hTopkReferenceIdeal : Cert.TopkReferenceIdeal.Facts) (hPre_in_table : Cert.Pre_in_table.Facts) (hPre_finite : Cert.Pre_finite.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ quiescent_Reference (hReference := hReference) (hPre_in_table := hPre_in_table)
    ∧ quiescent_Topk (hTopk := hTopk)
    ∧ quiescent_TopkIdeal (hTopkIdeal := hTopkIdeal)
    ∧ quiescent_TopkIdeal_pre_finite (hTopkIdeal := hTopkIdeal) (hPre_finite := hPre_finite)
    ∧ quiescent_TopkReferenceIdeal (hTopkReferenceIdeal := hTopkReferenceIdeal)
    ∧ quiescent_TopkReferenceIdeal_pre_finite (hTopkReferenceIdeal := hTopkReferenceIdeal) (hPre_finite := hPre_finite)
    ∧ preserves_Kernel_KernelIdeal
    ∧ algebraic_KernelIdeal_ReferenceIdeal (hKernelIdeal := hKernelIdeal) (hReferenceIdeal := hReferenceIdeal) (hPre_in_table := hPre_in_table)
    ∧ bitexact_Kernel_Reference (hKernel := hKernel) (hReference := hReference) (hPre_in_table := hPre_in_table)
    ∧ preserves_Topk_TopkIdeal
    ∧ algebraic_TopkIdeal_TopkReferenceIdeal_pre_finite (hTopkIdeal := hTopkIdeal) (hTopkReferenceIdeal := hTopkReferenceIdeal) (hPre_finite := hPre_finite)
-- ==== Pre_finite.lean ====
abbrev S1024x64 : Shape := ⟨2, ![1024, 64]⟩
abbrev S512x16x32x64 : Shape := ⟨4, ![512, 16, 32, 64]⟩
abbrev S512x64 : Shape := ⟨2, ![512, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S512x16x32x64 : S_.BroadcastsInDim S512x16x32x64 (![] : Fin 0 → Fin S512x16x32x64.rank)
  reducesTo_S512x16x32x64_S_d0_1_2_3 : S512x16x32x64.ReducesTo [0, 1, 2, 3] S_
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S1024x64 .f32) (main_arg1 : FVec F S512x16x32x64 .f32) (main_arg2 : FVec F S512x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S512x16x32x64 .f32 := Host.absf main_arg1
  let main_cst_0 : FVec F S_ .f32 := constant S_ .f32 0x7F800000#32
  let main_v5 : FVec F S512x16x32x64 .f32 := broadcastInDim S512x16x32x64 ![] bcast_S_S512x16x32x64 main_cst_0
  let main_v6 : IVec S512x16x32x64 1 := cmpf .olt main_v4 main_v5
  let main_c_1 : IVec S_ 1 := constantI S_ 1 1#1
  let main_v7 : IVec S_ 1 := (fun x v => Host.reduce IntOp.andi x v reducesTo_S512x16x32x64_S_d0_1_2_3 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  main_v13
-- ==== Pre_in_table.lean ====
abbrev S512x16x32x64 : Shape := ⟨4, ![512, 16, 32, 64]⟩
abbrev S1024x16 : Shape := ⟨2, ![1024, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel

variable [Facts]

def fn {F : FTy → Type} [FloatOps F] (main_arg0 : FVec F S512x16x32x64 .f32) (main_arg1 : IVec S1024x16 32) : IVec S_ 1 :=
  let main_c : IVec S_ 32 := constantI S_ 32 0#32
  let main_v0 : IVec S1024x16 32 := broadcastInDim S1024x16 ![] bcast_S_S1024x16 main_c
  let main_v1 : IVec S1024x16 1 := cmpi .sge main_arg1 main_v0
  let main_c_0 : IVec S_ 32 := constantI S_ 32 262144#32
  let main_v2 : IVec S1024x16 32 := broadcastInDim S1024x16 ![] bcast_S_S1024x16 main_c_0
  let main_v3 : IVec S1024x16 1 := cmpi .slt main_arg1 main_v2
  let main_v4 : IVec S1024x16 1 := andi main_v1 main_v3
  let main_c_1 : IVec S_ 1 := constantI S_ 1 1#1
  let main_v5 : IVec S_ 1 := (fun x v => Host.reduce IntOp.andi x v reducesTo_S1024x16_S_d0_1 h_S_) main_v4 main_c_1
  main_v5
-- ==== Kernel.lean ====
abbrev S512x16x32x64 : Shape := ⟨4, ![512, 16, 32, 64]⟩
abbrev S1024x16 : Shape := ⟨2, ![1024, 16]⟩
abbrev S131072x128 : Shape := ⟨2, ![131072, 128]⟩
abbrev S16384 : Shape := ⟨1, ![16384]⟩
abbrev S_ : Shape := ⟨0, ![]⟩
abbrev S1x16384 : Shape := ⟨2, ![1, 16384]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S16384x1 : Shape := ⟨2, ![16384, 1]⟩
abbrev S16384x64 : Shape := ⟨2, ![16384, 64]⟩
abbrev S1024x16x64 : Shape := ⟨3, ![1024, 16, 64]⟩

abbrev nBuf : Table → Nat
  | .hbm => 49
  | .local .tc .vmem => 3
  | .local .scVector .vmem => 2
  | _ => 0

abbrev bufTy : (tb : Table) → Fin (nBuf tb) → BufTy
  | .hbm, ⟨0, _⟩ => ⟨S512x16x32x64, .f32⟩
  | .hbm, ⟨1, _⟩ => ⟨S1024x16, .i32⟩
  | .hbm, ⟨2, _⟩ => ⟨S131072x128, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S1x16384, .i32⟩
  | .hbm, ⟨23, _⟩ => ⟨S16384x128, .f32⟩
  | .hbm, ⟨24, _⟩ => ⟨S16384x1, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S16384x1, .i32⟩
  | .hbm, ⟨32, _⟩ => ⟨S16384x1, .i32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S_, .i32⟩
  | .hbm, ⟨40, _⟩ => ⟨S_, .i1⟩
  | .hbm, ⟨41, _⟩ => ⟨S16384x1, .i1⟩
  | .hbm, ⟨42, _⟩ => ⟨S16384x1, .i1⟩
  | .hbm, ⟨43, _⟩ => ⟨S16384x1, .i1⟩
  | .hbm, ⟨44, _⟩ => ⟨S16384x1, .i32⟩
  | .hbm, ⟨45, _⟩ => ⟨S16384x1, .i32⟩
  | .hbm, ⟨46, _⟩ => ⟨S16384x1, .i32⟩
  | .hbm, ⟨47, _⟩ => ⟨S16384x64, .f32⟩
  | .hbm, ⟨48, _⟩ => ⟨S1024x16x64, .f32⟩
  | .local .tc .vmem, ⟨0, _⟩ => ⟨S16384x128, .f32⟩
  | .local .tc .vmem, ⟨1, _⟩ => ⟨S16384x1, .i32⟩
  | .local .tc .vmem, ⟨2, _⟩ => ⟨S16384x64, .f32⟩
  | .local .scVector .vmem, ⟨0, _⟩ => ⟨S2x1x128, .i32⟩
  | .local .scVector .vmem, ⟨1, _⟩ => ⟨S2x128x128, .f32⟩
  | _, _ => ⟨S512x16x32x64, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v0_scv : Ref sig .scVector := ⟨.hbm, 2, rfl⟩
abbrev main_v3_scv : Ref sig .scVector := ⟨.hbm, 22, rfl⟩
abbrev main_v4_scv : Ref sig .scVector := ⟨.hbm, 23, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem1_0 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_68_r0 : BitVec 32 := 3#32
  let v83_r0 : BitVec 1 := Scalar.cmpi .sge arg5_r0 c3_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_55_r0 : BitVec 32 := 3#32
  let v65_r0 : BitVec 1 := Scalar.cmpi .eq arg5_r0 c3_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S16384x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S16384x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S16384x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S16384x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S16384x128.size a)
theorem k0_off19_inb : ∀ (i : grid0.Coords) (v33_4_r0 : BitVec 32) (k0_hw5 : k0_chk5 i v33_4_r0), ∀ a, (k0_off19 i v33_4_r0) a + S128x128.size a ≤ S16384x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := .none

abbrev stage1_0 : Fin 1 → Memref sig .tc .vmem S16384x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16384x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16384x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S512x16x32x64 : Shape := ⟨4, ![512, 16, 32, 64]⟩
abbrev S1024x16 : Shape := ⟨2, ![1024, 16]⟩
abbrev S262144x64 : Shape := ⟨2, ![262144, 64]⟩
abbrev S_ : Shape := ⟨0, ![]⟩
abbrev S1024x16x1 : Shape := ⟨3, ![1024, 16, 1]⟩
abbrev S1 : Shape := ⟨1, ![1]⟩
abbrev S1x1x1 : Shape := ⟨3, ![1, 1, 1]⟩
abbrev S1024x16x64 : Shape := ⟨3, ![1024, 16, 64]⟩

abbrev nBuf : Space → Nat
  | .hbm => 26
  | .vmem => 0
  | .smem => 0
  | _ => 0

abbrev bufTy : (tb : Table) → Fin (tcTables nBuf tb) → BufTy
  | .hbm, ⟨0, _⟩ => ⟨S512x16x32x64, .f32⟩
  | .hbm, ⟨1, _⟩ => ⟨S1024x16, .i32⟩
  | .hbm, ⟨2, _⟩ => ⟨S262144x64, .f32⟩
  | .hbm, ⟨3, _⟩ => ⟨S_, .i32⟩
  | .hbm, ⟨4, _⟩ => ⟨S1024x16, .i32⟩
  | .hbm, ⟨5, _⟩ => ⟨S1024x16, .i1⟩
  | .hbm, ⟨6, _⟩ => ⟨S_, .i32⟩
  | .hbm, ⟨7, _⟩ => ⟨S1024x16, .i32⟩
  | .hbm, ⟨8, _⟩ => ⟨S1024x16, .i32⟩
  | .hbm, ⟨9, _⟩ => ⟨S1024x16, .i32⟩
  | .hbm, ⟨10, _⟩ => ⟨S1024x16x1, .i32⟩
  | .hbm, ⟨11, _⟩ => ⟨S1, .i32⟩
  | .hbm, ⟨12, _⟩ => ⟨S_, .i32⟩
  | .hbm, ⟨13, _⟩ => ⟨S1024x16x1, .i32⟩
  | .hbm, ⟨14, _⟩ => ⟨S1024x16x1, .i1⟩
  | .hbm, ⟨15, _⟩ => ⟨S1x1x1, .i32⟩
  | .hbm, ⟨16, _⟩ => ⟨S1024x16x1, .i32⟩
  | .hbm, ⟨17, _⟩ => ⟨S1024x16x1, .i1⟩
  | .hbm, ⟨18, _⟩ => ⟨S1024x16x1, .i1⟩
  | .hbm, ⟨19, _⟩ => ⟨S_, .i1⟩
  | .hbm, ⟨20, _⟩ => ⟨S1024x16, .i1⟩
  | .hbm, ⟨21, _⟩ => ⟨S1024x16x64, .f32⟩
  | .hbm, ⟨22, _⟩ => ⟨S1024x16x64, .i1⟩
  | .hbm, ⟨23, _⟩ => ⟨S_, .f32⟩
  | .hbm, ⟨24, _⟩ => ⟨S1024x16x64, .f32⟩
  | .hbm, ⟨25, _⟩ => ⟨S1024x16x64, .f32⟩
  | _, _ => ⟨S512x16x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Topk.lean ====
abbrev S1024x64 : Shape := ⟨2, ![1024, 64]⟩
abbrev S512x16x32x64 : Shape := ⟨4, ![512, 16, 32, 64]⟩
abbrev S512x64 : Shape := ⟨2, ![512, 64]⟩
abbrev S1024x8 : Shape := ⟨2, ![1024, 8]⟩
abbrev S1024x512 : Shape := ⟨2, ![1024, 512]⟩
abbrev S1024 : Shape := ⟨1, ![1024]⟩
abbrev S1024x1 : Shape := ⟨2, ![1024, 1]⟩
abbrev S8192x2048 : Shape := ⟨2, ![8192, 2048]⟩
abbrev S1024x8192 : Shape := ⟨2, ![1024, 8192]⟩
abbrev S1024x2048 : Shape := ⟨2, ![1024, 2048]⟩
abbrev S1024x1024 : Shape := ⟨2, ![1024, 1024]⟩
abbrev S1024x16 : Shape := ⟨2, ![1024, 16]⟩
abbrev S64x8192 : Shape := ⟨2, ![64, 8192]⟩
abbrev S64x8 : Shape := ⟨2, ![64, 8]⟩
abbrev S64x16 : Shape := ⟨2, ![64, 16]⟩
abbrev S64x1 : Shape := ⟨2, ![64, 1]⟩
abbrev S64 : Shape := ⟨1, ![64]⟩

abbrev nBuf : Space → Nat
  | .hbm => 10
  | .vmem => 22
  | .smem => 0
  | _ => 0

abbrev bufTy : (tb : Table) → Fin (tcTables nBuf tb) → BufTy
  | .hbm, ⟨0, _⟩ => ⟨S1024x64, .f32⟩
  | .hbm, ⟨1, _⟩ => ⟨S512x16x32x64, .f32⟩
  | .hbm, ⟨2, _⟩ => ⟨S512x64, .f32⟩
  | .hbm, ⟨3, _⟩ => ⟨S1024x8, .i32⟩
  | .hbm, ⟨4, _⟩ => ⟨S8192x2048, .f32⟩
  | .hbm, ⟨5, _⟩ => ⟨S1024x8192, .f32⟩
  | .hbm, ⟨6, _⟩ => ⟨S1024x8192, .i32⟩
  | .hbm, ⟨7, _⟩ => ⟨S1024x16, .f32⟩
  | .hbm, ⟨8, _⟩ => ⟨S1024x16, .i32⟩
  | .hbm, ⟨9, _⟩ => ⟨S1024x16, .i32⟩
  | .local _ .vmem, ⟨0, _⟩ => ⟨S1024x64, .f32⟩
  | .local _ .vmem, ⟨1, _⟩ => ⟨S512x64, .f32⟩
  | .local _ .vmem, ⟨2, _⟩ => ⟨S1024x8, .i32⟩
  | .local _ .vmem, ⟨3, _⟩ => ⟨S1024x64, .f32⟩
  | .local _ .vmem, ⟨4, _⟩ => ⟨S1024x2048, .f32⟩
  | .local _ .vmem, ⟨5, _⟩ => ⟨S1024x2048, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .i32⟩
  | .local _ .vmem, ⟨9, _⟩ => ⟨S1024x1024, .i32⟩
  | .local _ .vmem, ⟨10, _⟩ => ⟨S64x8192, .f32⟩
  | .local _ .vmem, ⟨11, _⟩ => ⟨S64x8192, .f32⟩
  | .local _ .vmem, ⟨12, _⟩ => ⟨S64x8192, .i32⟩
  | .local _ .vmem, ⟨13, _⟩ => ⟨S64x8192, .i32⟩
  | .local _ .vmem, ⟨14, _⟩ => ⟨S64x8, .i32⟩
  | .local _ .vmem, ⟨15, _⟩ => ⟨S64x8, .i32⟩
  | .local _ .vmem, ⟨16, _⟩ => ⟨S64x16, .f32⟩
  | .local _ .vmem, ⟨17, _⟩ => ⟨S64x16, .f32⟩
  | .local _ .vmem, ⟨18, _⟩ => ⟨S64x16, .i32⟩
  | .local _ .vmem, ⟨19, _⟩ => ⟨S64x16, .i32⟩
  | .local _ .vmem, ⟨20, _⟩ => ⟨S64x16, .i32⟩
  | .local _ .vmem, ⟨21, _⟩ => ⟨S64x16, .i32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x8192 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x8 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x16 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S64x16 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== TopkReferenceIdeal.lean ====
abbrev S1024x64 : Shape := ⟨2, ![1024, 64]⟩
abbrev S512x16x32x64 : Shape := ⟨4, ![512, 16, 32, 64]⟩
abbrev S512x64 : Shape := ⟨2, ![512, 64]⟩
abbrev S1024x512 : Shape := ⟨2, ![1024, 512]⟩
abbrev S1024x8 : Shape := ⟨2, ![1024, 8]⟩
abbrev S_ : Shape := ⟨0, ![]⟩
abbrev S1024x8x1 : Shape := ⟨3, ![1024, 8, 1]⟩
abbrev S1024x8x16x32x64 : Shape := ⟨5, ![1024, 8, 16, 32, 64]⟩
abbrev S1024x8x16x32 : Shape := ⟨4, ![1024, 8, 16, 32]⟩
abbrev S1024x8x16x1 : Shape := ⟨4, ![1024, 8, 16, 1]⟩
abbrev S16 : Shape := ⟨1, ![16]⟩
abbrev S1x1x16x1 : Shape := ⟨4, ![1, 1, 16, 1]⟩
abbrev S32 : Shape := ⟨1, ![32]⟩
abbrev S1024x8x1x1 : Shape := ⟨4, ![1024, 8, 1, 1]⟩
abbrev S1024x128 : Shape := ⟨2, ![1024, 128]⟩
abbrev S1024x16 : Shape := ⟨2, ![1024, 16]⟩

abbrev nBuf : Space → Nat
  | .hbm => 65
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S512x16x32x64, .f32⟩
  | .hbm, ⟨2, _⟩ => ⟨S512x64, .f32⟩
  | .hbm, ⟨3, _⟩ => ⟨S1024x512, .f32⟩
  | .hbm, ⟨4, _⟩ => ⟨S1024x8, .f32⟩
  | .hbm, ⟨5, _⟩ => ⟨S1024x8, .i32⟩
  | .hbm, ⟨6, _⟩ => ⟨S_, .i32⟩
  | .hbm, ⟨7, _⟩ => ⟨S1024x8, .i32⟩
  | .hbm, ⟨8, _⟩ => ⟨S1024x8, .i1⟩
  | .hbm, ⟨9, _⟩ => ⟨S_, .i32⟩
  | .hbm, ⟨10, _⟩ => ⟨S1024x8, .i32⟩
  | .hbm, ⟨11, _⟩ => ⟨S1024x8, .i32⟩
  | .hbm, ⟨12, _⟩ => ⟨S1024x8, .i32⟩
  | .hbm, ⟨13, _⟩ => ⟨S1024x8x1, .i32⟩
  | .hbm, ⟨14, _⟩ => ⟨S1024x8x16x32x64, .f32⟩
  | .hbm, ⟨15, _⟩ => ⟨S1024x8x16x32, .f32⟩
  | .hbm, ⟨16, _⟩ => ⟨S1024x8x16x1, .f32⟩
  | .hbm, ⟨17, _⟩ => ⟨S1024x8x16x1, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S1x1x16x1, .i32⟩
  | .hbm, ⟨26, _⟩ => ⟨S1024x8x16x1, .i32⟩
  | .hbm, ⟨27, _⟩ => ⟨S1024x8x16x1, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S1024x8, .i32⟩
  | .hbm, ⟨37, _⟩ => ⟨S1024x8, .i1⟩
  | .hbm, ⟨38, _⟩ => ⟨S_, .i32⟩
  | .hbm, ⟨39, _⟩ => ⟨S1024x8, .i32⟩
  | .hbm, ⟨40, _⟩ => ⟨S1024x8, .i32⟩
  | .hbm, ⟨41, _⟩ => ⟨S1024x8, .i32⟩
  | .hbm, ⟨42, _⟩ => ⟨S1024x8x1, .i32⟩
  | .hbm, ⟨43, _⟩ => ⟨S1024x8, .i32⟩
  | .hbm, ⟨44, _⟩ => ⟨S1024x8x1x1, .i32⟩
  | .hbm, ⟨45, _⟩ => ⟨S1024x8x16x1, .i32⟩
  | .hbm, ⟨46, _⟩ => ⟨S1024x8x16x1, .i32⟩
  | .hbm, ⟨47, _⟩ => ⟨S1024x8x1x1, .i32⟩
  | .hbm, ⟨48, _⟩ => ⟨S_, .i32⟩
  | .hbm, ⟨49, _⟩ => ⟨S1024x8x1x1, .i32⟩
  | .hbm, ⟨50, _⟩ => ⟨S1024x8x1x1, .i32⟩
  | .hbm, ⟨51, _⟩ => ⟨S1024x8x16x1, .i32⟩
  | .hbm, ⟨52, _⟩ => ⟨S1024x8x16x1, .i32⟩
  | .hbm, ⟨53, _⟩ => ⟨S1024x128, .f32⟩
  | .hbm, ⟨54, _⟩ => ⟨S1024x128, .i32⟩
  | .hbm, ⟨55, _⟩ => ⟨S1024x128, .i32⟩
  | .hbm, ⟨56, _⟩ => ⟨S1024x128, .f32⟩
  | .hbm, ⟨57, _⟩ => ⟨S1024x128, .i32⟩
  | .hbm, ⟨58, _⟩ => ⟨S1024x128, .i32⟩
  | .hbm, ⟨59, _⟩ => ⟨S1024x16, .f32⟩
  | .hbm, ⟨60, _⟩ => ⟨S1024x16, .f32⟩
  | .hbm, ⟨61, _⟩ => ⟨S1024x16, .i32⟩
  | .hbm, ⟨62, _⟩ => ⟨S1024x16, .i32⟩
  | .hbm, ⟨63, _⟩ => ⟨S1024x16, .i32⟩
  | .hbm, ⟨64, _⟩ => ⟨S1024x16, .i32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_values_1 : Ref sig .tc := ⟨.hbm, 16, rfl⟩
abbrev main_indices_2 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40_0 : Ref sig .tc := ⟨.hbm, 56, rfl⟩
abbrev main_v40_1 : Ref sig .tc := ⟨.hbm, 57, rfl⟩
abbrev main_v40_2 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Proof.Facts.lean ====
/-
  The gather call's control arithmetic, settled once for every SparseCore, tile and trip: which of a trip's conditions
  hold, which checks pass, and where each window of a trip lies.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic

/-- The words the loop carries into trip `k`: how many index fetches were begun, how many were waited for, how many
    write-outs were begun, how many were waited for, and the trip's place in its run of four. -/
def A (k : ℕ) : BitVec 32 × BitVec 32 × BitVec 32 × BitVec 32 × BitVec 32 :=
  (BitVec.ofNat 32 (min (k + 1) 4), BitVec.ofNat 32 k, BitVec.ofNat 32 k, BitVec.ofNat 32 (k - 1), BitVec.ofNat 32 (k % 4))

abbrev a6 (k : ℕ) : BitVec 32 := (A k).1
abbrev a7 (k : ℕ) : BitVec 32 := (A k).2.1
abbrev a8 (k : ℕ) : BitVec 32 := (A k).2.2.1
abbrev a9 (k : ℕ) : BitVec 32 := (A k).2.2.2.1
abbrev a10 (k : ℕ) : BitVec 32 := (A k).2.2.2.2

/-- The number of the first of the tile's four blocks, as the kernel computes it. -/
abbrev first (i : grid0.Coords) : BitVec 32 :=
  Scalar.muli (Scalar.addi (Scalar.addi 0#32 (Scalar.muli (BitVec.ofNat 32 (i 1).val) 1#32)) (Scalar.muli (BitVec.ofNat 32 (i 0).val) 16#32)) 4#32

/-- The number of a tile: SparseCore 0's sixteen first. -/
abbrev wid (L : grid0.Coords) : ℕ := (L 1).val + 16 * (L 0).val

theorem wid_lt (L : grid0.Coords) : wid L < 32 := by
  have h0 : (L 0).val < 2 := (L 0).isLt
  have h1 : (L 1).val < 16 := (L 1).isLt
  unfold wid; omega

theorem trips_eq : k0_t1_loop.trips = 4 := by decide +kernel

theorem chk3_A : ∀ k : Fin k0_t1_loop.trips, k0_chk3 (a7 k.val) := by decide +kernel
theorem chk2_A : ∀ k : Fin k0_t1_loop.trips, k0_chk2 (a8 k.val) := by decide +kernel
theorem chk1_A : ∀ (L : grid0.Coords) (k : Fin k0_t1_loop.trips), k0_chk1 L k (a6 k.val) (a7 k.val) (a8 k.val) (a9 k.val) (a10 k.val) := by
  decide +kernel

theorem cond1_A : ∀ (L : grid0.Coords) (k : Fin k0_t1_loop.trips), k0_cond1 L k (a10 k.val) = 1#1 ↔ k.val < 3 := by decide +kernel
theorem cond2_A : ∀ (L : grid0.Coords) (k : Fin k0_t1_loop.trips), k0_cond2 L k (a10 k.val) = 1#1 := by decide +kernel
theorem cond5_A : ∀ (L : grid0.Coords) (k : Fin k0_t1_loop.trips), k0_cond5 L k (a10 k.val) = 1#1 := by decide +kernel
theorem cond7_A : ∀ (L : grid0.Coords) (k : Fin k0_t1_loop.trips), k0_cond7 L k (a10 k.val) = 1#1 ↔ 0 < k.val := by decide +kernel

theorem off4_A : ∀ (k : Fin k0_t1_loop.trips), k.val < 3 → k0_off4 (a6 k.val) = ![(k.val + 1) % 2, 0, 0] := by decide +kernel
theorem off5_A : ∀ (L : grid0.Coords) (k : Fin k0_t1_loop.trips), k.val < 3 → k0_off5 L (a10 k.val) = ![0, (4 * wid L + (k.val + 1)) * 128] := by
  decide +kernel
theorem off6_A : ∀ (k : Fin k0_t1_loop.trips), k.val < 3 → k0_off6 (a6 k.val) = ![(k.val + 1) % 2] := by decide +kernel
theorem off7_A : ∀ (k : Fin k0_t1_loop.trips), k0_off7 (a7 k.val) = ![k.val % 2, 0, 0] := by decide +kernel
theorem off8_A : ∀ (L : grid0.Coords) (k : Fin k0_t1_loop.trips), k0_off8 L (a10 k.val) = ![0, (4 * wid L + k.val) * 128] := by decide +kernel
theorem off9_A : ∀ (k : Fin k0_t1_loop.trips), k0_off9 (a7 k.val) = ![k.val % 2] := by decide +kernel
theorem off10_A : ∀ (k : Fin k0_t1_loop.trips), k0_off10 (a8 k.val) = ![k.val % 2, 0, 0] := by decide +kernel
theorem off11_A : ∀ (k : Fin k0_t1_loop.trips), k0_off11 (a7 k.val) = ![k.val % 2, 0, 0] := by decide +kernel
theorem off12_A : ∀ (k : Fin k0_t1_loop.trips), k0_off12 (a8 k.val) = ![k.val % 2, 0, 0] := by decide +kernel
theorem off13_A : ∀ (L : grid0.Coords) (k : Fin k0_t1_loop.trips), k0_off13 L (a10 k.val) = ![(4 * wid L + k.val) * 128, 0] := by decide +kernel
theorem off14_A : ∀ (k : Fin k0_t1_loop.trips), k0_off14 (a8 k.val) = ![k.val % 2] := by decide +kernel
theorem off15_A : ∀ (k : Fin k0_t1_loop.trips), 0 < k.val → k0_off15 (a9 k.val) = ![(k.val + 1) % 2, 0, 0] := by decide +kernel
theorem off16_A : ∀ (L : grid0.Coords) (k : Fin k0_t1_loop.trips), 0 < k.val → k0_off16 L (a10 k.val) = ![(4 * wid L + (k.val - 1)) * 128, 0] := by
  decide +kernel
theorem off17_A : ∀ (k : Fin k0_t1_loop.trips), 0 < k.val → k0_off17 (a9 k.val) = ![(k.val + 1) % 2] := by decide +kernel

theorem off2_A : ∀ L : grid0.Coords, k0_off2 L = ![0, (4 * wid L + 0) * 128] := by decide +kernel
theorem off3_A : k0_off3 = ![0] := by decide +kernel
theorem off1_A : k0_off1 = ![0, 0, 0] := by decide +kernel

theorem chk5_A : ∀ L : grid0.Coords, k0_chk5 L (a10 4) := by decide +kernel
theorem chk4_A : k0_chk4 (a9 4) := by decide +kernel
theorem off18_A : k0_off18 (a9 4) = ![1, 0, 0] := by decide +kernel
theorem off19_A : ∀ L : grid0.Coords, k0_off19 L (a10 4) = ![(4 * wid L + 3) * 128, 0] := by decide +kernel
theorem off20_A : k0_off20 (a9 4) = ![1] := by decide +kernel
theorem off21_A : k0_off21 (a9 4) = ![1, 0, 0] := by decide +kernel

/-- The words a trip hands on, as it computes them from the words it was handed. -/
abbrev step (i : grid0.Coords) (k0_t1 : Fin k0_t1_loop.trips) (a : BitVec 32 × BitVec 32 × BitVec 32 × BitVec 32 × BitVec 32) :
    BitVec 32 × BitVec 32 × BitVec 32 × BitVec 32 × BitVec 32 :=
  let v4 := first i
  let arg5 : BitVec 32 := Scf.iv 0#32 1#32 k0_t1
  let v64 : BitVec 1 := Scalar.cmpi .eq arg5 0#32
  let v65 : BitVec 1 := Scalar.cmpi .eq arg5 3#32
  let v66 : BitVec 32 := Scalar.addi a.2.2.2.2 v4
  let v68 : BitVec 32 := Scalar.select 1#1 (Scalar.subi a.2.2.2.2 1#32) a.2.2.2.2
  let v71 : BitVec 32 := Scalar.addi (Scalar.select (Scalar.cmpi .eq v68 4294967295#32) 3#32 v68) v4
  let v73 : BitVec 32 := Scalar.select 1#1 (Scalar.addi a.2.2.2.2 1#32) a.2.2.2.2
  let v76 : BitVec 32 := Scalar.addi (Scalar.select (Scalar.cmpi .eq v73 4#32) 0#32 v73) v4
  let v85 : BitVec 1 := Scalar.andi (Scalar.cmpi .ne v66 v76) (Scalar.xori (Scalar.cmpi .sge arg5 3#32) 1#1)
  let v116 : BitVec 1 := Scalar.ori (Scalar.cmpi .ne v66 v76) v65
  let v130 : BitVec 1 := Scalar.andi (Scalar.cmpi .ne v66 v71) (Scalar.xori v64 1#1)
  (Scalar.select (Scalar.andi v85 1#1) (Scalar.addi a.1 1#32) a.1,
    Scalar.select v116 (Scalar.addi a.2.1 1#32) a.2.1,
    Scalar.select (Scalar.andi v116 1#1) (Scalar.addi a.2.2.1 1#32) a.2.2.1,
    Scalar.select (Scalar.andi v130 1#1) (Scalar.addi a.2.2.2.1 1#32) a.2.2.2.1,
    Scalar.select (Scalar.cmpi .eq v73 4#32) 0#32 v73)

theorem step_A : ∀ (L : grid0.Coords) (k : Fin k0_t1_loop.trips), step L k (A k.val) = A (k.val + 1) := by decide +kernel

end Cert.Proof.Sc

end

end
-- ==== Proof.Windows.lean ====
/-
  The gather call's windows: the two slots of the index buffer and of the row buffer, the 128 blocks of the index list
  and of the result, the whole table; and what the indirect gather leaves, as a function of the list and the table.
-/
module

public import proofs.«01_k».proof.Proof.Facts
public import Idealize.ShloMosaic.Lib.ShareLeaves

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The buffers and their windows -/

/-- The table, the index list and the result, as a tile names them. -/
abbrev tV : Memref sig .scVector .hbm S131072x128 .f32 := Memref.whole main_v0_scv
abbrev iV : Memref sig .scVector .hbm S1x16384 .i32 := Memref.whole main_v3_scv
abbrev oV : Memref sig .scVector .hbm S16384x128 .f32 := Memref.whole main_v4_scv
/-- A tile's index slots and row slots. -/
abbrev bV : Memref sig .scVector .vmem S2x1x128 .i32 := Memref.whole cc0_scoped0
abbrev cV : Memref sig .scVector .vmem S2x128x128 .f32 := Memref.whole cc0_scoped2

theorem b_inb : ∀ (s : Fin 2) (a : Fin 3), (![s.val, 0, 0] : Fin 3 → ℕ) a + S1x1x128.size a ≤ S2x1x128.size a := by decide +kernel
theorem c_inb : ∀ (s : Fin 2) (a : Fin 3), (![s.val, 0, 0] : Fin 3 → ℕ) a + S1x128x128.size a ≤ S2x128x128.size a := by decide +kernel
theorem s_inb : ∀ (s : Fin 2) (a : Fin 1), (![s.val] : Fin 1 → ℕ) a + S1.size a ≤ S2.size a := by decide +kernel
theorem g_inb : ∀ (n : Fin 128) (a : Fin 2), (![0, n.val * 128] : Fin 2 → ℕ) a + S1x128.size a ≤ S1x16384.size a := by decide +kernel
theorem r_inb : ∀ (n : Fin 128) (a : Fin 2), (![n.val * 128, 0] : Fin 2 → ℕ) a + S128x128.size a ≤ S16384x128.size a := by decide +kernel

abbrev bR (s : Fin 2) : Rect S2x1x128 := Rect.unit (s := S2x1x128) ![s.val, 0, 0] S1x1x128.size (b_inb s)
abbrev cR (s : Fin 2) : Rect S2x128x128 := Rect.unit (s := S2x128x128) ![s.val, 0, 0] S1x128x128.size (c_inb s)
abbrev gR (n : Fin 128) : Rect S1x16384 := Rect.unit (s := S1x16384) ![0, n.val * 128] S1x128.size (g_inb n)
abbrev rR (n : Fin 128) : Rect S16384x128 := Rect.unit (s := S16384x128) ![n.val * 128, 0] S128x128.size (r_inb n)

/-- Index slot `s`, row slot `s`, block `n` of the index list, block `n` of the result. -/
abbrev bW (s : Fin 2) : Memref sig .scVector .vmem S1x128 .i32 := (bV.slice (bR s) (fun _ => rfl)).squeeze S1x128 squeezes_S1x1x128_S1x128
abbrev cW (s : Fin 2) : Memref sig .scVector .vmem S128x128 .f32 := (cV.slice (cR s) (fun _ => rfl)).squeeze S128x128 squeezes_S1x128x128_S128x128
abbrev gW (n : Fin 128) : Memref sig .scVector .hbm S1x128 .i32 := iV.slice (gR n) (fun _ => rfl)
abbrev rW (n : Fin 128) : Memref sig .scVector .hbm S128x128 .f32 := oV.slice (rR n) (fun _ => rfl)
/-- Slot `s`'s 128 indices as a list, and the table as the gather addresses it. -/
abbrev lW (s : Fin 2) : Memref sig .scVector .vmem S128 .i32 :=
  ((bW s).slice (Rect.unit (s := S1x128) ![0, 0] S1x128.size inb_S1x128_S1x128_0_0) (fun _ => rfl)).squeeze S128 squeezes_S1x128_S128
abbrev tA : Memref sig .scVector .hbm S131072x128 .f32 :=
  tV.slice (Rect.unit (s := S131072x128) ![0, 0] S131072x128.size inb_S131072x128_S131072x128_0_0) (fun _ => rfl)

/-- The semaphores of the two index slots, of the two row slots, and of the gather. -/
abbrev inSem (s : Fin 2) : DmaSem sig := ((cc0_scoped1.slice (Rect.unit (s := S2) ![s.val] S1.size (s_inb s))).squeeze S_ squeezes_S1_S_).sem
abbrev outSem (s : Fin 2) : DmaSem sig := ((cc0_scoped3.slice (Rect.unit (s := S2) ![s.val] S1.size (s_inb s))).squeeze S_ squeezes_S1_S_).sem
abbrev gSem : DmaSem sig := cc0_scoped4.sem

/-! ## What the gather leaves -/

/-- The row of the table that entry `j` of the index list names. -/
def rowOf (I : S1x16384.Idx → BitVec 32) (j : Fin 16384) : Fin 131072 := Fin.ofNat 131072 (I (fun | 0 => ⟨0, by decide⟩ | 1 => j)).toNat

/-- The gathered rows: row `j` of the result is the table's row that entry `j` of the list names. -/
def G (T : S131072x128.Idx → Elt F .f32) (I : S1x16384.Idx → BitVec 32) : S16384x128.Idx → Elt F .f32 :=
  fun x => T (fun | 0 => rowOf I (x 0) | 1 => x 1)

theorem lW_emb : ∀ y : S128.Idx, Shape.reshapeEquiv (s := S1x128) (s' := S128) squeezes_S1x128_S128.numel_eq y = (fun | 0 => ⟨0, by decide⟩ | 1 => y 0) := by
  decide +kernel

theorem numel_S128 : S128.numel = 128 := by decide +kernel

theorem rowMajor_list : ∀ x : Fin 128, ((S128.rowMajor.symm (x.cast numel_S128.symm)) 0).val = x.val := by decide +kernel

/-- The list read off a slot is the slot's block of indices. -/
theorem lW_read (s : Fin 2) (f : (lW s).view.ty.Contents (Elt F)) (y : S128.Idx) :
    (lW s).view.read (Elt F) f y = (bW s).view.read (Elt F) f (fun | 0 => ⟨0, by decide⟩ | 1 => y 0) := by
  rw [View.read_apply, View.read_apply]
  have e : (lW s).view.emb y = (bW s).view.emb (fun | 0 => ⟨0, by decide⟩ | 1 => y 0) := by
    show (bW s).view.emb ((Rect.unit (s := S1x128) ![0, 0] S1x128.size inb_S1x128_S1x128_0_0).emb
      (Shape.reshapeEquiv (s := S1x128) (s' := S128) squeezes_S1x128_S128.numel_eq y)) = _
    rw [lW_emb]
    congr 1
    funext a
    apply Fin.ext
    refine (Rect.emb_apply _ _ _).trans ?_
    match a with
    | 0 => rfl
    | 1 => show 0 + 1 * (y 0).val = (y 0).val; omega
  rw [e]

theorem tA_read (T : S131072x128.Idx → Elt F .f32) (x : S131072x128.Idx) : tA.view.read (Elt F) T x = T x := by
  refine (View.read_apply _ _).trans ((cast_eq _ _).trans (congrArg T ?_))
  funext a
  apply Fin.ext
  refine (Rect.emb_apply _ _ _).trans ?_
  match a with
  | 0 => show 0 + 1 * (x 0).val = (x 0).val; omega
  | 1 => show 0 + 1 * (x 1).val = (x 1).val; omega

theorem gW_read (I : S1x16384.Idx → Elt F .i32) (n : Fin 128) (x : S1x128.Idx) :
    (gW n).view.read (Elt F) I x = I (fun | 0 => ⟨0, by decide⟩ | 1 => ⟨n.val * 128 + (x 1).val, by have h := (x 1).isLt; change _ < 128 at h; change _ < 16384; omega⟩) := by
  refine (View.read_apply _ _).trans ((cast_eq _ _).trans (congrArg I ?_))
  funext a
  apply Fin.ext
  refine (Rect.emb_apply _ _ _).trans ?_
  match a with
  | 0 => show 0 + 1 * (x 0).val = 0; have h := (x 0).isLt; change _ < 1 at h; omega
  | 1 => show n.val * 128 + 1 * (x 1).val = n.val * 128 + (x 1).val; omega

theorem rW_read (g : S16384x128.Idx → Elt F .f32) (n : Fin 128) (x : S128x128.Idx) :
    (rW n).view.read (Elt F) g x = g (fun | 0 => ⟨n.val * 128 + (x 0).val, by have h := (x 0).isLt; change _ < 128 at h; change _ < 16384; omega⟩ | 1 => x 1) := by
  refine (View.read_apply _ _).trans ((cast_eq _ _).trans (congrArg g ?_))
  funext a
  apply Fin.ext
  refine (Rect.emb_apply _ _ _).trans ?_
  match a with
  | 0 => show n.val * 128 + 1 * (x 0).val = n.val * 128 + (x 0).val; omega
  | 1 => show 0 + 1 * (x 1).val = (x 1).val; omega

/-- The list a slot holds names rows of the table. -/
theorem list_in (I : S1x16384.Idx → Elt F .i32) (hI : ∀ j, (I j).toNat < 131072) (s : Fin 2) (n : Fin 128) (f : (bW s).view.ty.Contents (Elt F))
    (h : (bW s).view.read (Elt F) f = (gW n).view.read (Elt F) I) :
    ∀ x, ((lW s).view.read (Elt F) f x).toNat < S131072x128.size gathers_S131072x128_S128x128.axis := by
  intro x
  rw [lW_read, h, gW_read]
  exact hI _

/-- The gather along block `n`'s list leaves block `n` of the gathered rows. -/
theorem gather_eq (T : S131072x128.Idx → Elt F .f32) (I : S1x16384.Idx → Elt F .i32) (hI : ∀ j, (I j).toNat < 131072) (s : Fin 2) (n : Fin 128)
    (f : (bW s).view.ty.Contents (Elt F)) (h : (bW s).view.read (Elt F) f = (gW n).view.read (Elt F) I) (hn : S128.numel = S128x128.size gathers_S131072x128_S128x128.axis') (hin) :
    SparseCore.gatherPayload gathers_S131072x128_S128x128 (tA.view.read (Elt F) T) (SparseCore.rows ((lW s).view.read (Elt F) f) hn hin)
      = (rW n).view.read (Elt F) (G T I) := by
  funext x
  rw [rW_read]
  unfold SparseCore.gatherPayload G
  rw [tA_read]
  congr 1
  funext a
  apply Fin.ext
  match a with
  | 0 =>
    refine (congrArg Fin.val (Shape.Gathers.idx_axis gathers_S131072x128_S128x128 _ x)).trans ?_
    show ((lW s).view.read (Elt F) f (S128.rowMajor.symm ((x 0).cast _))).toNat = _
    rw [lW_read, h, gW_read]
    have e : ((S128.rowMajor.symm ((x 0).cast hn.symm)) 0).val = (x 0).val := rowMajor_list (x 0)
    unfold rowOf
    rw [Fin.val_ofNat, Nat.mod_eq_of_lt (hI _)]
    congr 2
    funext b
    apply Fin.ext
    match b with
    | 0 => rfl
    | 1 =>
      show n.val * 128 + ((S128.rowMajor.symm ((x 0).cast hn.symm)) 0).val = n.val * 128 + (x 0).val
      rw [e]
  | 1 => exact Shape.Gathers.idx_of_ne gathers_S131072x128_S128x128 _ x 1 (by decide)

end Cert.Proof.Sc

end

end
-- ==== Proof.Steps.lean ====
/-
  The gather call's transfers, one lemma each, at any offsets known to be a window's: an index fetch and its wait, the
  indirect gather and its wait, a write-out and its wait, each with the values it carries.
-/
module

public import proofs.«01_k».proof.Proof.Windows

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the proof's resource algebra -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the TensorCore call's staging rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-! ## A tile's windows, held -/

section Tile

variable (d : Dev nD) (L : grid0.Coords)

abbrev coreV (L : grid0.Coords) : Fin τ.nSC := (L 0).castLE hcore0
abbrev subV (L : grid0.Coords) : Fin τ.nSub := (L 1).castLE hsub0
abbrev thr (d : Dev nD) (L : grid0.Coords) : Thread nD τ := V d (coreV L) (subV L)

abbrev tLoc (d : Dev nD) : Loc nD τ sig := (SparseCore.T d).loc main_v0
abbrev iLoc (d : Dev nD) : Loc nD τ sig := (SparseCore.T d).loc main_v3
abbrev oLoc (d : Dev nD) : Loc nD τ sig := (SparseCore.T d).loc main_v4

variable (Tb : Buf (Elt F) (tLoc d)) (Ib : Buf (Elt F) (iLoc d))

abbrev bPts (s : Fin 2) (f : Buf (Elt F) ((bW s).view.loc (thr d L))) : sProp 𝕄 := (bW s).view.loc (thr d L) ↦[(bW s).view.set]{fullShare} f
abbrev cPts (s : Fin 2) (f : Buf (Elt F) ((cW s).view.loc (thr d L))) : sProp 𝕄 := (cW s).view.loc (thr d L) ↦[(cW s).view.set]{fullShare} f
abbrev gPts (n : Fin 128) : sProp 𝕄 := (gW n).view.loc (thr d L) ↦[(gW n).view.set]{fullShare} Ib
abbrev rPts (n : Fin 128) (f : Buf (Elt F) (oLoc d)) : sProp 𝕄 := (rW n).view.loc (thr d L) ↦[(rW n).view.set]{fullShare} f
abbrev tPts (q : PosShare TreeShare) : sProp 𝕄 := tA.view.loc (thr d L) ↦[tA.view.set]{q} Tb

/-- The gathered rows. -/
abbrev Gb : Buf (Elt F) (oLoc d) := G (F := F) Tb Ib

def bFree (s : Fin 2) : sProp 𝕄 := iprop(∃ f, bPts d L s f)
def cFree (s : Fin 2) : sProp 𝕄 := iprop(∃ f, cPts d L s f)
/-- Index slot `s` holds block `n` of the list. -/
def bFull (s : Fin 2) (n : Fin 128) : sProp 𝕄 :=
  iprop(∃ f, ⌜(bW s).view.read (Elt F) f = (gW n).view.read (Elt F) Ib⌝ ∗ bPts d L s f)
/-- Row slot `s` holds block `n` of the gathered rows. -/
def cFull (s : Fin 2) (n : Fin 128) : sProp 𝕄 :=
  iprop(∃ f, ⌜(cW s).view.read (Elt F) f = (rW n).view.read (Elt F) (Gb d Tb Ib)⌝ ∗ cPts d L s f)

abbrev sv (sm : DmaSem sig) : sProp 𝕄 := semVal (thr d L, SemLoc.dma sm) 0

/-- Block `n`'s index fetch into slot `s`, under way. -/
def inFl (s : Fin 2) (n : Fin 128) : sProp 𝕄 :=
  Transfers.Flight countersEmb (thr d L) (.dma (inSem s)) (default : HIx 1) (bW s).view.dmaCredit iprop(bFull d L Ib s n ∗ gPts d L Ib n)
/-- Block `n`'s write-out from slot `s`, under way. -/
def outFl (s : Fin 2) (n : Fin 128) : sProp 𝕄 :=
  Transfers.Flight countersEmb (thr d L) (.dma (outSem s)) (default : HIx 1) (rW n).view.dmaCredit iprop(rPts d L n (Gb d Tb Ib) ∗ cFree d L s)

/-- What the tile has waited for: nothing but its own transfers since it was started. -/
def owing (O : CellTallies nD τ sig (HIx 1)) (W : Waits sig (HIx 1)) : sProp 𝕄 :=
  iprop(∃ W', ⌜∀ p ∈ W', p ∈ W ∨ p.2 = none⌝ ∗ owes (thr d L) O W')

variable [FloatOps F] {α : Type}

/-- A tile's program runs to `Q`. -/
abbrev runs (p : Prog (TpuEff nD τ sig (Elt F) Λ₀ (thr d L).2) α) (Q : α → sProp 𝕄) : sProp 𝕄 :=
  wp frame (wpE (defs₀ (F := F)) 𝒱₀ (thr d L) none) Set.univ p Q

theorem wp_fetch (s : Fin 2) (n : Fin 128) {ob : Fin 3 → ℕ} {og : Fin 2 → ℕ} {os : Fin 1 → ℕ} {hb hg hs h1 h2 h3}
    {k : PUnit → Prog (TpuEff nD τ sig (Elt F) Λ₀ (thr d L).2) α} {Q : α → sProp 𝕄}
    (eb : ob = ![s.val, 0, 0]) (eg : og = ![0, n.val * 128]) (es : os = ![s.val]) :
    iprop(bFree d L s ∗ gPts d L Ib n ∗ sv d L (inSem s))
      ⊢ iprop((inFl d L Ib s n -∗ runs d L (k ⟨⟩) Q)
        -∗ runs d L (.op (.enqueueDma (iV.slice (Rect.unit (s := S1x16384) og S1x128.size hg) (fun _ => rfl))
            (.here ((bV.slice (Rect.unit (s := S2x1x128) ob S1x1x128.size hb) (fun _ => rfl)).squeeze S1x128 squeezes_S1x1x128_S1x128))
            (.dma ((cc0_scoped1.slice (Rect.unit (s := S2) os S1.size hs)).squeeze S_ squeezes_S1_S_).sem) h1 h2 h3) k) Q) := by
  subst eb eg es
  unfold bFree
  iintro ⟨⟨%f, Hb⟩, Hg, Hs⟩ Hk
  iapply (Transfers.wp_dmaLocal countersEmb 𝒱₀ (thr d L) none (default : HIx 1) (bW s).view.dmaCredit rfl (View.dmaCredit_pos _ (by decide)) subset_rfl) $$ [Hb Hg Hs]
  · isplitl [Hg]; · iexact Hg
    isplitl [Hb]; · iexact Hb
    iexact Hs
  iintro Hf
  iapply Hk
  unfold inFl
  refine Transfers.Flight_mono countersEmb (thr d L) ?_
  unfold bFull
  iintro ⟨Hb, Hg⟩
  isplitl [Hb]
  · iexists _; isplitr
    swap; · iexact Hb
    ipureintro
    exact View.read_write_univ _ _
  iexact Hg

theorem wp_fetched (s : Fin 2) (n : Fin 128) {ob : Fin 3 → ℕ} {og : Fin 2 → ℕ} {os : Fin 1 → ℕ} {hb hg hs h1 h2}
    {k : PUnit → Prog (TpuEff nD τ sig (Elt F) Λ₀ (thr d L).2) α} {Q : α → sProp 𝕄} {O : CellTallies nD τ sig (HIx 1)} {W : Waits sig (HIx 1)}
    (eb : ob = ![s.val, 0, 0]) (es : os = ![s.val]) :
    iprop(Transfers.MayWaits (thr d L) (default : HIx 1) O ∗ inFl d L Ib s n ∗ owing d L O W)
      ⊢ iprop((iprop(bFull d L Ib s n ∗ gPts d L Ib n ∗ sv d L (inSem s) ∗ owing d L O W) -∗ runs d L (k ⟨⟩) Q)
        -∗ runs d L (.op (.waitDma2 ((cc0_scoped1.slice (Rect.unit (s := S2) os S1.size hs)).squeeze S_ squeezes_S1_S_).sem
            (iV.slice (Rect.unit (s := S1x16384) og S1x128.size hg) (fun _ => rfl))
            ((bV.slice (Rect.unit (s := S2x1x128) ob S1x1x128.size hb) (fun _ => rfl)).squeeze S1x128 squeezes_S1x1x128_S1x128) h1 h2) k) Q) := by
  subst eb es
  unfold inFl owing
  iintro ⟨Hmw, Hf, %W', %hW', HO⟩ Hk
  iapply (Transfers.wp_waitLocalO countersEmb 𝒱₀ (thr d L) none (default : HIx 1) (N := (bW s).view.dmaCredit) rfl) $$ [Hmw Hf HO]
  · isplitl [Hf]; · iexact Hf
    isplitl [HO]; · iexact HO
    iapply (Transfers.MayWaits.elim (SemLoc.dma (inSem s))) $$ Hmw
  iintro ⟨⟨Hb, Hg⟩, Hs, HO⟩
  iapply Hk
  isplitl [Hb]; · iexact Hb
  isplitl [Hg]; · iexact Hg
  isplitl [Hs]; · iexact Hs
  iexists _; isplitr
  swap; · iexact HO
  ipureintro; intro p hp
  rcases Finset.mem_insert.mp hp with hp | hp
  · exact .inr (hp ▸ rfl)
  · exact hW' p hp

theorem wp_writeOut (s : Fin 2) (n : Fin 128) {oc : Fin 3 → ℕ} {og : Fin 2 → ℕ} {os : Fin 1 → ℕ} {hc hg hs h1 h2 h3}
    {k : PUnit → Prog (TpuEff nD τ sig (Elt F) Λ₀ (thr d L).2) α} {Q : α → sProp 𝕄}
    (ec : oc = ![s.val, 0, 0]) (eg : og = ![n.val * 128, 0]) (es : os = ![s.val]) :
    iprop(cFull d L Tb Ib s n ∗ (∃ f, rPts d L n f) ∗ sv d L (outSem s))
      ⊢ iprop((outFl d L Tb Ib s n -∗ runs d L (k ⟨⟩) Q)
        -∗ runs d L (.op (.enqueueDma ((cV.slice (Rect.unit (s := S2x128x128) oc S1x128x128.size hc) (fun _ => rfl)).squeeze S128x128 squeezes_S1x128x128_S128x128)
            (.here (oV.slice (Rect.unit (s := S16384x128) og S128x128.size hg) (fun _ => rfl)))
            (.dma ((cc0_scoped3.slice (Rect.unit (s := S2) os S1.size hs)).squeeze S_ squeezes_S1_S_).sem) h1 h2 h3) k) Q) := by
  subst ec eg es
  unfold cFull
  iintro ⟨⟨%f, %hf, Hc⟩, ⟨%g, Hr⟩, Hs⟩ Hk
  iapply (Transfers.wp_dmaLocal countersEmb 𝒱₀ (thr d L) none (default : HIx 1) (rW n).view.dmaCredit rfl (View.dmaCredit_pos _ (by decide)) subset_rfl) $$ [Hc Hr Hs]
  · isplitl [Hc]; · iexact Hc
    isplitl [Hr]; · iexact Hr
    iexact Hs
  iintro Hf
  iapply Hk
  unfold outFl
  iapply (Transfers.Flight_mono countersEmb (thr d L) (D' := iprop(rPts d L n (Gb d Tb Ib) ∗ cFree d L s)) ?_) $$ Hf
  unfold cFree
  iintro ⟨Hr, Hc⟩
  isplitl [Hr]
  · iapply (Entails.of_eq (pointsTo_congr (fun i hi => ?_))) $$ Hr
    obtain ⟨x, -, rfl⟩ := Finset.mem_map.mp hi
    refine (View.write_emb_of_mem _ _ (Finset.mem_univ x)).trans ?_
    refine (cast_eq _ _).trans ((congrFun hf x).trans ?_)
    exact (View.read_apply _ _).trans (cast_eq _ _)
  iexists _; iexact Hc

theorem wp_writtenOut (s : Fin 2) (n : Fin 128) {oc : Fin 3 → ℕ} {og : Fin 2 → ℕ} {os : Fin 1 → ℕ} {hc hg hs h1 h2}
    {k : PUnit → Prog (TpuEff nD τ sig (Elt F) Λ₀ (thr d L).2) α} {Q : α → sProp 𝕄} {O : CellTallies nD τ sig (HIx 1)} {W : Waits sig (HIx 1)}
    (eg : og = ![n.val * 128, 0]) (es : os = ![s.val]) :
    iprop(Transfers.MayWaits (thr d L) (default : HIx 1) O ∗ outFl d L Tb Ib s n ∗ owing d L O W)
      ⊢ iprop((iprop(rPts d L n (Gb d Tb Ib) ∗ cFree d L s ∗ sv d L (outSem s) ∗ owing d L O W) -∗ runs d L (k ⟨⟩) Q)
        -∗ runs d L (.op (.waitDma2 ((cc0_scoped3.slice (Rect.unit (s := S2) os S1.size hs)).squeeze S_ squeezes_S1_S_).sem
            ((cV.slice (Rect.unit (s := S2x128x128) oc S1x128x128.size hc) (fun _ => rfl)).squeeze S128x128 squeezes_S1x128x128_S128x128)
            (oV.slice (Rect.unit (s := S16384x128) og S128x128.size hg) (fun _ => rfl)) h1 h2) k) Q) := by
  subst eg es
  unfold outFl owing
  iintro ⟨Hmw, Hf, %W', %hW', HO⟩ Hk
  iapply (Transfers.wp_waitLocalO countersEmb 𝒱₀ (thr d L) none (default : HIx 1) (N := (rW n).view.dmaCredit) rfl) $$ [Hmw Hf HO]
  · isplitl [Hf]; · iexact Hf
    isplitl [HO]; · iexact HO
    iapply (Transfers.MayWaits.elim (SemLoc.dma (outSem s))) $$ Hmw
  iintro ⟨⟨Hr, Hc⟩, Hs, HO⟩
  iapply Hk
  isplitl [Hr]; · iexact Hr
  isplitl [Hc]; · iexact Hc
  isplitl [Hs]; · iexact Hs
  iexists _; isplitr
  swap; · iexact HO
  ipureintro; intro p hp
  rcases Finset.mem_insert.mp hp with hp | hp
  · exact .inr (hp ▸ rfl)
  · exact hW' p hp

/-- The indirect gather and its wait: from slot `s`'s list of block `n`, row slot `s'` filled with block `n` of the gathered rows. -/
theorem wp_gather (hI : ∀ j, (Ib j).toNat < 131072) (s s' : Fin 2) (n : Fin 128) (q : PosShare TreeShare) {ob oc oc' : Fin 3 → ℕ} {hb hc hc' ht ht' hl hn h1 h2 h3 h4 h5 h6 h7}
    {k : PUnit → Prog (TpuEff nD τ sig (Elt F) Λ₀ (thr d L).2) α} {Q : α → sProp 𝕄} {O : CellTallies nD τ sig (HIx 1)} {W : Waits sig (HIx 1)}
    (eb : ob = ![s.val, 0, 0]) (ec : oc = ![s'.val, 0, 0]) (ec' : oc' = ![s'.val, 0, 0]) :
    iprop(Transfers.MayWaits (thr d L) (default : HIx 1) O ∗ bFull d L Ib s n ∗ cFree d L s' ∗ tPts d L Tb q ∗ sv d L gSem ∗ owing d L O W)
      ⊢ iprop((iprop(bFree d L s ∗ cFull d L Tb Ib s' n ∗ tPts d L Tb q ∗ sv d L gSem ∗ owing d L O W) -∗ runs d L (k ⟨⟩) Q)
        -∗ runs d L (SparseCore.enqueueIndirectGather h1 (tV.slice (Rect.unit (s := S131072x128) ![0, 0] S131072x128.size ht) (fun _ => rfl))
            ((cV.slice (Rect.unit (s := S2x128x128) oc S1x128x128.size hc) (fun _ => rfl)).squeeze S128x128 squeezes_S1x128x128_S128x128)
            gathers_S131072x128_S128x128
            ((((bV.slice (Rect.unit (s := S2x1x128) ob S1x1x128.size hb) (fun _ => rfl)).squeeze S1x128 squeezes_S1x1x128_S1x128).slice
              (Rect.unit (s := S1x128) ![0, 0] S1x128.size hl) (fun _ => rfl)).squeeze S128 squeezes_S1x128_S128)
            hn cc0_scoped4.sem h2 h3 h4 h5 >>= fun _ =>
          SparseCore.waitIndirectGather cc0_scoped4.sem (tV.slice (Rect.unit (s := S131072x128) ![0, 0] S131072x128.size ht') (fun _ => rfl))
            ((cV.slice (Rect.unit (s := S2x128x128) oc' S1x128x128.size hc') (fun _ => rfl)).squeeze S128x128 squeezes_S1x128x128_S128x128) h6 h7 >>= k) Q) := by
  subst eb ec ec'
  unfold bFull cFree owing
  iintro ⟨Hmw, ⟨%fo, %hfo, Hb⟩, ⟨%fc, Hc⟩, Ht, Hs, %W', %hW', HO⟩ Hk
  have hl : (lW s).view.set = (bW s).view.set := by
    show (((bW s).view.slice (Rect.unit (s := S1x128) ![0, 0] S1x128.size inb_S1x128_S1x128_0_0)).reshape S128 squeezes_S1x128_S128.numel_eq).set = _
    rw [View.set_reshape, View.set_slice,
      show (Rect.unit (s := S1x128) ![0, 0] S1x128.size inb_S1x128_S1x128_0_0).set = Finset.univ from by decide +kernel]
    rfl
  have hN : ∀ h : S131072x128.Gathers 0 S128x128, ∑ j, ((cW s').slice (S128x128.rowRect h.axis' j) (S128x128.stride_rowRect h.axis' j)).view.dmaCredit
      = (cW s').view.dmaCredit := by
    intro h; exact SparseCore.sum_rowCredit_eq_dmaCredit _ _ (by intros; rfl)
  iapply (SparseCore.wp_indirectGatherLocal countersEmb 𝒱₀ (thr d L) none (hg := gathers_S131072x128_S128x128) (default : HIx 1)
      (cW s').view.dmaCredit (hN _) (by decide) (list_in Ib hI s n fo hfo)) $$ [Hb Hc Ht Hs]
  · isplitl [Ht]; · iexact Ht
    isplitl [Hc]; · iexact Hc
    isplitl [Hb]; · rw [hl]; iexact Hb
    iexact Hs
  iintro Hf
  iapply (Transfers.wp_waitLocalO countersEmb 𝒱₀ (thr d L) none (default : HIx 1) (N := (cW s').view.dmaCredit) rfl) $$ [Hmw Hf HO]
  · isplitl [Hf]; · iexact Hf
    isplitl [HO]; · iexact HO
    iapply (Transfers.MayWaits.elim (SemLoc.dma gSem)) $$ Hmw
  iintro ⟨⟨Hc, Ht, Hb⟩, Hs, HO⟩
  iapply Hk
  isplitl [Hb]
  · unfold bFree; iexists fo; rw [hl]; iexact Hb
  isplitl [Hc]
  · unfold cFull
    iexists _; isplitr
    swap; · iexact Hc
    ipureintro
    rw [View.read_write_univ]
    exact gather_eq Tb Ib hI s n fo hfo _ _
  isplitl [Ht]; · iexact Ht
  isplitl [Hs]; · iexact Hs
  iexists _; isplitr
  swap; · iexact HO
  ipureintro; intro p hp
  rcases Finset.mem_insert.mp hp with hp | hp
  · exact .inr (hp ▸ rfl)
  · exact hW' p hp

end Tile

end Cert.Proof.Sc

end

end
-- ==== Proof.Trip.lean ====
/-
  One trip of the gather call's pipelined loop, at any tile and any trip: the next block's indices fetched, this block's
  gathered and begun writing out, the previous block's write-out waited for.
-/
module

public import proofs.«01_k».proof.Proof.Steps

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Slots, blocks, and which blocks are held -/

/-- The slot of trip `k`. -/
def sl (k : ℕ) : Fin 2 := ⟨k % 2, Nat.mod_lt _ (by decide)⟩
theorem sl_two (k : ℕ) : sl (k + 1 + 1) = sl k := Fin.ext (by show (k + 1 + 1) % 2 = k % 2; omega)
/-- The number of block `t` of a tile. -/
def blk (L : grid0.Coords) (t : Fin 4) : Fin 128 := ⟨4 * wid L + t.val, by have h := wid_lt L; have := t.isLt; omega⟩

/-- The index blocks a tile holds at trip `k`: all but the one being fetched. -/
def iSet (k : ℕ) : Finset (Fin 4) := Finset.univ.filter fun t => t.val ≠ k
/-- The result blocks not yet begun, and those done. -/
def rawSet (k : ℕ) : Finset (Fin 4) := Finset.univ.filter fun t => k ≤ t.val
def doneSet (k : ℕ) : Finset (Fin 4) := Finset.univ.filter fun t => t.val + 1 < k

theorem mem_iSet : ∀ k : Fin 4, ∀ h : k.val + 1 < 4, (⟨k.val + 1, h⟩ : Fin 4) ∈ iSet k.val := by decide +kernel
theorem iSet_succ : ∀ k : Fin 4, ∀ h : k.val + 1 < 4, insert k ((iSet k.val).erase ⟨k.val + 1, h⟩) = iSet (k.val + 1) := by decide +kernel
theorem notMem_iSet : ∀ k : Fin 4, ∀ h : k.val + 1 < 4, k ∉ (iSet k.val).erase ⟨k.val + 1, h⟩ := by decide +kernel
theorem iSet_last : insert (3 : Fin 4) (iSet 3) = iSet 4 := by decide +kernel
theorem notMem_iSet_last : (3 : Fin 4) ∉ iSet 3 := by decide +kernel
theorem mem_rawSet : ∀ k : Fin 4, k ∈ rawSet k.val := by decide +kernel
theorem rawSet_succ : ∀ k : Fin 4, (rawSet k.val).erase k = rawSet (k.val + 1) := by decide +kernel
theorem doneSet_succ : ∀ k : Fin 4, ∀ h : 0 < k.val, insert (⟨k.val - 1, by omega⟩ : Fin 4) (doneSet k.val) = doneSet (k.val + 1) := by decide +kernel
theorem notMem_doneSet : ∀ k : Fin 4, ∀ h : 0 < k.val, (⟨k.val - 1, by omega⟩ : Fin 4) ∉ doneSet k.val := by decide +kernel

section Tile

variable (d : Dev nD) (L : grid0.Coords) (Tb : Buf (Elt F) (tLoc d)) (Ib : Buf (Elt F) (iLoc d)) (q : PosShare TreeShare)
variable (O : CellTallies nD τ sig (HIx 1)) (W : Waits sig (HIx 1))

/-- The index slot of trip `k`: its block on the way, or nothing to fetch. -/
def sIn (k : ℕ) : sProp 𝕄 :=
  if h : k < 4 then inFl d L Ib (sl k) (blk L ⟨k, h⟩) else iprop(bFree d L (sl k) ∗ sv d L (inSem (sl k)))
/-- The other row slot at trip `k`: the previous block on its way out, or nothing. -/
def sOut (k : ℕ) : sProp 𝕄 :=
  if h : 0 < k ∧ k ≤ 4 then outFl d L Tb Ib (sl (k + 1)) (blk L ⟨k - 1, by omega⟩) else iprop(cFree d L (sl (k + 1)) ∗ sv d L (outSem (sl (k + 1))))

abbrev gAll (s : Finset (Fin 4)) : sProp 𝕄 := bigSep s fun t => gPts d L Ib (blk L t)
abbrev rawAll (s : Finset (Fin 4)) : sProp 𝕄 := bigSep s fun t => iprop(∃ f, rPts (F := F) d L (blk L t) f)
abbrev doneAll (s : Finset (Fin 4)) : sProp 𝕄 := bigSep s fun t => rPts d L (blk L t) (Gb d Tb Ib)

/-- What a tile holds at trip `k`. -/
def holds (k : ℕ) : sProp 𝕄 :=
  iprop(owing d L O W ∗ tPts d L Tb q ∗ sv d L gSem
    ∗ sIn d L Ib k ∗ (bFree d L (sl (k + 1)) ∗ sv d L (inSem (sl (k + 1))))
    ∗ sOut d L Tb Ib k ∗ (cFree d L (sl k) ∗ sv d L (outSem (sl k)))
    ∗ gAll d L Ib (iSet k) ∗ rawAll d L (rawSet k) ∗ doneAll d L Tb Ib (doneSet k))

def inv (k : ℕ) (a : BitVec 32 × BitVec 32 × BitVec 32 × BitVec 32 × BitVec 32) : sProp 𝕄 :=
  iprop(⌜a = A k⌝ ∗ holds d L Tb Ib q O W k)

/-! ## The pieces a trip moves from one set to another -/

theorem sIn_lt (k : ℕ) (h : k < 4) : sIn d L Ib k = inFl d L Ib (sl k) (blk L ⟨k, h⟩) := dif_pos h
theorem sIn_four : sIn d L Ib 4 = iprop(bFree d L (sl 4) ∗ sv d L (inSem (sl 4))) := dif_neg (by decide)
theorem sOut_zero : sOut d L Tb Ib 0 = iprop(cFree d L (sl 1) ∗ sv d L (outSem (sl 1))) := dif_neg (by decide)
theorem sOut_pos (k : ℕ) (h0 : 0 < k) (h : k ≤ 4) : sOut d L Tb Ib k = outFl d L Tb Ib (sl (k + 1)) (blk L ⟨k - 1, by omega⟩) := dif_pos ⟨h0, h⟩
theorem sOut_succ (k : ℕ) (h : k < 4) : sOut d L Tb Ib (k + 1) = outFl d L Tb Ib (sl k) (blk L ⟨k, h⟩) := by
  rw [sOut_pos d L Tb Ib (k + 1) (Nat.succ_pos _) h, sl_two]; rfl

theorem gAll_next (k : Fin 4) (h : k.val + 1 < 4) :
    gAll d L Ib (iSet k.val) ⊢ iprop(gPts d L Ib (blk L ⟨k.val + 1, h⟩) ∗ (gPts d L Ib (blk L k) -∗ gAll d L Ib (iSet (k.val + 1)))) := by
  unfold gAll
  rw [SparseCore.bigSep_erase' (mem_iSet k h), ← iSet_succ k h, SparseCore.bigSep_insert' (notMem_iSet k h)]
  iintro ⟨Hn, Hr⟩
  isplitl [Hn]; · iexact Hn
  iintro Hk
  isplitl [Hk]; · iexact Hk
  iexact Hr

theorem gAll_last : iprop(gAll d L Ib (iSet 3) ∗ gPts d L Ib (blk L 3)) ⊢ gAll d L Ib (iSet 4) := by
  unfold gAll
  rw [← iSet_last, SparseCore.bigSep_insert' notMem_iSet_last]
  iintro ⟨Hr, Hk⟩
  isplitl [Hk]; · iexact Hk
  iexact Hr

theorem rawAll_next (k : Fin 4) :
    rawAll (F := F) d L (rawSet k.val) ⊢ iprop((∃ f, rPts (F := F) d L (blk L k) f) ∗ rawAll (F := F) d L (rawSet (k.val + 1))) := by
  unfold rawAll
  rw [SparseCore.bigSep_erase' (mem_rawSet k), rawSet_succ k]

theorem doneAll_next (k : Fin 4) (h : 0 < k.val) :
    iprop(doneAll d L Tb Ib (doneSet k.val) ∗ rPts d L (blk L ⟨k.val - 1, by omega⟩) (Gb d Tb Ib)) ⊢ doneAll d L Tb Ib (doneSet (k.val + 1)) := by
  unfold doneAll
  rw [← doneSet_succ k h, SparseCore.bigSep_insert' (notMem_doneSet k h)]
  iintro ⟨Hr, Hk⟩
  isplitl [Hk]; · iexact Hk
  iexact Hr

theorem gAll_at_last (k : ℕ) (hk : k = 3) : iprop(gAll d L Ib (iSet k) ∗ gPts d L Ib (blk L ⟨k, by omega⟩)) ⊢ gAll d L Ib (iSet (k + 1)) := by
  subst hk; exact gAll_last d L Ib

theorem doneSet_one : doneSet 1 = doneSet 0 := by decide +kernel

variable [FloatOps F]

theorem runs_ret {α : Type} (a : α) (Q : α → sProp 𝕄) : Q a ⊢ runs d L (.ret a) Q := by
  show Q a ⊢ wp _ _ _ _ _
  rw [wp_ret]; exact BI.fupd_intro

set_option maxHeartbeats 4000000 in
theorem trip_mid (hI : ∀ j, (Ib j).toNat < 131072) (k : Fin k0_t1_loop.trips) (hk : k.val < 3) (hk0 : 0 < k.val) :
    iprop(Transfers.MayWaits (thr d L) (default : HIx 1) O ∗ holds d L Tb Ib q O W k.val)
      ⊢ runs d L (k0_t1_body L tV (Memref.isWhole_whole _) iV (Memref.isWhole_whole _) oV (Memref.isWhole_whole _) bV (Memref.isWhole_whole _)
          cc0_scoped1 cV (Memref.isWhole_whole _) cc0_scoped3 cc0_scoped4 (first L) k (a6 k.val, a7 k.val, a8 k.val, a9 k.val, a10 k.val))
        (inv d L Tb Ib q O W (k.val + 1)) := by
  have hk4 : k.val < 4 := lt_of_lt_of_eq k.isLt trips_eq
  have h1 := (cond1_A L k).mpr hk
  have h7 := (cond7_A L k).mpr hk0
  unfold k0_t1_body
  simp only [k0_part1_eq_skeleton, k0_part2_eq_skeleton]
  unfold k0_part1_skel k0_part2_skel
  simp only [Prog.lift, Prog.bind_op, Prog.bind_ret, Prog.pure_eq_ret, Prog.bind_assoc, ite_self, dif_pos h1, dif_pos h7, dif_pos (cond2_A L k), dif_pos (cond5_A L k)]
  unfold holds
  rw [sIn_lt d L Ib k.val hk4, sOut_pos d L Tb Ib k.val hk0 hk4.le]
  iintro ⟨#Hmw, HO, Ht, HsG, Hin, ⟨Hb, Hsb⟩, Hout, ⟨Hc, Hsc⟩, Hg, Hraw, Hdone⟩
  iapply (wp_assume 𝒱₀ (thr d L) none Set.univ (chk3_A k))
  iapply (wp_assume 𝒱₀ (thr d L) none Set.univ (chk2_A k))
  iapply (wp_assume 𝒱₀ (thr d L) none Set.univ (chk1_A L k))
  ihave ⟨Hgn, Hg⟩ := (gAll_next d L Ib ⟨k.val, hk4⟩ (by show k.val + 1 < 4; omega)) $$ Hg
  iapply (wp_fetch d L Ib (sl (k.val + 1)) (blk L ⟨k.val + 1, by omega⟩) (off4_A k hk) (off5_A L k hk) (off6_A k hk)) $$ [Hb Hgn Hsb]
  · isplitl [Hb]; · iexact Hb
    isplitl [Hgn]; · iexact Hgn
    iexact Hsb
  iintro Hin'
  iapply (wp_fetched d L Ib (sl k.val) (blk L ⟨k.val, hk4⟩) (off7_A k) (off9_A k)) $$ [Hin HO]
  · isplitr; · iexact Hmw
    isplitl [Hin]; · iexact Hin
    iexact HO
  iintro ⟨Hbk, Hgk, Hsk, HO⟩
  iapply (wp_gather d L Tb Ib hI (sl k.val) (sl k.val) (blk L ⟨k.val, hk4⟩) q (off11_A k) (off10_A k) (off10_A k)) $$ [Hbk Hc Ht HsG HO]
  · isplitr; · iexact Hmw
    isplitl [Hbk]; · iexact Hbk
    isplitl [Hc]; · iexact Hc
    isplitl [Ht]; · iexact Ht
    isplitl [HsG]; · iexact HsG
    iexact HO
  iintro ⟨Hbk, Hck, Ht, HsG, HO⟩
  ihave ⟨Hrk, Hraw⟩ := (rawAll_next d L ⟨k.val, hk4⟩) $$ Hraw
  iapply (wp_writeOut d L Tb Ib (sl k.val) (blk L ⟨k.val, hk4⟩) (off12_A k) (off13_A L k) (off14_A k)) $$ [Hck Hrk Hsc]
  · isplitl [Hck]; · iexact Hck
    isplitl [Hrk]; · iexact Hrk
    iexact Hsc
  iintro Hnew
  iapply (wp_writtenOut d L Tb Ib (sl (k.val + 1)) (blk L ⟨k.val - 1, by omega⟩) (off16_A L k hk0) (off17_A k hk0)) $$ [Hout HO]
  · isplitr; · iexact Hmw
    isplitl [Hout]; · iexact Hout
    iexact HO
  iintro ⟨Hrd, Hc', Hs', HO⟩
  ihave Hdone := (doneAll_next d L Tb Ib ⟨k.val, hk4⟩ hk0) $$ [Hdone Hrd]
  · isplitl [Hdone]; · iexact Hdone
    iexact Hrd
  ihave Hg := Hg $$ Hgk
  iapply (runs_ret d L)
  unfold inv holds
  isplitr
  · ipureintro; exact step_A L k
  rw [sIn_lt d L Ib (k.val + 1) (by omega), sOut_succ d L Tb Ib k.val hk4, sl_two]
  isplitl [HO]; · iexact HO
  isplitl [Ht]; · iexact Ht
  isplitl [HsG]; · iexact HsG
  isplitl [Hin']; · iexact Hin'
  isplitl [Hbk Hsk]
  · isplitl [Hbk]; · iexact Hbk
    iexact Hsk
  isplitl [Hnew]; · iexact Hnew
  isplitl [Hc' Hs']
  · isplitl [Hc']; · iexact Hc'
    iexact Hs'
  isplitl [Hg]; · iexact Hg
  isplitl [Hraw]; · iexact Hraw
  iexact Hdone

set_option maxHeartbeats 4000000 in
theorem trip_first (hI : ∀ j, (Ib j).toNat < 131072) (k : Fin k0_t1_loop.trips) (hk0 : k.val = 0) :
    iprop(Transfers.MayWaits (thr d L) (default : HIx 1) O ∗ holds d L Tb Ib q O W k.val)
      ⊢ runs d L (k0_t1_body L tV (Memref.isWhole_whole _) iV (Memref.isWhole_whole _) oV (Memref.isWhole_whole _) bV (Memref.isWhole_whole _)
          cc0_scoped1 cV (Memref.isWhole_whole _) cc0_scoped3 cc0_scoped4 (first L) k (a6 k.val, a7 k.val, a8 k.val, a9 k.val, a10 k.val))
        (inv d L Tb Ib q O W (k.val + 1)) := by
  have hk4 : k.val < 4 := lt_of_lt_of_eq k.isLt trips_eq
  have hk : k.val < 3 := by omega
  have h1 := (cond1_A L k).mpr hk
  have h7 : ¬ k0_cond7 L k (a10 k.val) = 1#1 := fun h => absurd ((cond7_A L k).mp h) (by omega)
  unfold k0_t1_body
  simp only [k0_part1_eq_skeleton, k0_part2_eq_skeleton]
  unfold k0_part1_skel k0_part2_skel
  simp only [Prog.lift, Prog.bind_op, Prog.bind_ret, Prog.pure_eq_ret, Prog.bind_assoc, ite_self, dif_pos h1, dif_neg h7, dif_pos (cond2_A L k), dif_pos (cond5_A L k)]
  unfold holds
  rw [sIn_lt d L Ib k.val hk4, show sOut d L Tb Ib k.val = iprop(cFree d L (sl (k.val + 1)) ∗ sv d L (outSem (sl (k.val + 1)))) by rw [hk0]; exact sOut_zero d L Tb Ib,
    show doneSet k.val = doneSet (k.val + 1) by rw [hk0]; exact doneSet_one.symm]
  iintro ⟨#Hmw, HO, Ht, HsG, Hin, ⟨Hb, Hsb⟩, ⟨Hc', Hs'⟩, ⟨Hc, Hsc⟩, Hg, Hraw, Hdone⟩
  iapply (wp_assume 𝒱₀ (thr d L) none Set.univ (chk3_A k))
  iapply (wp_assume 𝒱₀ (thr d L) none Set.univ (chk2_A k))
  iapply (wp_assume 𝒱₀ (thr d L) none Set.univ (chk1_A L k))
  ihave ⟨Hgn, Hg⟩ := (gAll_next d L Ib ⟨k.val, hk4⟩ (by show k.val + 1 < 4; omega)) $$ Hg
  iapply (wp_fetch d L Ib (sl (k.val + 1)) (blk L ⟨k.val + 1, by omega⟩) (off4_A k hk) (off5_A L k hk) (off6_A k hk)) $$ [Hb Hgn Hsb]
  · isplitl [Hb]; · iexact Hb
    isplitl [Hgn]; · iexact Hgn
    iexact Hsb
  iintro Hin'
  iapply (wp_fetched d L Ib (sl k.val) (blk L ⟨k.val, hk4⟩) (off7_A k) (off9_A k)) $$ [Hin HO]
  · isplitr; · iexact Hmw
    isplitl [Hin]; · iexact Hin
    iexact HO
  iintro ⟨Hbk, Hgk, Hsk, HO⟩
  iapply (wp_gather d L Tb Ib hI (sl k.val) (sl k.val) (blk L ⟨k.val, hk4⟩) q (off11_A k) (off10_A k) (off10_A k)) $$ [Hbk Hc Ht HsG HO]
  · isplitr; · iexact Hmw
    isplitl [Hbk]; · iexact Hbk
    isplitl [Hc]; · iexact Hc
    isplitl [Ht]; · iexact Ht
    isplitl [HsG]; · iexact HsG
    iexact HO
  iintro ⟨Hbk, Hck, Ht, HsG, HO⟩
  ihave ⟨Hrk, Hraw⟩ := (rawAll_next d L ⟨k.val, hk4⟩) $$ Hraw
  iapply (wp_writeOut d L Tb Ib (sl k.val) (blk L ⟨k.val, hk4⟩) (off12_A k) (off13_A L k) (off14_A k)) $$ [Hck Hrk Hsc]
  · isplitl [Hck]; · iexact Hck
    isplitl [Hrk]; · iexact Hrk
    iexact Hsc
  iintro Hnew
  ihave Hg := Hg $$ Hgk
  iapply (runs_ret d L)
  unfold inv holds
  isplitr
  · ipureintro; exact step_A L k
  rw [sIn_lt d L Ib (k.val + 1) (by omega), sOut_succ d L Tb Ib k.val hk4, sl_two]
  isplitl [HO]; · iexact HO
  isplitl [Ht]; · iexact Ht
  isplitl [HsG]; · iexact HsG
  isplitl [Hin']; · iexact Hin'
  isplitl [Hbk Hsk]
  · isplitl [Hbk]; · iexact Hbk
    iexact Hsk
  isplitl [Hnew]; · iexact Hnew
  isplitl [Hc' Hs']
  · isplitl [Hc']; · iexact Hc'
    iexact Hs'
  isplitl [Hg]; · iexact Hg
  isplitl [Hraw]; · iexact Hraw
  iexact Hdone

set_option maxHeartbeats 4000000 in
theorem trip_last (hI : ∀ j, (Ib j).toNat < 131072) (k : Fin k0_t1_loop.trips) (hk3 : k.val = 3) :
    iprop(Transfers.MayWaits (thr d L) (default : HIx 1) O ∗ holds d L Tb Ib q O W k.val)
      ⊢ runs d L (k0_t1_body L tV (Memref.isWhole_whole _) iV (Memref.isWhole_whole _) oV (Memref.isWhole_whole _) bV (Memref.isWhole_whole _)
          cc0_scoped1 cV (Memref.isWhole_whole _) cc0_scoped3 cc0_scoped4 (first L) k (a6 k.val, a7 k.val, a8 k.val, a9 k.val, a10 k.val))
        (inv d L Tb Ib q O W (k.val + 1)) := by
  have hk4 : k.val < 4 := lt_of_lt_of_eq k.isLt trips_eq
  have hk0 : 0 < k.val := by omega
  have h1 : ¬ k0_cond1 L k (a10 k.val) = 1#1 := fun h => absurd ((cond1_A L k).mp h) (by omega)
  have h7 := (cond7_A L k).mpr hk0
  unfold k0_t1_body
  simp only [k0_part1_eq_skeleton, k0_part2_eq_skeleton]
  unfold k0_part1_skel k0_part2_skel
  simp only [Prog.lift, Prog.bind_op, Prog.bind_ret, Prog.pure_eq_ret, Prog.bind_assoc, ite_self, dif_neg h1, dif_pos h7, dif_pos (cond2_A L k), dif_pos (cond5_A L k)]
  unfold holds
  rw [sIn_lt d L Ib k.val hk4, sOut_pos d L Tb Ib k.val hk0 hk4.le]
  iintro ⟨#Hmw, HO, Ht, HsG, Hin, ⟨Hb, Hsb⟩, Hout, ⟨Hc, Hsc⟩, Hg, Hraw, Hdone⟩
  iapply (wp_assume 𝒱₀ (thr d L) none Set.univ (chk3_A k))
  iapply (wp_assume 𝒱₀ (thr d L) none Set.univ (chk2_A k))
  iapply (wp_assume 𝒱₀ (thr d L) none Set.univ (chk1_A L k))
  iapply (wp_fetched d L Ib (sl k.val) (blk L ⟨k.val, hk4⟩) (off7_A k) (off9_A k)) $$ [Hin HO]
  · isplitr; · iexact Hmw
    isplitl [Hin]; · iexact Hin
    iexact HO
  iintro ⟨Hbk, Hgk, Hsk, HO⟩
  iapply (wp_gather d L Tb Ib hI (sl k.val) (sl k.val) (blk L ⟨k.val, hk4⟩) q (off11_A k) (off10_A k) (off10_A k)) $$ [Hbk Hc Ht HsG HO]
  · isplitr; · iexact Hmw
    isplitl [Hbk]; · iexact Hbk
    isplitl [Hc]; · iexact Hc
    isplitl [Ht]; · iexact Ht
    isplitl [HsG]; · iexact HsG
    iexact HO
  iintro ⟨Hbk, Hck, Ht, HsG, HO⟩
  ihave ⟨Hrk, Hraw⟩ := (rawAll_next d L ⟨k.val, hk4⟩) $$ Hraw
  iapply (wp_writeOut d L Tb Ib (sl k.val) (blk L ⟨k.val, hk4⟩) (off12_A k) (off13_A L k) (off14_A k)) $$ [Hck Hrk Hsc]
  · isplitl [Hck]; · iexact Hck
    isplitl [Hrk]; · iexact Hrk
    iexact Hsc
  iintro Hnew
  iapply (wp_writtenOut d L Tb Ib (sl (k.val + 1)) (blk L ⟨k.val - 1, by omega⟩) (off16_A L k hk0) (off17_A k hk0)) $$ [Hout HO]
  · isplitr; · iexact Hmw
    isplitl [Hout]; · iexact Hout
    iexact HO
  iintro ⟨Hrd, Hc', Hs', HO⟩
  ihave Hdone := (doneAll_next d L Tb Ib ⟨k.val, hk4⟩ hk0) $$ [Hdone Hrd]
  · isplitl [Hdone]; · iexact Hdone
    iexact Hrd
  ihave Hg := (gAll_at_last d L Ib k.val hk3) $$ [Hg Hgk]
  · isplitl [Hg]; · iexact Hg
    iexact Hgk
  iapply (runs_ret d L)
  unfold inv holds
  isplitr
  · ipureintro; exact step_A L k
  rw [show sIn d L Ib (k.val + 1) = iprop(bFree d L (sl (k.val + 1)) ∗ sv d L (inSem (sl (k.val + 1)))) by rw [hk3]; exact sIn_four d L Ib, sOut_succ d L Tb Ib k.val hk4, sl_two]
  isplitl [HO]; · iexact HO
  isplitl [Ht]; · iexact Ht
  isplitl [HsG]; · iexact HsG
  isplitl [Hb Hsb]
  · isplitl [Hb]; · iexact Hb
    iexact Hsb
  isplitl [Hbk Hsk]
  · isplitl [Hbk]; · iexact Hbk
    iexact Hsk
  isplitl [Hnew]; · iexact Hnew
  isplitl [Hc' Hs']
  · isplitl [Hc']; · iexact Hc'
    iexact Hs'
  isplitl [Hg]; · iexact Hg
  isplitl [Hraw]; · iexact Hraw
  iexact Hdone

/-- A trip of the loop, at any tile and any trip. -/
theorem trip (hI : ∀ j, (Ib j).toNat < 131072) (k : Fin k0_t1_loop.trips) :
    iprop(Transfers.MayWaits (thr d L) (default : HIx 1) O ∗ holds d L Tb Ib q O W k.val)
      ⊢ runs d L (k0_t1_body L tV (Memref.isWhole_whole _) iV (Memref.isWhole_whole _) oV (Memref.isWhole_whole _) bV (Memref.isWhole_whole _)
          cc0_scoped1 cV (Memref.isWhole_whole _) cc0_scoped3 cc0_scoped4 (first L) k (a6 k.val, a7 k.val, a8 k.val, a9 k.val, a10 k.val))
        (inv d L Tb Ib q O W (k.val + 1)) := by
  have hk4 : k.val < 4 := lt_of_lt_of_eq k.isLt trips_eq
  rcases Nat.eq_zero_or_pos k.val with h0 | h0
  · exact trip_first d L Tb Ib q O W hI k h0
  rcases Nat.lt_or_ge k.val 3 with h3 | h3
  · exact trip_mid d L Tb Ib q O W hI k h3 h0
  · exact trip_last d L Tb Ib q O W hI k (by omega)

end Tile

end Cert.Proof.Sc

end

end
-- ==== Proof.Tile.lean ====
/-
  The gather call's task, at any SparseCore and tile: its four blocks of the result are filled with the rows the index
  list names.
-/
module

public import proofs.«01_k».proof.Proof.Trip

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The windows' sets, as parts -/

theorem bdiv : 2 ∣ S2x1x128.size 0 := ⟨1, rfl⟩
theorem cdiv : 2 ∣ S2x128x128.size 0 := ⟨1, rfl⟩
theorem gdiv : 128 ∣ S1x16384.size 1 := ⟨128, rfl⟩
theorem rdiv : 128 ∣ S16384x128.size 0 := ⟨128, rfl⟩

theorem bR_eq (s : Fin 2) : bR s = Rect.part (s := S2x1x128) (a₀ := 0) bdiv s := by
  unfold bR Rect.part Rect.block
  congr 1 <;> funext a <;> match a with
    | 0 => simp [Shape.partIx, Shape.partSize]
    | 1 => simp [Shape.partIx, Shape.partSize]
    | 2 => simp [Shape.partIx, Shape.partSize]
theorem cR_eq (s : Fin 2) : cR s = Rect.part (s := S2x128x128) (a₀ := 0) cdiv s := by
  unfold cR Rect.part Rect.block
  congr 1 <;> funext a <;> match a with
    | 0 => simp [Shape.partIx, Shape.partSize]
    | 1 => simp [Shape.partIx, Shape.partSize]
    | 2 => simp [Shape.partIx, Shape.partSize]
theorem gR_eq (n : Fin 128) : gR n = Rect.part (s := S1x16384) (a₀ := 1) gdiv n := by
  unfold gR Rect.part Rect.block
  congr 1 <;> funext a <;> match a with
    | 0 => simp [Shape.partIx, Shape.partSize]
    | 1 => simp [Shape.partIx, Shape.partSize]
theorem rR_eq (n : Fin 128) : rR n = Rect.part (s := S16384x128) (a₀ := 0) rdiv n := by
  unfold rR Rect.part Rect.block
  congr 1 <;> funext a <;> match a with
    | 0 => simp [Shape.partIx, Shape.partSize]
    | 1 => simp [Shape.partIx, Shape.partSize]

theorem bW_set (s : Fin 2) : (bW s).view.set = (Rect.part (s := S2x1x128) (a₀ := 0) bdiv s).set := by
  show ((bV.view.slice (bR s)).reshape S1x128 squeezes_S1x1x128_S1x128.numel_eq).set = _
  rw [View.set_reshape, View.set_slice]; exact Finset.map_refl.trans (congrArg (fun r => r.set) (bR_eq s))
theorem cW_set (s : Fin 2) : (cW s).view.set = (Rect.part (s := S2x128x128) (a₀ := 0) cdiv s).set := by
  show ((cV.view.slice (cR s)).reshape S128x128 squeezes_S1x128x128_S128x128.numel_eq).set = _
  rw [View.set_reshape, View.set_slice]; exact Finset.map_refl.trans (congrArg (fun r => r.set) (cR_eq s))
theorem gW_set (n : Fin 128) : (gW n).view.set = (Rect.part (s := S1x16384) (a₀ := 1) gdiv n).set := by
  show (iV.view.slice (gR n)).set = _
  rw [View.set_slice]; exact Finset.map_refl.trans (congrArg (fun r => r.set) (gR_eq n))
theorem rW_set (n : Fin 128) : (rW n).view.set = (Rect.part (s := S16384x128) (a₀ := 0) rdiv n).set := by
  show (oV.view.slice (rR n)).set = _
  rw [View.set_slice]; exact Finset.map_refl.trans (congrArg (fun r => r.set) (rR_eq n))

theorem tA_set : tA.view.set = Finset.univ := by
  have e : Rect.unit (s := S131072x128) ![0, 0] S131072x128.size inb_S131072x128_S131072x128_0_0 = Rect.part (s := S131072x128) (a₀ := 0) (one_dvd _) (0 : Fin 1) := by
    unfold Rect.part Rect.block
    congr 1 <;> funext a <;> match a with
      | 0 => simp [Shape.partIx, Shape.partSize]
      | 1 => simp [Shape.partIx, Shape.partSize]
  show (tV.view.slice (Rect.unit (s := S131072x128) ![0, 0] S131072x128.size inb_S131072x128_S131072x128_0_0)).set = _
  rw [View.set_slice]
  refine Finset.map_refl.trans ((congrArg (fun r => r.set) e).trans ?_)
  have h := Rect.biUnion_part (s := S131072x128) (a₀ := 0) (one_dvd (S131072x128.size 0))
  rw [Finset.univ_unique, Finset.singleton_biUnion] at h
  exact h

/-- The slots' elements, of the index buffer and of the row buffer. -/
abbrev bSet (s : Fin 2) : Finset S2x1x128.Idx := (bW s).view.set
abbrev cSet (s : Fin 2) : Finset S2x128x128.Idx := (cW s).view.set

section Tile

variable (d : Dev nD) (L : grid0.Coords)

/-! ## The tile's own buffers and semaphores -/

abbrev cell (L : grid0.Coords) (sm : DmaSem sig) : GSem nD τ sig := (thr d L, .dma sm)

theorem cell_mem (sm : DmaSem sig) (h : (SemLoc.dma sm : SemLoc sig).isScoped .scVector = true) : cell d L sm ∈ ownCells (thr d L) :=
  (mem_ownCells (g := cell d L sm)).mpr ⟨rfl, h⟩
theorem cell_ne (a b : DmaSem sig) (h : a ≠ b) : cell d L a ≠ cell d L b := fun e => h (SemLoc.dma.inj (Prod.mk.inj e).2)

/-- The tile's five semaphores are among its own. -/
theorem ownSems0_V : ∃ R : sProp 𝕄, (ownSems0 (thr d L) : sProp 𝕄)
    = iprop(sv d L (inSem 0) ∗ sv d L (inSem 1) ∗ sv d L (outSem 0) ∗ sv d L (outSem 1) ∗ sv d L gSem ∗ R) := by
  refine ⟨bigSep ((((((ownCells (thr d L)).erase (cell d L (inSem 0))).erase (cell d L (inSem 1))).erase (cell d L (outSem 0))).erase
    (cell d L (outSem 1))).erase (cell d L gSem)) fun g => semVal g 0, ?_⟩
  unfold SparseCore.Cfg.ownSems0
  rw [SparseCore.bigSep_erase' (cell_mem d L (inSem 0) (by decide)),
    SparseCore.bigSep_erase' (i := cell d L (inSem 1)) (Finset.mem_erase.mpr ⟨cell_ne d L _ _ (by decide), cell_mem d L _ (by decide)⟩),
    SparseCore.bigSep_erase' (i := cell d L (outSem 0)) (Finset.mem_erase.mpr ⟨cell_ne d L _ _ (by decide), Finset.mem_erase.mpr ⟨cell_ne d L _ _ (by decide), cell_mem d L _ (by decide)⟩⟩),
    SparseCore.bigSep_erase' (i := cell d L (outSem 1)) (Finset.mem_erase.mpr ⟨cell_ne d L _ _ (by decide), Finset.mem_erase.mpr ⟨cell_ne d L _ _ (by decide),
      Finset.mem_erase.mpr ⟨cell_ne d L _ _ (by decide), cell_mem d L _ (by decide)⟩⟩⟩),
    SparseCore.bigSep_erase' (i := cell d L gSem) (Finset.mem_erase.mpr ⟨cell_ne d L _ _ (by decide), Finset.mem_erase.mpr ⟨cell_ne d L _ _ (by decide),
      Finset.mem_erase.mpr ⟨cell_ne d L _ _ (by decide), Finset.mem_erase.mpr ⟨cell_ne d L _ _ (by decide), cell_mem d L _ (by decide)⟩⟩⟩⟩)]

/-- The two scratch buffers are among the tile's own. -/
theorem ownBufs_V : ∃ R : sProp 𝕄, (ownBufs (thr d L) : sProp 𝕄)
    = iprop((∃ f, (thr d L).loc cc0_scoped0 ↦{fullShare} f) ∗ (∃ f, (thr d L).loc cc0_scoped2 ↦{fullShare} f) ∗ R) := by
  refine ⟨bigSep (((ownRefs (τ := τ) (.scVector (coreV L) (subV L))).erase ((Proc.scVector (coreV L) (subV L)).devRef cc0_scoped0)).erase
      ((Proc.scVector (coreV L) (subV L)).devRef cc0_scoped2)) fun b => iprop(∃ f, ((d, b) : Loc nD τ sig) ↦{fullShare} f), ?_⟩
  unfold SparseCore.Cfg.ownBufs
  refine (SparseCore.bigSep_erase' (SparseCore.Cfg.mem_ownRefs_of_owner (p := Proc.scVector (coreV L) (subV L))
    (b := (Proc.scVector (coreV L) (subV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (coreV L) (subV L)) (b := (Proc.scVector (coreV L) (subV L)).devRef cc0_scoped2) rfl⟩)]

theorem bSlots_disj : ∀ i ∈ (Finset.univ : Finset (Fin 2)), ∀ j ∈ (Finset.univ : Finset (Fin 2)), i ≠ j → Disjoint (bSet i) (bSet j) :=
  fun i _ j _ h => by unfold bSet; rw [bW_set, bW_set]; exact Rect.part_disjoint bdiv h
theorem cSlots_disj : ∀ i ∈ (Finset.univ : Finset (Fin 2)), ∀ j ∈ (Finset.univ : Finset (Fin 2)), i ≠ j → Disjoint (cSet i) (cSet j) :=
  fun i _ j _ h => by unfold cSet; rw [cW_set, cW_set]; exact Rect.part_disjoint cdiv h
theorem bSlots_cover : (Finset.univ : Finset (Fin 2)).biUnion bSet = Finset.univ :=
  (Finset.biUnion_congr rfl fun i _ => bW_set i).trans (Rect.biUnion_part bdiv)
theorem cSlots_cover : (Finset.univ : Finset (Fin 2)).biUnion cSet = Finset.univ :=
  (Finset.biUnion_congr rfl fun i _ => cW_set i).trans (Rect.biUnion_part cdiv)

theorem b_split : (iprop(∃ f, (thr d L).loc cc0_scoped0 ↦{fullShare} f) : sProp 𝕄) ⊢ iprop(bFree d L 0 ∗ bFree d L 1) := by
  iintro ⟨%f, H⟩
  ihave H := (Entails.of_eq (show ((thr d L).loc cc0_scoped0 ↦{fullShare} f : sProp 𝕄) = bigSep Finset.univ fun s : Fin 2 => bPts d L s f by
    rw [← bSlots_cover, pointsTo_biUnion Finset.univ (ℓ := (thr d L).loc cc0_scoped0) bSet bSlots_disj])) $$ H
  ihave H := (Entails.of_eq (show (bigSep Finset.univ fun s : Fin 2 => bPts d L s f) = iprop(bPts d L 0 f ∗ bPts d L 1 f) from bigSep_fin_two _)) $$ H
  icases H with ⟨H0, H1⟩
  unfold bFree
  isplitl [H0]
  · iexists f; iexact H0
  · iexists f; iexact H1

theorem c_split : (iprop(∃ f, (thr d L).loc cc0_scoped2 ↦{fullShare} f) : sProp 𝕄) ⊢ iprop(cFree d L 0 ∗ cFree d L 1) := by
  iintro ⟨%f, H⟩
  ihave H := (Entails.of_eq (show ((thr d L).loc cc0_scoped2 ↦{fullShare} f : sProp 𝕄) = bigSep Finset.univ fun s : Fin 2 => cPts d L s f by
    rw [← cSlots_cover, pointsTo_biUnion Finset.univ (ℓ := (thr d L).loc cc0_scoped2) cSet cSlots_disj])) $$ H
  ihave H := (Entails.of_eq (show (bigSep Finset.univ fun s : Fin 2 => cPts d L s f) = iprop(cPts d L 0 f ∗ cPts d L 1 f) from bigSep_fin_two _)) $$ H
  icases H with ⟨H0, H1⟩
  unfold cFree
  isplitl [H0]
  · iexists f; iexact H0
  · iexists f; iexact H1

/-! ## The task -/

variable (Tb : Buf (Elt F) (tLoc d)) (Ib : Buf (Elt F) (iLoc d)) (q : PosShare TreeShare)

theorem iSet_zero : iSet 0 = Finset.univ.erase 0 := by decide +kernel
theorem iSet_four : iSet 4 = Finset.univ := by decide +kernel
theorem rawSet_zero : rawSet 0 = Finset.univ := by decide +kernel
theorem doneSet_zero : doneSet 0 = ∅ := by decide +kernel
theorem doneSet_four : insert 3 (doneSet 4) = Finset.univ := by decide +kernel
theorem notMem_doneSet_four : (3 : Fin 4) ∉ doneSet 4 := by decide +kernel

theorem gAll_first : gAll d L Ib Finset.univ ⊢ iprop(gPts d L Ib (blk L 0) ∗ gAll d L Ib (iSet 0)) := by
  unfold gAll
  rw [SparseCore.bigSep_erase' (Finset.mem_univ (0 : Fin 4)), iSet_zero]

theorem doneAll_all : iprop(doneAll d L Tb Ib (doneSet 4) ∗ rPts d L (blk L 3) (Gb d Tb Ib)) ⊢ doneAll d L Tb Ib Finset.univ := by
  unfold doneAll
  rw [← doneSet_four, SparseCore.bigSep_insert' notMem_doneSet_four]
  iintro ⟨Hr, Hk⟩
  isplitl [Hk]; · iexact Hk
  iexact Hr

variable [FloatOps F]

theorem b_join : (iprop(bFree d L 0 ∗ bFree d L 1) : sProp 𝕄) ⊢ iprop(∃ f, (thr d L).loc cc0_scoped0 ↦{fullShare} f) := by
  refine (Entails.of_eq (bigSep_fin_two (fun s => bFree (F := F) d L s)).symm).trans ?_
  unfold bFree
  refine (bigSep_exists_pi Finset.univ (fun (s : Fin 2) (f : Buf (Elt F) ((thr d L).loc cc0_scoped0)) => bPts d L s f)).trans ?_
  iintro ⟨%fs, H⟩
  ihave H' := (pointsTo_biUnion_join (ℓ := (thr d L).loc cc0_scoped0) (q := fullShare) (Val := Elt F) Finset.univ bSet fs (fs 0) bSlots_disj) $$ H
  icases H' with ⟨%g, -, Hg⟩
  rw [bSlots_cover]
  iexists g; iexact Hg

theorem c_join : (iprop(cFree d L 0 ∗ cFree d L 1) : sProp 𝕄) ⊢ iprop(∃ f, (thr d L).loc cc0_scoped2 ↦{fullShare} f) := by
  refine (Entails.of_eq (bigSep_fin_two (fun s => cFree (F := F) d L s)).symm).trans ?_
  unfold cFree
  refine (bigSep_exists_pi Finset.univ (fun (s : Fin 2) (f : Buf (Elt F) ((thr d L).loc cc0_scoped2)) => cPts d L s f)).trans ?_
  iintro ⟨%fs, H⟩
  ihave H' := (pointsTo_biUnion_join (ℓ := (thr d L).loc cc0_scoped2) (q := fullShare) (Val := Elt F) Finset.univ cSet fs (fs 0) cSlots_disj) $$ H
  icases H' with ⟨%g, -, Hg⟩
  rw [cSlots_cover]
  iexists g; iexact Hg

/-- A trip keeps what the loop keeps. -/
theorem trip_kept (hI : ∀ j, (Ib j).toNat < 131072) (O : CellTallies nD τ sig (HIx 1)) (W : Waits sig (HIx 1)) (k : Fin k0_t1_loop.trips) :
    iprop(Transfers.MayWaits (thr d L) (default : HIx 1) O ∗ holds d L Tb Ib q O W k.val)
      ⊢ runs d L (k0_t1_body L tV (Memref.isWhole_whole _) iV (Memref.isWhole_whole _) oV (Memref.isWhole_whole _) bV (Memref.isWhole_whole _)
          cc0_scoped1 cV (Memref.isWhole_whole _) cc0_scoped3 cc0_scoped4 (first L) k (A k.val))
        (fun a => iprop(Transfers.MayWaits (thr d L) (default : HIx 1) O ∗ inv d L Tb Ib q O W (k.val + 1) a)) := by
  iintro ⟨#Hmw, H⟩
  iapply (wp_frame_l frame _ _)
  isplitr; · iexact Hmw
  iapply (trip d L Tb Ib q O W hI k)
  isplitr; · iexact Hmw
  iexact H

set_option maxHeartbeats 4000000 in
/-- The task on a tile: from its blocks of the list and of the result and a share of the table, its blocks of the
    result hold the gathered rows. -/
theorem tile_body (hF : (K (F := F)).Facts) (hI : ∀ j, (Ib j).toNat < 131072) (O : CellTallies nD τ sig (HIx 1)) (W : Waits sig (HIx 1)) (hO : ∀ g, O g none = 0) :
    iprop(levAts (K (F := F)).L (K (F := F)).lev ∗ emp
        ∗ (tPts d L Tb q ∗ gAll d L Ib Finset.univ ∗ rawAll (F := F) d L Finset.univ)
        ∗ scopedBufs (thr d L) ∗ scopedSems0 (thr d L) ∗ owes (thr d L) O W)
      ⊢ runs d L (cc0_k L tV (Memref.isWhole_whole _) iV (Memref.isWhole_whole _) oV (Memref.isWhole_whole _) bV (Memref.isWhole_whole _)
          cc0_scoped1 cV (Memref.isWhole_whole _) cc0_scoped3 cc0_scoped4)
          fun _ => iprop((tPts d L Tb q ∗ gAll d L Ib Finset.univ ∗ doneAll d L Tb Ib Finset.univ)
            ∗ scopedBufs (thr d L) ∗ scopedSems0 (thr d L)
            ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  simp only [cc0_k_eq_skeleton]; unfold cc0_k_skel
  simp only [k0_part3_eq_skeleton, k0_part4_eq_skeleton]; unfold k0_part3_skel k0_part4_skel
  rw [(K (F := F)).scopedBufs_V hF d (coreV L) (subV L), SparseCore.Cfg.scopedSems0_V (Val := Elt F) d (coreV L) (subV L), hRS, hRB]
  simp only [Prog.lift, Prog.bind_op, Prog.bind_ret, Prog.pure_eq_ret, Prog.bind_assoc]
  iintro ⟨#Hlv, -, ⟨Ht, Hg, Hraw⟩, ⟨Hb, Hc, Hbufs⟩, ⟨Hi0, Hi1, Ho0, Ho1, HsG, Hsems⟩, HO⟩
  ihave #Hmw := (show levAts (K (F := F)).L (K (F := F)).lev ⊢ Transfers.MayWaits (thr d L) (default : HIx 1) O from
    (K (F := F)).mayWaits_none (thr := thr d L) hO) $$ Hlv
  ihave ⟨Hb0, Hb1⟩ := (b_split d L) $$ Hb
  ihave ⟨Hc0, Hc1⟩ := (c_split d L) $$ Hc
  ihave ⟨Hg0, Hg⟩ := (gAll_first d L Ib) $$ Hg
  iapply (wp_fetch d L Ib (0 : Fin 2) (blk L 0) off1_A (off2_A L) off3_A) $$ [Hb0 Hg0 Hi0]
  · isplitl [Hb0]; · iexact Hb0
    isplitl [Hg0]; · iexact Hg0
    iexact Hi0
  iintro Hin
  iapply (Scf.wp_for_bind _ _ _ _ _ _ _ _ _ (fun k a => iprop(Transfers.MayWaits (thr d L) (default : HIx 1) O ∗ inv d L Tb Ib q O W k a)) ?_) $$ [HO Ht HsG Hin Hb1 Hi1 Hc1 Ho1 Hc0 Ho0 Hg Hraw]
  · intro k acc
    unfold inv
    iintro ⟨#Hmw, %ha, H⟩
    subst ha
    iapply (trip_kept d L Tb Ib q hI O W k)
    isplitr; · iexact Hmw
    iexact H
  · isplitr; · iexact Hmw
    unfold inv holds owing
    isplitr; · ipureintro; rfl
    isplitl [HO]
    · iexists W; isplitr
      · ipureintro; exact fun p hp => .inl hp
      iexact HO
    isplitl [Ht]; · iexact Ht
    isplitl [HsG]; · iexact HsG
    rw [sIn_lt d L Ib 0 (by decide), sOut_zero, rawSet_zero, doneSet_zero]
    isplitl [Hin]; · iexact Hin
    isplitl [Hb1 Hi1]
    · isplitl [Hb1]; · iexact Hb1
      iexact Hi1
    isplitl [Hc1 Ho1]
    · isplitl [Hc1]; · iexact Hc1
      iexact Ho1
    isplitl [Hc0 Ho0]
    · isplitl [Hc0]; · iexact Hc0
      iexact Ho0
    isplitl [Hg]; · iexact Hg
    isplitl [Hraw]; · iexact Hraw
    unfold doneAll; rw [bigSep_empty]; iempintro
  iintro %acc ⟨-, H⟩
  unfold inv
  icases H with ⟨%ha, H⟩
  obtain rfl : acc = A 4 := ha.trans (congrArg A trips_eq)
  iapply (wp_assume 𝒱₀ (thr d L) none Set.univ (chk5_A L))
  iapply (wp_assume 𝒱₀ (thr d L) none Set.univ chk4_A)
  ihave H := (Entails.of_eq (show holds d L Tb Ib q O W k0_t1_loop.trips = holds d L Tb Ib q O W 4 by rw [trips_eq])) $$ H
  unfold holds
  rw [sIn_four, sOut_pos d L Tb Ib 4 (by decide) le_rfl, iSet_four]
  icases H with ⟨HO, Ht, HsG, ⟨Hb0, Hi0⟩, ⟨Hb1, Hi1⟩, Hout, ⟨Hc0, Ho0⟩, Hg, -, Hdone⟩
  iapply (wp_writtenOut d L Tb Ib (1 : Fin 2) (blk L 3) (off19_A L) off20_A) $$ [Hout HO]
  · isplitr; · iexact Hmw
    isplitl [Hout]; · iexact Hout
    iexact HO
  iintro ⟨Hr, Hc1, Ho1, HO⟩
  iapply (runs_ret d L)
  isplitl [Ht Hg Hdone Hr]
  · isplitl [Ht]; · iexact Ht
    isplitl [Hg]; · iexact Hg
    iapply (doneAll_all d L Tb Ib)
    isplitl [Hdone]; · iexact Hdone
    iexact Hr
  isplitl [Hb0 Hb1 Hc0 Hc1 Hbufs]
  · isplitl [Hb0 Hb1]
    · iapply (b_join d L)
      isplitl [Hb0]; · iexact Hb0
      iexact Hb1
    isplitl [Hc0 Hc1]
    · iapply (c_join d L)
      isplitl [Hc0]; · iexact Hc0
      iexact Hc1
    iexact Hbufs
  isplitl [Hi0 Hi1 Ho0 Ho1 HsG Hsems]
  · isplitl [Hi0]; · iexact Hi0
    isplitl [Hi1]; · iexact Hi1
    isplitl [Ho0]; · iexact Ho0
    isplitl [Ho1]; · iexact Ho1
    isplitl [HsG]; · iexact HsG
    iexact Hsems
  unfold owing
  iexact HO

end Tile

end Cert.Proof.Sc

end

end
-- ==== Proof.Obl.lean ====
/-
  The gather call's launch payloads: what each tile is handed and hands back, the call's operands dealt to the tiles and
  its result put together again, and the tile's obligation.
-/
module

public import proofs.«01_k».proof.Proof.Tile
public import Idealize.ShloMosaic.Lib.SparseCore.Quiescent
public import Idealize.ShloMosaic.Lib.ShareLeaves

@[expose] public section

noncomputable section

namespace Cert.Proof.Sc

open Cert.KernelIdeal Cert.KernelIdeal.Gen
open Idealize.ShloMosaic
open Idealize.ShloMosaic.ShareLeaves (leaf pointsTo_leaves)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's coordinates from its core's and its subcore's numbers. -/
def coordsV (c : Fin (grid0.bound 0)) (s : Fin (grid0.bound 1)) : grid0.Coords := fun
  | 0 => c
  | 1 => s
  | ⟨_ + 2, h⟩ => absurd h (Nat.not_lt.2 (Nat.le_add_left _ _))

/-- The coordinates of tile `i` of core `c`. -/
abbrev tileAt (c : Fin 2) (i : Fin 16) : grid0.Coords := coordsV ⟨c.val, c.isLt⟩ ⟨i.val, i.isLt⟩

theorem wid_tileAt (c : Fin 2) (i : Fin 16) : wid (tileAt c i) = i.val + 16 * c.val := rfl

/-- The share of the table that a tile reads at. -/
abbrev tShare (L : grid0.Coords) : PosShare TreeShare := leaf 5 fullShare ⟨wid L, wid_lt L⟩

section Deal

variable (d : Dev nD)

/-- The table's full share is the tiles' shares. -/
theorem t_deal (Tb : Buf (Elt F) (tLoc d)) :
    (tLoc d ↦{fullShare} Tb : sProp 𝕄)
      = bigSep Finset.univ fun c : Fin 2 => bigSep Finset.univ fun i : Fin 16 => tPts (F := F) d (tileAt c i) Tb (tShare (tileAt c i)) := by
  rw [pointsTo_leaves Finset.univ Tb 5 fullShare,
    bigSep_univ_equiv (finProdFinEquiv : Fin 2 × Fin 16 ≃ Fin (2 * 16)) (fun i : Fin (2 ^ 5) => (tLoc d ↦[Finset.univ]{leaf 5 fullShare i} Tb : sProp 𝕄)),
    bigSep_univ_prod]
  refine bigSep_congr fun c _ => bigSep_congr fun i _ => ?_
  unfold tPts
  rw [tA_set]
  have e : (finProdFinEquiv (c, i) : Fin (2 * 16)) = ⟨wid (tileAt c i), wid_lt _⟩ := Fin.ext rfl
  rw [e]

/-- The list's full ownership is its blocks', tile by tile. -/
theorem g_deal (Ib : Buf (Elt F) (iLoc d)) :
    (iLoc d ↦{fullShare} Ib : sProp 𝕄)
      = bigSep Finset.univ fun c : Fin 2 => bigSep Finset.univ fun i : Fin 16 => gAll (F := F) d (tileAt c i) Ib Finset.univ := by
  have h : (iLoc d ↦{fullShare} Ib : sProp 𝕄)
      = bigSep Finset.univ fun n : Fin 128 => (iLoc d ↦[(Rect.part (s := S1x16384) (a₀ := 1) gdiv n).set]{fullShare} Ib : sProp 𝕄) := by
    rw [← pointsTo_biUnion Finset.univ (ℓ := iLoc d) (fun n : Fin 128 => (Rect.part (s := S1x16384) (a₀ := 1) gdiv n).set)
      (fun a _ b _ hab => Rect.part_disjoint gdiv hab), Rect.biUnion_part]
  rw [h, bigSep_univ_equiv (finProdFinEquiv : Fin 32 × Fin 4 ≃ Fin (32 * 4)) (fun n : Fin 128 => (iLoc d ↦[(Rect.part (s := S1x16384) (a₀ := 1) gdiv n).set]{fullShare} Ib : sProp 𝕄)),
    bigSep_univ_prod,
    bigSep_univ_equiv (finProdFinEquiv : Fin 2 × Fin 16 ≃ Fin (2 * 16)), bigSep_univ_prod]
  refine bigSep_congr fun c _ => bigSep_congr fun i _ => bigSep_congr fun t _ => ?_
  unfold gPts
  rw [gW_set]
  have e : blk (tileAt c i) t = finProdFinEquiv (finProdFinEquiv (c, i), t) := by
    apply Fin.ext
    show 4 * wid (tileAt c i) + t.val = t.val + 4 * (i.val + 16 * c.val)
    rw [wid_tileAt]; omega
  rw [e]

/-- The result's full ownership is its blocks', tile by tile. -/
theorem r_deal (f : Buf (Elt F) (oLoc d)) :
    (oLoc d ↦{fullShare} f : sProp 𝕄)
      = bigSep Finset.univ fun c : Fin 2 => bigSep Finset.univ fun i : Fin 16 => bigSep Finset.univ fun t : Fin 4 =>
          rPts (F := F) d (tileAt c i) (blk (tileAt c i) t) f := by
  have h : (oLoc d ↦{fullShare} f : sProp 𝕄)
      = bigSep Finset.univ fun n : Fin 128 => (oLoc d ↦[(Rect.part (s := S16384x128) (a₀ := 0) rdiv n).set]{fullShare} f : sProp 𝕄) := by
    rw [← pointsTo_biUnion Finset.univ (ℓ := oLoc d) (fun n : Fin 128 => (Rect.part (s := S16384x128) (a₀ := 0) rdiv n).set)
      (fun a _ b _ hab => Rect.part_disjoint rdiv hab), Rect.biUnion_part]
  rw [h, bigSep_univ_equiv (finProdFinEquiv : Fin 32 × Fin 4 ≃ Fin (32 * 4)) (fun n : Fin 128 => (oLoc d ↦[(Rect.part (s := S16384x128) (a₀ := 0) rdiv n).set]{fullShare} f : sProp 𝕄)),
    bigSep_univ_prod,
    bigSep_univ_equiv (finProdFinEquiv : Fin 2 × Fin 16 ≃ Fin (2 * 16)), bigSep_univ_prod]
  refine bigSep_congr fun c _ => bigSep_congr fun i _ => bigSep_congr fun t _ => ?_
  unfold rPts
  rw [rW_set]
  have e : blk (tileAt c i) t = finProdFinEquiv (finProdFinEquiv (c, i), t) := by
    apply Fin.ext
    show 4 * wid (tileAt c i) + t.val = t.val + 4 * (i.val + 16 * c.val)
    rw [wid_tileAt]; omega
  rw [e]

variable (Tb : Buf (Elt F) (tLoc d)) (Ib : Buf (Elt F) (iLoc d))

/-- What a tile is handed: its share of the table, its blocks of the list, its blocks of the result at anything. -/
def goP (L : grid0.Coords) : sProp 𝕄 :=
  iprop(tPts d L Tb (tShare L) ∗ gAll d L Ib Finset.univ ∗ rawAll (F := F) d L Finset.univ)
/-- What it hands back: the same, its blocks of the result holding the gathered rows. -/
def tdP (L : grid0.Coords) : sProp 𝕄 :=
  iprop(tPts d L Tb (tShare L) ∗ gAll d L Ib Finset.univ ∗ doneAll d L Tb Ib Finset.univ)

instance goP_storable (L : grid0.Coords) : BI.Storable (upEmb : UEmb _ 𝕄) (goP d Tb Ib L) := by unfold goP; infer_instance
instance tdP_storable (L : grid0.Coords) : BI.Storable (upEmb : UEmb _ 𝕄) (tdP d Tb Ib L) := by unfold tdP; infer_instance

/-- What a core is handed and hands back: its tiles' payloads. -/
def stP (c : Fin 2) : sProp 𝕄 := bigSep Finset.univ fun i : Fin 16 => goP d Tb Ib (tileAt c i)
def dnP (c : Fin 2) : sProp 𝕄 := bigSep Finset.univ fun i : Fin 16 => tdP d Tb Ib (tileAt c i)
instance stP_storable (c : Fin 2) : BI.Storable (upEmb : UEmb _ 𝕄) (stP d Tb Ib c) := by unfold stP; infer_instance
instance dnP_storable (c : Fin 2) : BI.Storable (upEmb : UEmb _ 𝕄) (dnP d Tb Ib c) := by unfold dnP; infer_instance

/-- The call's operands are dealt to the tiles. -/
theorem deal (f : Buf (Elt F) (oLoc d)) :
    iprop((tLoc d ↦{fullShare} Tb) ∗ (iLoc d ↦{fullShare} Ib) ∗ (oLoc d ↦{fullShare} f))
      ⊢ (bigSep Finset.univ fun c : Fin 2 => stP (F := F) d Tb Ib c : sProp 𝕄) := by
  simp only [stP, goP, bigSep_sep']
  rw [← t_deal, ← g_deal, r_deal]
  refine sep_mono .rfl (sep_mono .rfl ?_)
  refine bigSep_mono fun c _ => bigSep_mono fun i _ => bigSep_mono fun t _ =>
    show rPts d (tileAt c i) (blk (tileAt c i) t) f ⊢ iprop(∃ f, rPts (F := F) d (tileAt c i) (blk (tileAt c i) t) f) from ?_
  iintro H; iexists f; iexact H

/-- The tiles' results are the call's. -/
theorem undeal :
    (bigSep Finset.univ fun c : Fin 2 => dnP (F := F) d Tb Ib c : sProp 𝕄)
      ⊢ iprop((tLoc d ↦{fullShare} Tb) ∗ (iLoc d ↦{fullShare} Ib) ∗ (oLoc d ↦{fullShare} Gb d Tb Ib)) := by
  simp only [dnP, tdP, bigSep_sep']
  rw [← t_deal, ← g_deal, r_deal]

end Deal

/-! ## The payloads -/

section Payloads

variable (Tb : (d : Dev nD) → Buf (Elt F) (tLoc d)) (Ib : (d : Dev nD) → Buf (Elt F) (iLoc d))

/-- A core of the call's grid, and a tile of it, by their numbers. -/
def coreOf {q : Fin 1} (c : Fin ((K (F := F)).nCore q)) : Fin 2 := match q with | 0 => ⟨c.val, c.isLt⟩
def subOf {q : Fin 1} (i : Fin ((K (F := F)).nSub q)) : Fin 16 := match q with | 0 => ⟨i.val, i.isLt⟩

/-- Every payload of the one call. -/
def P : (K (F := F)).Pay (nD := nD) (Val := Elt F) (Name := ℕ) (U := UU) where
  st _ d c := stP d (Tb d) (Ib d) (coreOf (F := F) c)
  dn _ d c := dnP d (Tb d) (Ib d) (coreOf (F := F) c)
  go _ d c i := goP d (Tb d) (Ib d) (tileAt (coreOf (F := F) c) (subOf (F := F) i))
  td _ d c i := tdP d (Tb d) (Ib d) (tileAt (coreOf (F := F) c) (subOf (F := F) i))
  x _ _ := iprop(emp)

theorem P_st (q) (d : Dev nD) (c) : (P Tb Ib).st q d c = stP d (Tb d) (Ib d) (coreOf (F := F) c) := by dsimp only [P]
theorem P_dn (q) (d : Dev nD) (c) : (P Tb Ib).dn q d c = dnP d (Tb d) (Ib d) (coreOf (F := F) c) := by dsimp only [P]
theorem P_go (q) (d : Dev nD) (c i) : (P Tb Ib).go q d c i = goP d (Tb d) (Ib d) (tileAt (coreOf (F := F) c) (subOf (F := F) i)) := by dsimp only [P]
theorem P_td (q) (d : Dev nD) (c i) : (P Tb Ib).td q d c i = tdP d (Tb d) (Ib d) (tileAt (coreOf (F := F) c) (subOf (F := F) i)) := by dsimp only [P]

instance P_storable : (P Tb Ib).IsStorable where
  st q d c := by rw [P_st]; exact stP_storable d _ _ _
  dn q d c := by rw [P_dn]; exact dnP_storable d _ _ _
  go q d c i := by rw [P_go]; exact goP_storable d _ _ _
  td q d c i := by rw [P_td]; exact tdP_storable d _ _ _

theorem vecSplit_aux {A B A' B' : sProp 𝕄} (hA : A = A') (hB : B' = B) : A ⊢ |={Set.univ}=> iprop(A' ∗ (B' -∗ B)) := by
  subst hA hB
  iintro H
  imodintro
  isplitl [H]; · iexact H
  iintro H; iexact H

/-- A core's payload is its tiles' payloads. -/
theorem vecSplit : (K (F := F)).VecSplit' (P Tb Ib) 0 := by
  intro d c
  refine vecSplit_aux ?_ ?_
  · rw [P_st]; unfold stP; exact bigSep_congr fun i _ => (P_go Tb Ib 0 d c i).symm
  · rw [P_dn]; unfold dnP; exact bigSep_congr fun i _ => P_td Tb Ib 0 d c i

theorem obl_post {d : Dev nD} {L : grid0.Coords} {A B C : sProp 𝕄} {O : CellTallies nD τ sig (HIx 1)} {W : Waits sig (HIx 1)} {R : HIx 1 → Prop} :
    iprop(A ∗ B ∗ C ∗ ∃ W', ⌜∀ p ∈ W', p ∈ W ∨ p.2 = none⌝ ∗ owes (thr d L) O W')
      ⊢ iprop(A ∗ B ∗ C ∗ ∃ W', ⌜∀ p ∈ W', p ∈ W ∨ p.2 = none ∨ R p.2⌝ ∗ owes (thr d L) O W') := by
  iintro ⟨HA, HB, HC, ⟨%W', %h, HO⟩⟩
  isplitl [HA]; · iexact HA
  isplitl [HB]; · iexact HB
  isplitl [HC]; · iexact HC
  iexists W'
  isplitr
  · ipureintro; exact fun p hp => (h p hp).imp_right Or.inl
  iexact HO

variable [FloatOps F]

theorem defs₀_vector (c : Fin τ.nSC) (s : Fin τ.nSub) :
    defs₀ (F := F) (.scVector c s) 0 ()
      = SparseCore.onTile hcore0 hsub0 (fun c s => cc0_k (coordsV c s) tV (Memref.isWhole_whole _) iV (Memref.isWhole_whole _) oV (Memref.isWhole_whole _)
          bV (Memref.isWhole_whole _) cc0_scoped1 cV (Memref.isWhole_whole _) cc0_scoped3 cc0_scoped4) ⟨⟩ c s := rfl

set_option maxRecDepth 16384 in
/-- The tile's obligation, the list's words being rows of the table. -/
theorem tileObl (hI : ∀ d j, (Ib d j).toNat < 131072) : (K (F := F)).TileObl (D (F := F)) 𝒱 (P Tb Ib) v₀ 0 := by
  intro d c i O W hO _ _
  rw [show (P Tb Ib).ox 0 _ = 0 by dsimp only [P], add_zero, P_go, P_td, show (P Tb Ib).x 0 _ = iprop(emp) by dsimp only [P]]
  unfold goP tdP
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) (Tb d) (Ib d) _ facts (hI d) O W hO).trans (wp_mono frame _ _ fun _ => obl_post)

end Payloads

end Cert.Proof.Sc

end

end
-- ==== Proof.Select.lean ====
/-
  The parity select's body on the TensorCore: from the gathered pairs and the parities staged, the result staged at the
  selected halves.
-/
module

public import proofs.«01_k».proof.Proof.Steps
public import proofs.«01_k».proof.Proof.Gen.KernelIdeal.Skeleton
public import proofs.«01_k».proof.Proof.Gen.KernelIdeal.Launch
public import proofs.«01_k».proof.Proof.Gen.KernelIdeal.Points
public import Idealize.ShloMosaic.Lib.VecWindow
public import Idealize.ShloMosaic.Lib.Pipeline.ValueKit

@[expose] public section

noncomputable section

namespace Cert.Proof.Sc

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

set_option maxHeartbeats 1000000 in
/-- The body on whole staging buffers. -/
theorem select_body (c : Dev nD) (M0 : Memref sig .tc .vmem S16384x128 .f32) (h0 : M0.IsWhole)
    (M1 : Memref sig .tc .vmem S16384x1 .i32) (h1 : M1.IsWhole) (M2 : Memref sig .tc .vmem S16384x64 .f32) (h2 : M2.IsWhole)
    (x0 : Vec F S16384x128 .f32) (x1 : Vec F S16384x1 .i32) (R : PUnit → sProp 𝕄) :
    iprop(owns (c : Thread nD τ) M0 fullShare x0 ∗ owns (c : Thread nD τ) M1 fullShare x1 ∗ (∃ x, owns (c : Thread nD τ) M2 fullShare x)
        ∗ (iprop(owns (c : Thread nD τ) M0 fullShare x0 ∗ owns (c : Thread nD τ) M1 fullShare x1 ∗ owns (c : Thread nD τ) M2 fullShare (k1_pay1 x0 x1)) -∗ R ⟨⟩))
      ⊢ wp frame (wpE (defs₀ (F := F)) Variants.none (c : Thread nD τ) none) Set.univ (cc1__k6_body M0 h0 M1 h1 M2 h2) R := by
  simp only [cc1__k6_body_eq_skeleton]; unfold cc1__k6_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.readAt_full, View.readAt_full]
  exact View.read_writes_full _ _ _ _ _

end Cert.Proof.Sc

end

end
-- ==== Proof.Host.lean ====
/-
  The host operations around the two calls, as lists, and what they leave in the calls' operands and in the result.
-/
module

public import proofs.«01_k».proof.Proof.Steps
public import Idealize.ShloMosaic.Lib.StableHlo.Run

@[expose] public section

noncomputable section

namespace Cert.Proof.Sc

open Cert.KernelIdeal Cert.KernelIdeal.Gen Idealize.ShloMosaic Idealize.ShloMosaic.TcCoe Idealize.SL.Sem Idealize.ShloMosaic.StableHlo

variable {F : FTy → Type} [FloatOps F]

/-- The host operations before the gather: the table as pairs of rows, the entries' pairs. -/
abbrev ops1 : List (HloOp τ sig (Elt F)) :=
  [ reshape main_arg0 main_v0 (rfl : (.f32 : EltTy) = .f32) shapeCasts_S512x16x32x64_S131072x128,
    reshape main_arg1 main_v1 (rfl : (.i32 : EltTy) = .i32) shapeCasts_S1024x16_S16384,
    nullary main_c (constantI S_ 32 2#32),
    TRef.unary (TRef.of (T := ⟨S_, .i32⟩) main_c) (TRef.of (T := ⟨S_, .i32⟩) main_call0_v0) id,
    TRef.unary (TRef.of (T := ⟨S_, .i32⟩) main_call0_v0) (TRef.of (T := ⟨S16384, .i32⟩) main_call0_v1) (broadcastInDim S16384 ![] bcast_S_S16384),
    TRef.binary (TRef.of (T := ⟨S16384, .i32⟩) main_v1) (TRef.of (T := ⟨S16384, .i32⟩) main_call0_v1) (TRef.of (T := ⟨S16384, .i32⟩) main_call0_v2) Host.divsi,
    TRef.unary (TRef.of (T := ⟨S16384, .i32⟩) main_v1) (TRef.of (T := ⟨S16384, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S16384, .i32⟩) main_call0_v5) (broadcastInDim S16384 ![] bcast_S_S16384),
    TRef.binary (TRef.of (T := ⟨S16384, .i32⟩) main_call0_v3) (TRef.of (T := ⟨S16384, .i32⟩) main_call0_v5) (TRef.of (T := ⟨S16384, .i1⟩) main_call0_v6) (cmpi .ne),
    TRef.unary (TRef.of (T := ⟨S_, .i32⟩) main_call0_v0) (TRef.of (T := ⟨S16384, .i32⟩) main_call0_v7) (broadcastInDim S16384 ![] bcast_S_S16384),
    TRef.binary (TRef.of (T := ⟨S16384, .i32⟩) main_v1) (TRef.of (T := ⟨S16384, .i32⟩) main_call0_v7) (TRef.of (T := ⟨S16384, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S16384, .i32⟩) main_call0_v9) (broadcastInDim S16384 ![] bcast_S_S16384),
    TRef.binary (TRef.of (T := ⟨S16384, .i32⟩) main_call0_v8) (TRef.of (T := ⟨S16384, .i32⟩) main_call0_v9) (TRef.of (T := ⟨S16384, .i1⟩) main_call0_v10) (cmpi .ne),
    TRef.binary (TRef.of (T := ⟨S16384, .i1⟩) main_call0_v6) (TRef.of (T := ⟨S16384, .i1⟩) main_call0_v10) (TRef.of (T := ⟨S16384, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S16384, .i32⟩) main_call0_v12) (broadcastInDim S16384 ![] bcast_S_S16384),
    TRef.binary (TRef.of (T := ⟨S16384, .i32⟩) main_call0_v2) (TRef.of (T := ⟨S16384, .i32⟩) main_call0_v12) (TRef.of (T := ⟨S16384, .i32⟩) main_call0_v13) subi,
    TRef.ternary (TRef.of (T := ⟨S16384, .i1⟩) main_call0_v11) (TRef.of (T := ⟨S16384, .i32⟩) main_call0_v13) (TRef.of (T := ⟨S16384, .i32⟩) main_call0_v2) (TRef.of (T := ⟨S16384, .i32⟩) main_v2) select,
    reshape main_v2 main_v3 (rfl : (.i32 : EltTy) = .i32) shapeCasts_S16384_S1x16384 ]
theorem ops1_sub : (ops1 : List (HloOp τ sig (Elt F))).Forall fun op => op.bufs ⊆ tcRefs τ sig :=
  ⟨reshape_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., reshape_bufs_sub ..⟩
theorem ops1_fresh : ∀ op ∈ (ops1 : List (HloOp τ sig (Elt F))), op.fresh = ∅ := by
  intro _ h; (repeat (cases h with | head => rfl | tail _ h => ?_)); exact nomatch h

/-- The host operations between the two calls: each entry's parity. -/
abbrev ops2 : List (HloOp τ sig (Elt F)) :=
  [ reshape main_arg1 main_v5 (rfl : (.i32 : EltTy) = .i32) shapeCasts_S1024x16_S16384x1,
    nullary main_c_0 (constantI S_ 32 2#32),
    TRef.unary (TRef.of (T := ⟨S_, .i32⟩) main_c_0) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary (TRef.of (T := ⟨S_, .i32⟩) main_call1_v2) (TRef.of (T := ⟨S16384x1, .i32⟩) main_call1_v3) (broadcastInDim S16384x1 ![] bcast_S_S16384x1),
    TRef.binary (TRef.of (T := ⟨S16384x1, .i32⟩) main_v5) (TRef.of (T := ⟨S16384x1, .i32⟩) main_call1_v3) (TRef.of (T := ⟨S16384x1, .i32⟩) main_call1_v4) Host.remsi,
    TRef.nullary (TRef.of (T := ⟨S_, .i32⟩) main_call1_c_1) (constantI S_ 32 0#32),
    TRef.unary (TRef.of (T := ⟨S_, .i32⟩) main_call1_c_1) (TRef.of (T := ⟨S16384x1, .i32⟩) main_call1_v5) (broadcastInDim S16384x1 ![] bcast_S_S16384x1),
    TRef.binary (TRef.of (T := ⟨S16384x1, .i32⟩) main_call1_v4) (TRef.of (T := ⟨S16384x1, .i32⟩) main_call1_v5) (TRef.of (T := ⟨S16384x1, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v7) (broadcastInDim S16384x1 ![] bcast_S_S16384x1),
    TRef.binary (TRef.of (T := ⟨S16384x1, .i32⟩) main_call1_v4) (TRef.of (T := ⟨S16384x1, .i32⟩) main_call1_v7) (TRef.of (T := ⟨S16384x1, .i1⟩) main_call1_v8) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S16384x1, .i1⟩) main_call1_v10) (broadcastInDim S16384x1 ![] bcast_S_S16384x1),
    TRef.binary (TRef.of (T := ⟨S16384x1, .i1⟩) main_call1_v8) (TRef.of (T := ⟨S16384x1, .i1⟩) main_call1_v10) (TRef.of (T := ⟨S16384x1, .i1⟩) main_call1_v11) (cmpi .ne),
    TRef.binary (TRef.of (T := ⟨S16384x1, .i1⟩) main_call1_v11) (TRef.of (T := ⟨S16384x1, .i1⟩) main_call1_v6) (TRef.of (T := ⟨S16384x1, .i1⟩) main_call1_v12) andi,
    TRef.unary (TRef.of (T := ⟨S_, .i32⟩) main_call1_v2) (TRef.of (T := ⟨S16384x1, .i32⟩) main_call1_v13) (broadcastInDim S16384x1 ![] bcast_S_S16384x1),
    TRef.binary (TRef.of (T := ⟨S16384x1, .i32⟩) main_call1_v4) (TRef.of (T := ⟨S16384x1, .i32⟩) main_call1_v13) (TRef.of (T := ⟨S16384x1, .i32⟩) main_call1_v14) addi,
    TRef.ternary (TRef.of (T := ⟨S16384x1, .i1⟩) main_call1_v12) (TRef.of (T := ⟨S16384x1, .i32⟩) main_call1_v14) (TRef.of (T := ⟨S16384x1, .i32⟩) main_call1_v4) (TRef.of (T := ⟨S16384x1, .i32⟩) main_v6) select ]
theorem ops2_sub : (ops2 : List (HloOp τ sig (Elt F))).Forall fun op => op.bufs ⊆ tcRefs τ sig :=
  ⟨reshape_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops2_fresh : ∀ op ∈ (ops2 : List (HloOp τ sig (Elt F))), op.fresh = ∅ := by
  intro _ h; (repeat (cases h with | head => rfl | tail _ h => ?_)); exact nomatch h

/-- The host operation at the end: the result's shape. -/
abbrev ops3 : List (HloOp τ sig (Elt F)) :=
  [ reshape main_v7 main_v8 (rfl : (.f32 : EltTy) = .f32) shapeCasts_S16384x64_S1024x16x64 ]
theorem ops3_sub : (ops3 : List (HloOp τ sig (Elt F))).Forall fun op => op.bufs ⊆ tcRefs τ sig :=
  reshape_bufs_sub ..
theorem ops3_fresh : ∀ op ∈ (ops3 : List (HloOp τ sig (Elt F))), op.fresh = ∅ := by
  intro _ h; (repeat (cases h with | head => rfl | tail _ h => ?_)); exact nomatch h

/-- The program around its two calls. -/
theorem main_eq (d : Dev nD) : main (F := F) d
    = (seq ops1 >>= fun _ => sc.run d 0 >>= fun _ => seq ops2 >>= fun _ =>
        (Prog.lift (.customCall (SparseCore.inner (Pipeline.entry 0)) ())) >>= fun _ => seq ops3) := rfl

/-- The floor quotient of a list of words by two, as the program computes it. -/
def half (x : S16384.Idx → BitVec 32) : S16384.Idx → BitVec 32 :=
  select (andi (cmpi .ne (signi x) (broadcastInDim S16384 ![] bcast_S_S16384 (signi (constantI S_ 32 2#32))))
      (cmpi .ne (Host.remsi x (broadcastInDim S16384 ![] bcast_S_S16384 (constantI S_ 32 2#32))) (broadcastInDim S16384 ![] bcast_S_S16384 (constantI S_ 32 0#32))))
    (subi (Host.divsi x (broadcastInDim S16384 ![] bcast_S_S16384 (constantI S_ 32 2#32))) (broadcastInDim S16384 ![] bcast_S_S16384 (constantI S_ 32 1#32)))
    (Host.divsi x (broadcastInDim S16384 ![] bcast_S_S16384 (constantI S_ 32 2#32)))

/-- The divisor two, as the program's remainder guards it against zero. -/
def two : S_.Idx → BitVec 32 := select (cmpi .eq (constantI S_ 32 2#32) (constantI S_ 32 0#32)) (constantI S_ 32 1#32) (constantI S_ 32 2#32)
/-- The truncated remainder by two. -/
def rem2 (x : S16384x1.Idx → BitVec 32) : S16384x1.Idx → BitVec 32 := Host.remsi x (broadcastInDim S16384x1 ![] bcast_S_S16384x1 two)
/-- The remainder of a column of words by two, as the program computes it. -/
def parity (x : S16384x1.Idx → BitVec 32) : S16384x1.Idx → BitVec 32 :=
  select (andi (cmpi .ne (cmpi .slt (rem2 x) (broadcastInDim S16384x1 ![] bcast_S_S16384x1 (constantI S_ 32 0#32)))
        (broadcastInDim S16384x1 ![] bcast_S_S16384x1 (cmpi .slt two (constantI S_ 32 0#32))))
      (cmpi .ne (rem2 x) (broadcastInDim S16384x1 ![] bcast_S_S16384x1 (constantI S_ 32 0#32))))
    (addi (rem2 x) (broadcastInDim S16384x1 ![] bcast_S_S16384x1 two)) (rem2 x)

section After

variable (V : Valuation τ sig (Elt F))

abbrev rf (r : Ref sig .tc) : DevRef τ sig := Proc.devRef .tc r

set_option maxHeartbeats 2000000 in
theorem after1_v0 : after ops1 V (rf main_v0) = shapeCast S131072x128 (V (rf main_arg0)) shapeCasts_S512x16x32x64_S131072x128 := by
  simp only [ops1, TRef.binary, TRef.nullary, TRef.ternary, TRef.unary, TRef.toBuf, TRef.ofBuf, cast_eq]; after_results <;> rfl

set_option maxHeartbeats 2000000 in
theorem after1_v3 : after ops1 V (rf main_v3) = shapeCast S1x16384 (half (shapeCast S16384 (V (rf main_arg1)) shapeCasts_S1024x16_S16384)) shapeCasts_S16384_S1x16384 := by
  simp only [ops1, TRef.binary, TRef.nullary, TRef.ternary, TRef.unary, TRef.toBuf, TRef.ofBuf, cast_eq]; after_results <;> rfl

set_option maxHeartbeats 2000000 in
theorem after1_arg0 : after ops1 V (rf main_arg0) = V (rf main_arg0) := by
  simp only [ops1, TRef.binary, TRef.nullary, TRef.ternary, TRef.unary, TRef.toBuf, TRef.ofBuf, cast_eq]; after_results <;> rfl

set_option maxHeartbeats 2000000 in
theorem after1_arg1 : after ops1 V (rf main_arg1) = V (rf main_arg1) := by
  simp only [ops1, TRef.binary, TRef.nullary, TRef.ternary, TRef.unary, TRef.toBuf, TRef.ofBuf, cast_eq]; after_results <;> rfl

set_option maxHeartbeats 2000000 in
theorem after2_v6 : after ops2 V (rf main_v6) = parity (shapeCast S16384x1 (V (rf main_arg1)) shapeCasts_S1024x16_S16384x1) := by
  simp only [ops2, TRef.binary, TRef.nullary, TRef.ternary, TRef.unary, TRef.toBuf, TRef.ofBuf, cast_eq]; after_results <;> rfl

set_option maxHeartbeats 2000000 in
theorem after2_arg0 : after ops2 V (rf main_arg0) = V (rf main_arg0) := by
  simp only [ops2, TRef.binary, TRef.nullary, TRef.ternary, TRef.unary, TRef.toBuf, TRef.ofBuf, cast_eq]; after_results <;> rfl

set_option maxHeartbeats 2000000 in
theorem after2_arg1 : after ops2 V (rf main_arg1) = V (rf main_arg1) := by
  simp only [ops2, TRef.binary, TRef.nullary, TRef.ternary, TRef.unary, TRef.toBuf, TRef.ofBuf, cast_eq]; after_results <;> rfl

set_option maxHeartbeats 2000000 in
theorem after2_v4 : after ops2 V (rf main_v4) = V (rf main_v4) := by
  simp only [ops2, TRef.binary, TRef.nullary, TRef.ternary, TRef.unary, TRef.toBuf, TRef.ofBuf, cast_eq]; after_results <;> rfl

set_option maxHeartbeats 2000000 in
theorem after3_v8 : after ops3 V (rf main_v8) = shapeCast S1024x16x64 (V (rf main_v7)) shapeCasts_S16384x64_S1024x16x64 := by
  simp only [ops3, TRef.binary, TRef.nullary, TRef.ternary, TRef.unary, TRef.toBuf, TRef.ofBuf, cast_eq]; after_results <;> rfl

set_option maxHeartbeats 2000000 in
theorem after3_arg0 : after ops3 V (rf main_arg0) = V (rf main_arg0) := by
  simp only [ops3, TRef.binary, TRef.nullary, TRef.ternary, TRef.unary, TRef.toBuf, TRef.ofBuf, cast_eq]; after_results <;> rfl

set_option maxHeartbeats 2000000 in
theorem after3_arg1 : after ops3 V (rf main_arg1) = V (rf main_arg1) := by
  simp only [ops3, TRef.binary, TRef.nullary, TRef.ternary, TRef.unary, TRef.toBuf, TRef.ofBuf, cast_eq]; after_results <;> rfl

end After

end Cert.Proof.Sc

end

end
-- ==== Proof.Region.lean ====
/-
  The parity select as a region of the host program: entered from the gathered pairs, the parities and the result's
  array held at a valuation, left with the result's array at the selected halves.
-/
module

public import proofs.«01_k».proof.Proof.Select
public import proofs.«01_k».proof.Proof.Host
public import Idealize.ShloMosaic.Lib.Pipeline.RegionArrays

@[expose] public section

noncomputable section

namespace Cert.Proof.Sc

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- Prefetched tables: none. -/
abbrev adm : (p : Fin 1) → (pcfgs (F := F) p).Adm := fun p => (cfgs p).toPCfg_adm

/-- The index the staging waits are recorded at. -/
abbrev ιs : HIx 1 := none

variable (W : Dev nD → Valuation τ sig (Elt F))

/-- What the fetches stage. -/
abbrev stgP (c : Dev nD) : (cfg1.win 0).block.Idx → Elt F (cfg1.win 0).elt :=
  ((cfg1.win 0).blk t1_0).view.read (Elt F) (W c (rf main_v4))
abbrev stgQ (c : Dev nD) : (cfg1.win 1).block.Idx → Elt F (cfg1.win 1).elt :=
  ((cfg1.win 1).blk t1_0).view.read (Elt F) (W c (rf main_v6))

/-- The region's proof data: the arrays as entered, the inputs' buffers as fetched, the result's at the selected halves. -/
def dats (_ : Fin 1) (c : Dev nD) : Dat τ (Elt F) (HIx 1) ℕ UU ℕ cfg1 c where
  A w := W c (rf (Pipeline.arrRef spec1 w))
  after w _ := match w with
    | ⟨0, _⟩ => stgP W c
    | ⟨1, _⟩ => stgQ W c
    | ⟨2, _⟩ => k1_pay1 (F := F) (stgP W c) (stgQ W c)
  Φ _ := iprop(emp)
  q _ := fullShare
  owed _ := 0
  recorded _ := {p | (K (F := F)).lev ((c : Thread nD τ), p.1) p.2 ≤ 8}

theorem before_P (c : Dev nD) (x : (cfg1.win 0).block.Idx → Elt F (cfg1.win 0).elt) : (dats W 0 c).before 0 t1_0 x = stgP W c := by
  unfold Dat.before; rw [if_pos (by decide)]; rfl
theorem before_Q (c : Dev nD) (x : (cfg1.win 1).block.Idx → Elt F (cfg1.win 1).elt) : (dats W 0 c).before 1 t1_0 x = stgQ W c := by
  unfold Dat.before; rw [if_pos (by decide)]; rfl

theorem body_obligation (c : Dev nD) : BodyObligation (dats W 0 c) (defs₀ (F := F)) 𝒱₀ ιs Set.univ := fun t => by
  obtain rfl := fin_N1 t
  rw [bigSep_W1, bigSep_W1]
  rw [show (dats W 0 c).Φ t1_0.castSucc = iprop(emp) from rfl, show (dats W 0 c).Φ t1_0.succ = iprop(emp) from rfl,
    show (dats W 0 c).owesAt ιs t1_0.succ = (dats W 0 c).owesAt ιs t1_0.castSucc from rfl]
  iintro ⟨-, HO, ⟨%x0, H0⟩, ⟨%x1, H1⟩, ⟨%x2, H2⟩⟩
  ihave H0 := (Entails.of_eq (congrArg (owns (c : Thread nD τ) _ fullShare) (before_P W c x0))) $$ H0
  ihave H1 := (Entails.of_eq (congrArg (owns (c : Thread nD τ) _ fullShare) (before_Q W c x1))) $$ H1
  iapply (select_body c (stage1_0 0) (hstage1_0 0) (stage1_1 0) (hstage1_1 0) (stage1_2 0) (hstage1_2 0) (stgP W c) (stgQ W c))
  isplitl [H0]; · iexact H0
  isplitl [H1]; · iexact H1
  isplitl [H2]; · iexists _; iexact H2
  iintro ⟨H0, H1, H2⟩
  isplitr; · iempintro
  isplitl [HO]; · iexact HO
  isplitl [H0]; · iexact H0
  isplitl [H1]; · iexact H1
  iexact H2

/-- The valuation the region leaves. -/
abbrev Wend (c : Dev nD) : Valuation τ sig (Elt F) :=
  Function.update (W c) (rf main_v7) (k1_pay1 (F := F) (W c (rf main_v4)) (W c (rf main_v6)))

theorem stgP_eq (c : Dev nD) : stgP W c = W c (rf main_v4) := by
  funext x; unfold stgP; blk_simp
  exact congrArg (W c (rf main_v4)) (funext fun a => Fin.ext (Pipeline.Window.rect_emb_val_of_index_zero win1_0 t1_0 a
    ((by decide +kernel : ∀ a, win1_0.index t1_0 a = 0) a) x))

theorem stgQ_eq (c : Dev nD) : stgQ W c = W c (rf main_v6) := by
  funext x; unfold stgQ; blk_simp
  exact congrArg (W c (rf main_v6)) (funext fun a => Fin.ext (Pipeline.Window.rect_emb_val_of_index_zero win1_1 t1_0 a
    ((by decide +kernel : ∀ a, win1_1.index t1_0 a = 0) a) x))

theorem arr_end (c : Dev nD) (w : Fin cfg1.W) : (dats W 0 c).arrAt w cfg1.N = Wend W c (rf (Pipeline.arrRef spec1 w)) := by
  match w with
  | 0 =>
    rw [(dats W 0 c).arrAt_in 0 rfl]
    exact (Function.update_of_ne (show rf main_v4 ≠ rf main_v7 by decide) _ _).symm
  | 1 =>
    rw [(dats W 0 c).arrAt_in 1 rfl]
    exact (Function.update_of_ne (show rf main_v6 ≠ rf main_v7 by decide) _ _).symm
  | 2 =>
    refine ((dats W 0 c).arrAt_eq_of_after_last 2 t1_0 (by decide +kernel) (k1_pay1 (F := F) (W c (rf main_v4)) (W c (rf main_v6))) fun j => ?_).trans
      (Function.update_self (rf main_v7) _ (W c)).symm
    show k1_pay1 (F := F) (stgP W c) (stgQ W c) _ = _
    rw [stgP_eq, stgQ_eq]
    rfl

/-- What the core owes and has waited for, beside the arrays. -/
abbrev owingT (c : Dev nD) : sProp 𝕄 :=
  iprop(∃ Wd, ⌜(K (F := F)).WBelow (c : Thread nD τ) Wd 8⌝ ∗ owes (c : Thread nD τ) (0 : CellTallies nD τ sig (HIx 1)) Wd)

set_option backward.isDefEq.respectTransparency.types false in
/-- The region. -/
def reg : Pipeline.RegionSeg (pcfgs (F := F)) adm (dats W) ιs defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ _ _ 0 fun _ _ => rfl
  pre c := iprop(StableHlo.held (c : Thread nD τ) (Pipeline.arrRefs spec1) (W c) ∗ owingT c)
  post c := iprop(StableHlo.held (c : Thread nD τ) (Pipeline.arrRefs spec1) (Wend W c) ∗ owingT c)
  X _ := iprop(emp)
  Y _ := iprop(emp)
  Z _ := iprop(emp)
  hentry c := by
    rw [← Pipeline.arrays_held (pcfgs (F := F)) adm (dats W) 0 launch1.toP c ((dats W 0 c).share_full fun _ => rfl) ((dats W 0 c).arrAt · 0) (W c) (fun _ => rfl),
      Pipeline.ownSems0_none, Pipeline.prefHeld_of_none _ rfl]
    iintro ⟨⟨Ha, ⟨%Wd, %hW, HO⟩⟩, -, -⟩
    imodintro
    isplitl [Ha]; · iexact Ha
    isplitr; · iempintro
    isplitl [HO]
    · unfold Pipeline.Dat.owesAt Pipeline.owesWithin
      iexists Wd; isplitr; · ipureintro; exact fun p hp => Or.inl (hW p hp)
      iexact HO
    isplitr; · iempintro
    iempintro
  hin c := by
    iintro -
    iempintro
  hout c := by
    rw [Pipeline.ownSems0_none, show Pipeline.scopedRest (Pipeline.pin (pcfgs (F := F)) adm 0).spec c = iprop(emp) from scopedRest1_eq c]
    iintro -
    isplitr; · iempintro
    isplitr; · iempintro
    iempintro
  hexit c := by
    rw [← Pipeline.arrays_held (pcfgs (F := F)) adm (dats W) 0 launch1.toP c ((dats W 0 c).share_full fun _ => rfl) ((dats W 0 c).arrAt · cfg1.N) (Wend W c) (arr_end W c)]
    iintro ⟨Ha, HO, -, -⟩
    imodintro
    isplitl [Ha]; · iexact Ha
    unfold Pipeline.Dat.owesAt Pipeline.owesWithin
    icases HO with ⟨%Wd, %hW, HO⟩
    iexists Wd
    isplitr
    · ipureintro
      intro p hp
      rcases hW hp with h | ⟨w, s, rfl⟩
      · exact h
      · exact Nat.zero_le _
    iexact HO

end Cert.Proof.Sc

end

end
-- ==== Proof.Calls.lean ====
/-
  The host program's two calls, each from the host's buffers held at a valuation to the buffers held at the valuation it
  leaves: the gather on the SparseCores, the parity select on the TensorCore.
-/
module

public import proofs.«01_k».proof.Proof.Obl
public import proofs.«01_k».proof.Proof.Region

@[expose] public section

noncomputable section

namespace Cert.Proof.Sc

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The handshakes' algebra and the staging rounds', within the proof's. -/
abbrev EH : Emb UH 𝕄 := embL
abbrev EP : Emb UP 𝕄 := (Emb.inl : Emb UP (UP × Counters)).trans embR

abbrev uc : Finset (DevRef τ sig) := Pipeline.ucRefs τ sig

/-- Buffers held outside a set do not see a change within it. -/
theorem held_rest (d : Dev nD) (V : Valuation τ sig (Elt F)) (R : Finset (DevRef τ sig)) (r : DevRef τ sig) (hr : r ∈ R) (x : r.ty.Contents (Elt F)) :
    (StableHlo.held (d : Thread nD τ) (uc \ R) (Function.update V r x) : sProp 𝕄) = StableHlo.held (d : Thread nD τ) (uc \ R) V :=
  StableHlo.held_congr _ fun _ hb => Function.update_of_ne (fun h => (Finset.mem_sdiff.mp hb).2 (by rw [h]; exact hr)) _ _

section Gather

/-- The gather's three arrays. -/
def scRefs : Finset (DevRef τ sig) := {rf main_v0, rf main_v3, rf main_v4}

theorem scRefs_sub : scRefs ⊆ uc := by
  intro b hb
  simp only [scRefs, Finset.mem_insert, Finset.mem_singleton] at hb
  rcases hb with rfl | rfl | rfl <;> exact Finset.mem_filter.mpr ⟨StableHlo.devRef_mem_tcRefs _, by decide⟩

theorem held_sc (d : Dev nD) (V : Valuation τ sig (Elt F)) :
    (StableHlo.held (d : Thread nD τ) scRefs V : sProp 𝕄)
      = iprop((tLoc d ↦{fullShare} V (rf main_v0)) ∗ (iLoc d ↦{fullShare} V (rf main_v3)) ∗ (oLoc d ↦{fullShare} V (rf main_v4))) := by
  unfold StableHlo.held scRefs
  rw [BI.bigSep_insert (by decide), BI.bigSep_insert (by decide), BI.bigSep_singleton]
  rfl

variable (Tb : ∀ d : Dev nD, Buf (Elt F) (tLoc d)) (Ib : ∀ d : Dev nD, Buf (Elt F) (iLoc d))

/-- The gather call. -/
theorem run_gather (κ : GSem nD τ sig → ℕ) (d : Dev nD) (V : Valuation τ sig (Elt F)) (hT : V (rf main_v0) = Tb d) (hI : V (rf main_v3) = Ib d)
    (Φ : PUnit → sProp 𝕄) :
    iprop((K (F := F)).ctx EH (P Tb Ib) κ ∗ (K (F := F)).tcSt EH d 0 ∗ StableHlo.held (d : Thread nD τ) uc V
        ∗ (((K (F := F)).tcSt EH d 1 ∗ StableHlo.held (d : Thread nD τ) uc (Function.update V (rf main_v4) (Gb d (Tb d) (Ib d)))) -∗ Φ ⟨⟩))
      ⊢ wp frame (wpE ((K (F := F)).defs (D (F := F))) 𝒱 (SparseCore.T d) none) Set.univ ((K (F := F)).run d 0) Φ := by
  rw [StableHlo.held_sub_split _ scRefs_sub V, StableHlo.held_sub_split _ scRefs_sub (Function.update V (rf main_v4) (Gb d (Tb d) (Ib d))),
    held_sc, held_sc, Function.update_self, Function.update_of_ne (show rf main_v0 ≠ rf main_v4 by decide),
    Function.update_of_ne (show rf main_v3 ≠ rf main_v4 by decide), hT, hI,
    held_rest d V scRefs (rf main_v4) (by decide)]
  iintro ⟨#Hctx, Hst, ⟨H3, Hr⟩, Hk⟩
  iapply ((K (F := F)).wp_run (D (F := F)) 𝒱 (EH := EH) (P := P Tb Ib) κ d 0) $$ [Hst H3 Hr Hk]
  isplitr; · iexact Hctx
  isplitl [Hst]; · iexact Hst
  isplitl [H3]
  · iapply ((deal d (Tb d) (Ib d) (V (rf main_v4))).trans (Entails.of_eq (bigSep_congr fun c _ => (P_st Tb Ib 0 d c).symm)))
    iexact H3
  iintro ⟨Hst, Hdn⟩
  iapply Hk
  isplitl [Hst]; · iexact Hst
  isplitl [Hdn]
  · iapply ((Entails.of_eq (bigSep_congr fun c _ => P_dn Tb Ib 0 d c)).trans (undeal d (Tb d) (Ib d)))
    iexact Hdn
  iexact Hr

end Gather

section Select

variable (W : Dev nD → Valuation τ sig (Elt F))

theorem selRefs_sub : Pipeline.arrRefs (τ := τ) spec1 ⊆ uc := Pipeline.arrRefs_sub_ucRefs spec1 (by decide)

theorem v7_sel : rf main_v7 ∈ Pipeline.arrRefs (τ := τ) spec1 :=
  Finset.mem_map.mpr ⟨main_v7, Finset.mem_image.mpr ⟨2, Finset.mem_univ _, rfl⟩, rfl⟩

theorem reg_pre (d : Dev nD) : (reg W).pre d = iprop(StableHlo.held (d : Thread nD τ) (Pipeline.arrRefs spec1) (W d) ∗ owingT d) := rfl
theorem reg_post (d : Dev nD) : (reg W).post d = iprop(StableHlo.held (d : Thread nD τ) (Pipeline.arrRefs spec1) (Wend W d) ∗ owingT d) := rfl

set_option backward.isDefEq.respectTransparency.types false in
/-- The parity select, the core owing nothing. -/
theorem run_select₀ [∀ e, Nonempty (Elt F e)] (d : Dev nD) (Φ : PUnit → sProp 𝕄) :
    iprop(levAts (K (F := F)).L (K (F := F)).lev ∗ owingT (F := F) d ∗ boundary (SparseCore.T d : Thread nD τ)
        ∗ StableHlo.held (d : Thread nD τ) (Pipeline.arrRefs spec1) (W d)
        ∗ Pipeline.cellsGhost (Pipeline.pin (pcfgs (F := F)) adm) EP 0 d ∗ Pipeline.toksInit (Pipeline.pin (pcfgs (F := F)) adm) EP 0 d
        ∗ ((owingT (F := F) d ∗ boundary (SparseCore.T d : Thread nD τ) ∗ StableHlo.held (d : Thread nD τ) (Pipeline.arrRefs spec1) (Wend W d)) -∗ Φ ⟨⟩))
      ⊢ wp frame (wpE (D (F := F)) 𝒱 (SparseCore.T d) none) Set.univ (Prog.lift (.customCall (Pipeline.entry 0) ())) Φ := by
  iintro ⟨Hlev, HO, Hb, Hh, Hg, Ht, Hk⟩
  iapply (Pipeline.RegionSeg.wp (pcfgs (F := F)) adm (dats W) ιs cellOf_inj EP defs₀ 𝒱₀ (K (F := F)).L (K (F := F)).lev (reg W) d none (fun _ h => nomatch h))
  isplitl [Hk]
  · iintro ⟨Hb, Hp⟩
    ihave ⟨Hh, HO⟩ := (Entails.of_eq (reg_post W d)) $$ Hp
    rw [wp_ret]
    imodintro
    iapply Hk
    isplitl [HO]; · iexact HO
    isplitl [Hb] <;> iassumption
  isplitl [Hb]; · iexact Hb
  isplitl [Hh HO]
  · iapply (Entails.of_eq (reg_pre W d).symm)
    isplitl [Hh] <;> iassumption
  isplitl [Hlev]; · iexact Hlev
  isplitl [Hg] <;> iassumption

/-- After its one call the TensorCore owes nothing. -/
theorem Otc_one (d : Dev nD) : (K (F := F)).Otc d 1 = 0 := by
  unfold SparseCore.Cfg.Otc
  exact Finset.sum_eq_zero fun q _ => if_neg (by omega)

/-- The call, as the launch theorem's program has it. -/
theorem lift_select : SparseCore.liftProg (Q := 1) (nD := nD) (τ := τ) (sig := sig) (Val := Elt F) (Λ := ΛP (F := F)) (pr := .tc)
    (Prog.lift (.customCall (Pipeline.entry 0) ())) = Prog.lift (.customCall (SparseCore.inner (Pipeline.entry 0)) ()) := rfl

theorem wp_lift_select (d : Dev nD) (Φ : PUnit → sProp 𝕄) :
    wp frame (wpE (D (F := F)) 𝒱 (SparseCore.T d) none) Set.univ (Prog.lift (.customCall (Pipeline.entry 0) ())) Φ
      ⊢ wp frame (wpE ((K (F := F)).defs (D (F := F))) 𝒱 (SparseCore.T d) none) Set.univ
          (Prog.lift (.customCall (SparseCore.inner (Pipeline.entry 0)) ())) Φ := by
  rw [← lift_select]
  exact (K (F := F)).wp_liftProg (D (F := F)) 𝒱 (SparseCore.T d) Set.univ none _ Φ

/-- The parity select as the host program calls it. -/
theorem run_select [∀ e, Nonempty (Elt F e)] (d : Dev nD) (Φ : PUnit → sProp 𝕄) :
    iprop(levAts (K (F := F)).L (K (F := F)).lev ∗ (K (F := F)).tcSt EH d 1 ∗ boundary (SparseCore.T d : Thread nD τ)
        ∗ StableHlo.held (d : Thread nD τ) uc (W d)
        ∗ Pipeline.cellsGhost (Pipeline.pin (pcfgs (F := F)) adm) EP 0 d ∗ Pipeline.toksInit (Pipeline.pin (pcfgs (F := F)) adm) EP 0 d
        ∗ (((K (F := F)).tcSt EH d 1 ∗ boundary (SparseCore.T d : Thread nD τ) ∗ StableHlo.held (d : Thread nD τ) uc (Wend W d)) -∗ Φ ⟨⟩))
      ⊢ wp frame (wpE ((K (F := F)).defs (D (F := F))) 𝒱 (SparseCore.T d) none) Set.univ
          (Prog.lift (.customCall (SparseCore.inner (Pipeline.entry 0)) ())) Φ := by
  rw [StableHlo.held_sub_split _ selRefs_sub (W d), StableHlo.held_sub_split _ selRefs_sub (Wend W d),
    show (StableHlo.held (d : Thread nD τ) (uc \ Pipeline.arrRefs spec1) (Wend W d) : sProp 𝕄) = StableHlo.held (d : Thread nD τ) (uc \ Pipeline.arrRefs spec1) (W d)
      from held_rest d (W d) (Pipeline.arrRefs spec1) (rf main_v7) v7_sel _]
  unfold SparseCore.Cfg.tcSt
  rw [Otc_one]
  refine BIBase.Entails.trans ?_ (wp_lift_select d Φ)
  iintro ⟨Hlev, ⟨HO, Hst⟩, Hb, ⟨Hh, Hr⟩, Hg, Ht, Hk⟩
  iapply (run_select₀ W d Φ)
  isplitl [Hlev]; · iexact Hlev
  isplitl [HO]; · iexact HO
  isplitl [Hb]; · iexact Hb
  isplitl [Hh]; · iexact Hh
  isplitl [Hg]; · iexact Hg
  isplitl [Ht]; · iexact Ht
  iintro ⟨HO, Hb, Hh⟩
  iapply Hk
  isplitl [HO Hst]
  · isplitl [HO]; · iexact HO
    iexact Hst
  isplitl [Hb]; · iexact Hb
  isplitl [Hh] <;> iassumption

end Select

end Cert.Proof.Sc

end

end
-- ==== Proof.Run.lean ====
/-
  The whole program's run: the launch, the host program through its two calls, and what every final memory holds.
-/
module

public import proofs.«01_k».proof.Proof.Calls

@[expose] public section

noncomputable section

namespace Cert.Proof.Sc

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents along the host program -/

/-- At launch; -/
def V0 (d : Dev nD) : Valuation τ sig (Elt F) := fun b => m (d, b)
/-- with the pairs and the pair indices made; -/
def V1 (d : Dev nD) : Valuation τ sig (Elt F) := StableHlo.after ops1 (V0 m d)
/-- the table of pairs and the pair indices; -/
def Tm (d : Dev nD) : Buf (Elt F) (tLoc d) := V1 m d (rf main_v0)
def Im (d : Dev nD) : Buf (Elt F) (iLoc d) := V1 m d (rf main_v3)
/-- with the pairs gathered; -/
def V2 (d : Dev nD) : Valuation τ sig (Elt F) := Function.update (V1 m d) (rf main_v4) (Gb d (Tm m d) (Im m d))
/-- with the parities made; -/
def V3 (d : Dev nD) : Valuation τ sig (Elt F) := StableHlo.after ops2 (V2 m d)
/-- with the halves selected; -/
def V4 (d : Dev nD) : Valuation τ sig (Elt F) := Wend (V3 m) d
/-- with the result in its shape. -/
def V5 (d : Dev nD) : Valuation τ sig (Elt F) := StableHlo.after ops3 (V4 m d)

/-- What the TensorCore ends with. -/
abbrev FIN (d : Dev nD) : sProp 𝕄 := StableHlo.held (d : Thread nD τ) uc (V5 m d)

/-- What the launch sets up for the parity select's staging. -/
abbrev Gs (d : Dev nD) : sProp 𝕄 :=
  iprop(Pipeline.cellsGhost (Pipeline.pin (pcfgs (F := F)) adm) EP 0 d ∗ Pipeline.toksInit (Pipeline.pin (pcfgs (F := F)) adm) EP 0 d)

theorem ops1_uc : ∀ op ∈ (ops1 (F := F)), op.bufs ⊆ uc := fun op h => Pipeline.sub_ucRefs op ((List.forall_iff_forall_mem.mp ops1_sub) op h)
theorem ops2_uc : ∀ op ∈ (ops2 (F := F)), op.bufs ⊆ uc := fun op h => Pipeline.sub_ucRefs op ((List.forall_iff_forall_mem.mp ops2_sub) op h)
theorem ops3_uc : ∀ op ∈ (ops3 (F := F)), op.bufs ⊆ uc := fun op h => Pipeline.sub_ucRefs op ((List.forall_iff_forall_mem.mp ops3_sub) op h)

set_option backward.isDefEq.respectTransparency.types false in
/-- The host program on a TensorCore. -/
theorem hmain [∀ e, Nonempty (Elt F e)] (κ : GSem nD τ sig → ℕ) (d : Dev nD) :
    iprop((K (F := F)).ctx EH (P (Tm m) (Im m)) κ ∗ (K (F := F)).tcSt EH d 0 ∗ (K (F := F)).tcRes m ρ d ∗ Gs (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d : Thread nD τ) uc (V0 m d)
    from Pipeline.unscopedBufs_held d (V0 m d), main_eq]
  iintro ⟨#Hctx, Hst, ⟨Hb, Hh, Hts, -⟩, ⟨Hg, Ht⟩⟩
  iapply (StableHlo.wp_seq 𝒱 none Set.univ d uc _ ops1 ops1_uc ops1_fresh (V0 m d)) $$ [Hb Hh]
  · isplitl [Hb]; · iexact Hb
    iexact Hh
  iintro ⟨Hb, Hh⟩
  rw [wp_bind]
  iapply (run_gather (Tm m) (Im m) κ d (V1 m d) rfl rfl)
  isplitr; · iexact Hctx
  isplitl [Hst]; · iexact Hst
  isplitl [Hh]; · iexact Hh
  iintro ⟨Hst, Hh⟩
  iapply (StableHlo.wp_seq 𝒱 none Set.univ d uc _ ops2 ops2_uc ops2_fresh (V2 m d)) $$ [Hb Hh]
  · isplitl [Hb]; · iexact Hb
    iexact Hh
  iintro ⟨Hb, Hh⟩
  rw [wp_bind]
  iapply (run_select (V3 m) d)
  isplitr; · iapply (SparseCore.Cfg.ctx_levAts κ); iexact Hctx
  isplitl [Hst]; · iexact Hst
  isplitl [Hb]; · iexact Hb
  isplitl [Hh]; · iexact Hh
  isplitl [Hg]; · iexact Hg
  isplitl [Ht]; · iexact Ht
  iintro ⟨Hst, Hb, Hh⟩
  rw [← bind_pure (StableHlo.seq ops3)]
  iapply (StableHlo.wp_seq 𝒱 none Set.univ d uc _ ops3 ops3_uc ops3_fresh (V4 m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb] <;> iassumption

/-! ## The launch -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ bigSep Finset.univ (Gs (F := F))
      ∗ bigSep Finset.univ fun thr : Thread nD τ => bigSep Finset.univ fun q : Fin 1 => (P (Tm m) (Im m)).x q thr) := by
  rw [show (bigSep Finset.univ fun thr : Thread nD τ => bigSep Finset.univ fun q : Fin 1 => (P (Tm m) (Im m)).x q thr)
      = bigSep Finset.univ fun _ : Thread nD τ => iprop(emp) from bigSep_congr fun _ _ => bigSep_univ_of_subsingleton (0 : Fin 1),
    show (bigSep Finset.univ fun _ : Thread nD τ => iprop(emp) : sProp 𝕄) = BI.emp from BI.bigSep_emp_const _]
  unfold u₀
  iintro Hu
  ihave ⟨HH, HR⟩ := (ownU_pair _ _) $$ Hu
  ihave ⟨HP, -⟩ := (own_pair_emb embR _ _) $$ HR
  imod (Pipeline.fund_ghost (Pipeline.pin (pcfgs (F := F)) adm) EP cellOf_inj) $$ HP with ⟨Hg, Ht⟩
  imodintro
  isplitl [HH]; · iexact HH
  isplitl [Hg Ht]
  · iapply (Entails.of_eq (bigSep_sep' Finset.univ (fun c : Dev nD => Pipeline.cellsGhost (Pipeline.pin (pcfgs (F := F)) adm) EP 0 c)
      (fun c : Dev nD => (Pipeline.toksInit (Pipeline.pin (pcfgs (F := F)) adm) EP 0 c : sProp 𝕄))).symm)
    isplitl [Hg]
    · iapply (Entails.of_eq (show (bigSep Finset.univ fun c : Dev nD => bigSep Finset.univ fun p : Fin 1 =>
          (Pipeline.cellsGhost (Pipeline.pin (pcfgs (F := F)) adm) EP p c : sProp 𝕄)) = _ from bigSep_congr fun c _ => bigSep_univ_of_subsingleton (0 : Fin 1)))
      iexact Hg
    iapply (Entails.of_eq (show (bigSep Finset.univ fun c : Dev nD => bigSep Finset.univ fun p : Fin 1 =>
          (Pipeline.toksInit (Pipeline.pin (pcfgs (F := F)) adm) EP p c : sProp 𝕄)) = _ from bigSep_congr fun c _ => bigSep_univ_of_subsingleton (0 : Fin 1)))
    iexact Ht
  iempintro

/-! ## What every final memory holds -/

theorem read_end (d : Dev nD) (b : DevRef τ sig) (hb : b ∈ uc) (s' : Phys nD τ sig (Elt F)) :
    iprop(FIN m d ∗ SI s') ⊢ (⌜s'.mem.mem (d, b) = V5 m d b⌝ : sProp 𝕄) := by
  refine BIBase.Entails.trans (sep_mono_left (bigSep_elim hb)) ?_
  iintro ⟨H, HSI⟩
  icombine HSI H gives %h
  ipureintro
  exact Buf.eq_of_forall_mem_univ h

def fq (d : Dev nD) (s' : Phys nD τ sig (Elt F)) : Prop :=
  s'.mem.mem (d, rf main_arg0) = V5 m d (rf main_arg0) ∧ s'.mem.mem (d, rf main_arg1) = V5 m d (rf main_arg1)
    ∧ s'.mem.mem (d, rf main_v8) = V5 m d (rf main_v8)

theorem mem_uc (r : Ref sig .tc) (h : (rf r).isScoped = false) : rf r ∈ uc :=
  Finset.mem_filter.mpr ⟨StableHlo.devRef_mem_tcRefs _, fun h' => Bool.false_ne_true (h.symm.trans h')⟩

theorem hfin (d : Dev nD) (s' : Phys nD τ sig (Elt F)) : iprop(FIN m d ∗ SI s') ⊢ (⌜fq m d s'⌝ : sProp 𝕄) := by
  iintro H
  ihave ⟨%h0, H⟩ := (persistent_entails_right (read_end m d (rf main_arg0) (mem_uc _ rfl) s')) $$ H
  ihave ⟨%h1, H⟩ := (persistent_entails_right (read_end m d (rf main_arg1) (mem_uc _ rfl) s')) $$ H
  ihave ⟨%h2, -⟩ := (persistent_entails_right (read_end m d (rf main_v8) (mem_uc _ rfl) s')) $$ H
  ipureintro
  exact ⟨h0, h1, h2⟩

/-- What the program's run ends with: the arguments as launched, the result as computed, nothing pending. -/
def QC : PUnit × MemSt nD τ sig (Elt F) → Prop := fun r =>
  (∀ d : Dev nD, r.2.mem (d, rf main_arg0) = V5 m d (rf main_arg0) ∧ r.2.mem (d, rf main_arg1) = V5 m d (rf main_arg1)
    ∧ r.2.mem (d, rf main_v8) = V5 m d (rf main_v8)) ∧ r.2.sem = fun _ => 0

theorem run_main [∀ e, Nonempty (Elt F e)] (hI : ∀ d j, (Im m d j).toNat < 131072) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Tm m) (Im m)) (A := ∅) facts v₀
    (fun q hq => match q with | 0 => nomatch hq)
    (fun q _ => match q with | 0 => tileObl (Tm m) (Im m) hI)
    (fun q _ => match q with | 0 => SparseCore.Cfg.VecSplit.of_plain (vecSplit (Tm m) (Im m)))
    m ρ main (Gs (F := F)) (FIN m) (u₀ (F := F)) (sep_elim_left.trans (hu₀ m)) (hmain m ρ) (fq m) (hfin m) (QC m) (fun _ h hz => ⟨h, hz⟩)

end Cert.Proof.Sc

end

end
-- ==== Proof.Words.lean ====
/-
  The words: a list entry's half and its parity as the program computes them, for an entry that is a row of the table.
-/
module

public import proofs.«01_k».proof.Proof.Host
public import Idealize.ShloMosaic.Lib.Affine

@[expose] public section

noncomputable section

namespace Cert.Proof.Sc

open Cert.KernelIdeal Cert.KernelIdeal.Gen
open Idealize.ShloMosaic

/-- The two reshapes of one array agree at positions of equal row-major rank. -/
theorem cast_at {s t u : Shape} {α : Type} (x : s.Idx → α) (h : s.ShapeCasts t) (h' : s.ShapeCasts u) (i : t.Idx) (j : u.Idx)
    (e : (t.rowMajor i : Nat) = u.rowMajor j) : shapeCast t x h i = shapeCast u x h' j := by
  unfold shapeCast
  exact congrArg x (Shape.reshapeEquiv_eq_of_rowMajor _ ((Shape.rowMajor_reshapeEquiv _ j).trans e.symm))

/-- A reshape reads its operand at the position of equal row-major rank. -/
theorem cast_of {s t : Shape} {α : Type} (x : s.Idx → α) (h : s.ShapeCasts t) (i : t.Idx) (j : s.Idx)
    (e : (s.rowMajor j : Nat) = t.rowMajor i) : shapeCast t x h i = x j := by
  unfold shapeCast
  exact congrArg x (Shape.reshapeEquiv_eq_of_rowMajor _ e)

/-- The quotient of a small word by two. -/
theorem div_two (w : BitVec 32) (hw : w.toNat < 262144) : (IntOp.divsi .host w 2#32).toNat = w.toNat / 2 := by
  have hm : w.msb = false := by rw [BitVec.msb_eq_false_iff_two_mul_lt]; omega
  unfold IntOp.divsi
  rw [if_neg (IntOp.not_corner_of_pos (by decide)), BitVec.sdiv_eq, hm, show (2#32 : BitVec 32).msb = false from by decide]
  show (w / 2#32).toNat = _
  rw [BitVec.toNat_udiv]
  rfl

/-- The program's floor quotient by two, one entry at a time. -/
theorem half_toNat (x : S16384.Idx → BitVec 32) (p : S16384.Idx) (hp : (x p).toNat < 262144) : (half x p).toNat = (x p).toNat / 2 := by
  rw [← div_two (x p) hp]
  have hr : (IntOp.remsi .host (x p) 2#32).toNat = (x p).toNat % 2 := IntOp.toNat_remsi .host (by omega) 2 (by omega) (by omega)
  have hc : ¬ (IntOp.andi (IntOp.cmpi .ne (if x p = 0 then 0 else if (x p).msb then -1 else 1) (1#32))
      (IntOp.cmpi .ne (IntOp.remsi .host (x p) 2#32) 0#32)) = 1#1 := by
    rw [IntOp.andi_eq_one, IntOp.cmpi_ne, IntOp.cmpi_ne]
    rintro ⟨h1, h2⟩
    by_cases h0 : x p = 0
    · apply h2
      apply BitVec.eq_of_toNat_eq
      rw [hr, h0]; rfl
    · have hm : (x p).msb = false := by rw [BitVec.msb_eq_false_iff_two_mul_lt]; omega
      apply h1
      rw [if_neg h0, hm]; rfl
  have hs : (if (2#32 : BitVec 32) = 0 then (0 : BitVec 32) else if (2#32 : BitVec 32).msb then -1 else 1) = 1#32 := by decide
  rw [← hs] at hc
  have : half x p = Scalar.select (IntOp.andi (IntOp.cmpi .ne (if x p = 0 then 0 else if (x p).msb then -1 else 1)
        (if (2#32 : BitVec 32) = 0 then (0 : BitVec 32) else if (2#32 : BitVec 32).msb then -1 else 1))
      (IntOp.cmpi .ne (IntOp.remsi .host (x p) 2#32) 0#32)) (IntOp.subi (IntOp.divsi .host (x p) 2#32) 1#32) (IntOp.divsi .host (x p) 2#32) := rfl
  rw [this]
  exact congrArg BitVec.toNat (if_neg hc)

/-- The program's remainder by two, one entry at a time. -/
theorem parity_toNat (x : S16384x1.Idx → BitVec 32) (p : S16384x1.Idx) (hp : (x p).toNat < 262144) : (parity x p).toNat = (x p).toNat % 2 := by
  have hr : (IntOp.remsi .host (x p) 2#32).toNat = (x p).toNat % 2 := IntOp.toNat_remsi .host (by omega) 2 (by omega) (by omega)
  rw [← hr]
  have hn : ¬ IntOp.cmpi .slt (IntOp.remsi .host (x p) 2#32) 0#32 = 1#1 := by
    rw [IntOp.cmpi_slt, BitVec.toInt_eq_toNat_of_lt (by omega)]
    simp
  have h0 : IntOp.cmpi .slt (IntOp.remsi .host (x p) 2#32) 0#32 = 0#1 := by
    generalize IntOp.cmpi .slt (IntOp.remsi .host (x p) 2#32) 0#32 = c at hn
    revert hn; revert c; decide
  have : parity x p = Scalar.select (IntOp.andi (IntOp.cmpi .ne (IntOp.cmpi .slt (IntOp.remsi .host (x p) 2#32) 0#32) 0#1)
      (IntOp.cmpi .ne (IntOp.remsi .host (x p) 2#32) 0#32)) (IntOp.addi (IntOp.remsi .host (x p) 2#32) 2#32) (IntOp.remsi .host (x p) 2#32) := rfl
  rw [this, h0]
  unfold Scalar.select
  rw [if_neg]
  intro h'
  obtain ⟨h, -⟩ := IntOp.andi_eq_one.mp h'
  revert h; decide

end Cert.Proof.Sc

end

end
-- ==== Proof.Values.lean ====
/-
  The kernel's value: what the run leaves in the result is the table's rows at the list's entries.
-/
module

public import proofs.«01_k».proof.Proof.Run
public import proofs.«01_k».proof.Proof.Words
public import Idealize.ShloMosaic.Lib.Pipeline.Value

@[expose] public section

noncomputable section

namespace Cert.Proof.Sc

open Cert.KernelIdeal Cert.KernelIdeal.Gen
open Idealize.ShloMosaic
open Idealize.ShloMosaic.TcCoe

/-- The shape of the table's rows. -/
abbrev Srows : Shape := ⟨2, ![262144, 64]⟩
theorem casts_rows : S512x16x32x64.ShapeCasts Srows := by decide

/-- The lookup: at (i, j, k), column `k` of the table's row that entry (i, j) names. -/
def Look {α : Type} (T : S512x16x32x64.Idx → α) (e : S1024x16.Idx → BitVec 32) : S1024x16x64.Idx → α := fun x =>
  shapeCast Srows T casts_rows (fun | 0 => Fin.ofNat 262144 (e (fun | 0 => x 0 | 1 => x 1)).toNat | 1 => x 2)

/-- One element of the parity select. -/
theorem k1_at {F : FTy → Type} [FloatOps F] (A : Vec F S16384x128 .f32) (B : Vec F S16384x1 .i32) (p : Fin 16384) (k : Fin 64) :
    k1_pay1 A B (fun | 0 => p | 1 => k)
      = if B (fun | 0 => p | 1 => ⟨0, by decide⟩) = (1#32 : BitVec 32) then A (fun | 0 => p | 1 => (⟨64 + k.val, by omega⟩ : Fin 128))
        else A (fun | 0 => p | 1 => (⟨k.val, by omega⟩ : Fin 128)) := by
  simp only [k1_pay1, shapeCast_self]
  have hb : broadcastTo S16384x64 (cmpi .eq (B : IVec S16384x1 32) (broadcast S16384x1 1#32)) broadcasts_S16384x1_S16384x64 (fun | 0 => p | 1 => k)
      = IntOp.cmpi .eq (B (fun | 0 => p | 1 => ⟨0, by decide⟩) : BitVec 32) 1#32 := by
    unfold broadcastTo
    show IntOp.cmpi .eq (B _) 1#32 = _
    congr 2
    funext a
    match a with
    | ⟨0, _⟩ => rfl
    | ⟨1, _⟩ => rfl
  have h1 : extractStridedSlice S16384x64 ![0, 64] A slices_S16384x128_o0_64_S16384x64 (fun | 0 => p | 1 => k)
      = A (fun | 0 => p | 1 => (⟨64 + k.val, by omega⟩ : Fin 128)) := by
    unfold extractStridedSlice
    congr 1
    funext a
    match a with
    | ⟨0, _⟩ => exact Fin.ext (Nat.zero_add _)
    | ⟨1, _⟩ => rfl
  have h0 : extractStridedSlice S16384x64 ![0, 0] A slices_S16384x128_o0_0_S16384x64 (fun | 0 => p | 1 => k)
      = A (fun | 0 => p | 1 => (⟨k.val, by omega⟩ : Fin 128)) := by
    unfold extractStridedSlice
    congr 1
    funext a
    match a with
    | ⟨0, _⟩ => exact Fin.ext (Nat.zero_add _)
    | ⟨1, _⟩ => exact Fin.ext (Nat.zero_add _)
  show Scalar.select _ _ _ = _
  rw [hb, h1, h0]
  unfold Scalar.select
  exact if_congr IntOp.cmpi_eq rfl rfl

section Run

variable {F : FTy → Type} [FloatOps F] (m : (ℓ : Loc nD τ sig) → Buf (Elt F) ℓ)

/-- Every entry of the list is a row of the table. -/
abbrev InTable : Prop := ∀ (d : Dev nD) (i : S1024x16.Idx), ((m (d, rf main_arg1) : S1024x16.Idx → BitVec 32) i).toNat < 262144

theorem V5_arg0 (d : Dev nD) : V5 m d (rf main_arg0) = m (d, rf main_arg0) := by
  rw [V5, after3_arg0, V4, Wend, Function.update_of_ne (show rf main_arg0 ≠ rf main_v7 by decide), V3, after2_arg0, V2,
    Function.update_of_ne (show rf main_arg0 ≠ rf main_v4 by decide), V1, after1_arg0]
  rfl
theorem V3_arg1 (d : Dev nD) : V2 m d (rf main_arg1) = m (d, rf main_arg1) := by
  rw [V2, Function.update_of_ne (show rf main_arg1 ≠ rf main_v4 by decide), V1, after1_arg1]
  rfl
theorem V5_arg1 (d : Dev nD) : V5 m d (rf main_arg1) = m (d, rf main_arg1) := by
  rw [V5, after3_arg1, V4, Wend, Function.update_of_ne (show rf main_arg1 ≠ rf main_v7 by decide), V3, after2_arg1, V3_arg1]

theorem Im_eq (d : Dev nD) : Im m d = shapeCast S1x16384 (half (shapeCast S16384 (m (d, rf main_arg1)) shapeCasts_S1024x16_S16384)) shapeCasts_S16384_S1x16384 := by
  rw [Im, V1, after1_v3]
  rfl
theorem Tm_eq (d : Dev nD) : Tm m d = shapeCast S131072x128 (m (d, rf main_arg0)) shapeCasts_S512x16x32x64_S131072x128 := by
  rw [Tm, V1, after1_v0]
  rfl

/-- Each pair index is half its entry. -/
theorem Im_at (hI : InTable m) (d : Dev nD) (y : S1x16384.Idx) (z : S1024x16.Idx) (e : (S1024x16.rowMajor z : Nat) = S1x16384.rowMajor y) :
    ((Im m d : S1x16384.Idx → BitVec 32) y).toNat = ((m (d, rf main_arg1) : S1024x16.Idx → BitVec 32) z).toNat / 2 := by
  rw [Im_eq]
  have hz : shapeCast S16384 (m (d, rf main_arg1) : S1024x16.Idx → BitVec 32) shapeCasts_S1024x16_S16384
      (Shape.reshapeEquiv (s := S16384) (s' := S1x16384) shapeCasts_S16384_S1x16384 y) = (m (d, rf main_arg1) : S1024x16.Idx → BitVec 32) z :=
    cast_of _ _ _ _ (e.trans (Shape.rowMajor_reshapeEquiv _ y).symm)
  show (half _ (Shape.reshapeEquiv (s := S16384) (s' := S1x16384) shapeCasts_S16384_S1x16384 y)).toNat = _
  rw [half_toNat _ _ (by rw [hz]; exact hI d z), hz]

theorem Im_lt (hI : InTable m) (d : Dev nD) (y : S1x16384.Idx) : ((Im m d : S1x16384.Idx → BitVec 32) y).toNat < 131072 := by
  have hz := Im_at m hI d y (Shape.reshapeEquiv (s := S1024x16) (s' := S1x16384) (by decide) y) (Shape.rowMajor_reshapeEquiv _ y)
  rw [hz]
  have := hI d (Shape.reshapeEquiv (s := S1024x16) (s' := S1x16384) (by decide) y)
  omega

/-- The result is the lookup. -/
theorem V5_v8 (hI : InTable m) (d : Dev nD) : V5 m d (rf main_v8) = Look (m (d, rf main_arg0)) (m (d, rf main_arg1)) := by
  rw [V5, after3_v8]
  have h7 : V4 m d (rf main_v7) = k1_pay1 (V3 m d (rf main_v4)) (V3 m d (rf main_v6)) := by
    rw [V4, Wend]
    exact Function.update_self ..
  have h4 : V3 m d (rf main_v4) = Gb d (Tm m d) (Im m d) := by
    rw [V3, after2_v4, V2]
    exact Function.update_self ..
  have h6 : V3 m d (rf main_v6) = parity (shapeCast S16384x1 (m (d, rf main_arg1)) shapeCasts_S1024x16_S16384x1) := by
    rw [V3, after2_v6, V3_arg1]
  rw [h7, h4, h6]
  funext x
  obtain ⟨hx0, hx1, hx2⟩ : (x 0).val < 1024 ∧ (x 1).val < 16 ∧ (x 2).val < 64 := ⟨(x 0).isLt, (x 1).isLt, (x 2).isLt⟩
  have hp : (x 0).val * 16 + (x 1).val < 16384 := by omega
  set p : Fin 16384 := ⟨(x 0).val * 16 + (x 1).val, hp⟩
  set z : S1024x16.Idx := fun | 0 => x 0 | 1 => x 1
  set w : BitVec 32 := (m (d, rf main_arg1) : S1024x16.Idx → BitVec 32) z with hw
  have hwl : w.toNat < 262144 := hI d z
  refine (cast_of (s := S16384x64) (t := S1024x16x64) _ shapeCasts_S16384x64_S1024x16x64 x (fun | 0 => p | 1 => x 2)
    (by rw [Shape.rowMajor_val_two, Shape.rowMajor_val_three]; rfl)).trans ?_
  refine (k1_at _ _ p (x 2)).trans ?_
  have hP : (parity (shapeCast S16384x1 (m (d, rf main_arg1) : S1024x16.Idx → BitVec 32) shapeCasts_S1024x16_S16384x1) (fun | 0 => p | 1 => ⟨0, by decide⟩)).toNat
      = w.toNat % 2 := by
    have hz : shapeCast S16384x1 (m (d, rf main_arg1) : S1024x16.Idx → BitVec 32) shapeCasts_S1024x16_S16384x1 (fun | 0 => p | 1 => ⟨0, by decide⟩) = w :=
      cast_of _ _ _ z (by rw [Shape.rowMajor_val_two, Shape.rowMajor_val_two]; show (x 0).val * 16 + (x 1).val = ((x 0).val * 16 + (x 1).val) * 1 + 0; omega)
    rw [parity_toNat _ _ (by rw [hz]; exact hwl), hz]
  have hR : (rowOf (Im m d) p).val = w.toNat / 2 := by
    have := Im_at m hI d (fun | 0 => ⟨0, by decide⟩ | 1 => p) z (by
      rw [Shape.rowMajor_val_two, Shape.rowMajor_val_two]; show (x 0).val * 16 + (x 1).val = 0 * 16384 + ((x 0).val * 16 + (x 1).val); omega)
    refine (congrArg (· % 131072) this).trans ?_
    exact Nat.mod_eq_of_lt (by show w.toNat / 2 < 131072; omega)
  have hG : ∀ c : Fin 128, (Gb d (Tm m d) (Im m d) : S16384x128.Idx → Elt F .f32) (fun | 0 => p | 1 => c)
      = shapeCast S131072x128 (m (d, rf main_arg0)) shapeCasts_S512x16x32x64_S131072x128 (fun | 0 => rowOf (Im m d) p | 1 => c) := by
    intro c
    rw [← Tm_eq]
    rfl
  have hL : (Fin.ofNat 262144 w.toNat).val = w.toNat := Nat.mod_eq_of_lt hwl
  have hk : ∀ (c : Fin 128), 64 * (w.toNat % 2) + (x 2).val = c.val →
      (Gb d (Tm m d) (Im m d) : S16384x128.Idx → Elt F .f32) (fun | 0 => p | 1 => c) = Look (m (d, rf main_arg0)) (m (d, rf main_arg1)) x := by
    intro c hc
    rw [hG, Look]
    refine cast_at _ _ _ _ _ ?_
    rw [Shape.rowMajor_val_two, Shape.rowMajor_val_two]
    show (rowOf (Im m d) p).val * 128 + c.val = (Fin.ofNat 262144 w.toNat).val * 64 + (x 2).val
    rw [hR, hL]; omega
  split
  · next h =>
    have h1 : w.toNat % 2 = 1 := by rw [← hP, h]; rfl
    exact hk _ (by rw [h1])
  · next h =>
    have h1 : w.toNat % 2 = 0 := by
      by_contra hne
      apply h
      apply BitVec.eq_of_toNat_eq
      rw [hP]
      show w.toNat % 2 = 1
      omega
    exact hk _ (by rw [h1]; show 64 * 0 + (x 2).val = (x 2).val; omega)

end Run

end Cert.Proof.Sc

end

end
-- ==== Proof.Lookup.lean ====
/-
  The reference's value: over a table and a list whose entries are rows of the table, its guarded gather is the lookup.
-/
module

public import proofs.«01_k».proof.Proof.Values
public import proofs.«01_k».proof.Proof.Gen.Pre_in_table
public import Idealize.ShloMosaic.Lib.ReduceAll

@[expose] public section

noncomputable section

namespace Cert.Proof.Sc

open Idealize.ShloMosaic
open Cert.KernelIdeal (S1024x16 S1024x16x64 S512x16x32x64)

abbrev Sidx : Shape := ⟨3, ![1024, 16, 1]⟩
abbrev Sone : Shape := ⟨0, ![]⟩

/-- The precondition says that every entry is a row of the table. -/
theorem in_table {F : FTy → Type} [FloatOps F] (T : FVec F S512x16x32x64 .f32) (e : IVec S1024x16 32)
    (h : Cert.Pre_in_table.fn T e = fun _ => 1#1) (i : S1024x16.Idx) : (e i).toNat < 262144 := by
  have h1 := congrFun h (fun a => a.elim0)
  simp only [Cert.Pre_in_table.fn] at h1
  have h2 := Host.reduce_andi_all _ _ _ _ _ h1 i
  change IntOp.andi (IntOp.cmpi .sge (e i) 0#32) (IntOp.cmpi .slt (e i) 262144#32) = 1#1 at h2
  obtain ⟨ha, hb⟩ := IntOp.andi_eq_one.mp h2
  rw [IntOp.cmpi_sge, show (0#32 : BitVec 32).toInt = 0 from rfl] at ha
  rw [IntOp.cmpi_slt, show (262144#32 : BitVec 32).toInt = 262144 from rfl] at hb
  rw [BitVec.toInt_eq_toNat_cond] at ha hb
  have h3 := (e i).isLt
  split at ha
  · next h => rw [if_pos h] at hb; omega
  · next h => omega

section Ref

variable {α : Type}

/-- Reading the gather of whole rows: at (i, j, k), column `k` of the row that start index (i, j) names, clamped into the table. -/
theorem gather_rows (d : GatherDims Srows Sidx S1024x16x64)
    (hoff : d.offsetDims = [2]) (hcoll : d.collapsedSliceDims = [0]) (hob : d.operandBatchingDims = [])
    (hsim : d.startIndexMap = [0]) (hivd : d.indexVectorDim = 2) (hsl : d.sliceSizes 0 = 1)
    (x : Srows.Idx → α) (idx : IVec Sidx 32) (j : S1024x16x64.Idx) :
    Host.gather d x idx j = x (fun | 0 => ⟨min (idx (fun | 0 => j 0 | 1 => j 1 | 2 => ⟨0, Nat.one_pos⟩)).toInt.toNat 262143, Nat.lt_of_le_of_lt (Nat.min_le_right _ _) (by decide)⟩ | 1 => j 2) := by
  unfold Host.gather
  congr 1
  funext a
  match a with
  | ⟨0, _⟩ =>
    apply Fin.ext
    have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    show d.start j idx 0 + d.batchCoord j 0 + d.offCoord j 0 = _
    rw [GatherDims.batchCoord_eq_zero _ _ _ hb, GatherDims.offCoord_eq_zero _ _ _ hk, GatherDims.start, dif_pos hm, hsl]
    show min (idx _).toInt.toNat 262143 = min (idx _).toInt.toNat 262143
    congr 4
    funext b
    have hK : d.siKept = [0, 1] := by
      unfold GatherDims.siKept
      rw [hivd]; decide
    have hB : d.batchDims = [0, 1] := by
      unfold GatherDims.batchDims Shape.kept
      rw [hoff]; decide
    have hS : ∀ (q : Nat) (hq : q < d.batchDims.length) (r : Fin 3), [0, 1][q]? = some r → (j d.batchDims[q]).val = (j r).val := by
      intro q hq r hr
      have : d.batchDims[q]? = some r := by rw [hB]; exact hr
      rw [List.getElem?_eq_getElem hq] at this
      rw [Option.some.inj this]
    match b with
    | ⟨0, _⟩ =>
      unfold GatherDims.siIdx
      rw [dif_neg (by rw [hivd]; exact fun h => absurd h (by simp))]
      unfold GatherDims.siCoord
      apply Fin.ext
      simp only [Fin.val_cast]
      exact hS _ _ 0 (by rw [hK]; rfl)
    | ⟨1, _⟩ =>
      unfold GatherDims.siIdx
      rw [dif_neg (by rw [hivd]; exact fun h => absurd h (by simp))]
      unfold GatherDims.siCoord
      apply Fin.ext
      simp only [Fin.val_cast]
      exact hS _ _ 1 (by rw [hK]; rfl)
    | ⟨2, _⟩ =>
      unfold GatherDims.siIdx
      rw [dif_pos (by rw [hivd])]
      apply Fin.ext
      show List.idxOf (0 : Fin 2) d.startIndexMap = 0
      rw [hsim]; rfl
  | ⟨1, _⟩ =>
    apply Fin.ext
    have hb : (1 : Fin 2) ∉ d.operandBatchingDims := by rw [hob]; exact List.not_mem_nil
    have hk : (1 : Fin 2) ∈ d.sKept := by rw [GatherDims.mem_sKept, hcoll, hob]; decide
    have hm : (1 : Fin 2) ∉ d.startIndexMap := by rw [hsim]; decide
    show d.start j idx 1 + d.batchCoord j 1 + d.offCoord j 1 = _
    rw [GatherDims.batchCoord_eq_zero _ _ _ hb, GatherDims.start, dif_neg hm, GatherDims.offCoord, dif_pos hk]
    have hO : ∀ (q : Nat) (hq : q < d.offsetDims.length), (j d.offsetDims[q]).val = (j 2).val := by
      intro q hq
      have h1 : d.offsetDims[q] ∈ d.offsetDims := List.getElem_mem hq
      have h2 : ∀ r ∈ d.offsetDims, (j r).val = (j 2).val := by
        rw [hoff]; intro r hr; rw [List.mem_singleton.mp hr]
      exact h2 _ h1
    rw [hO]
    show 0 + 0 + (j 2).val = (j 2).val
    omega

/-- A list laid along a new last axis of one, read at an element. -/
theorem bcast_idx (hB : S1024x16.BroadcastsInDim Sidx ![0, 1]) (v : S1024x16.Idx → α) (i : Sidx.Idx) :
    broadcastInDim Sidx ![0, 1] hB v i = v (fun | 0 => i 0 | 1 => i 1) := by
  unfold broadcastInDim
  congr 1
  funext a
  match a with
  | ⟨0, _⟩ => rfl
  | ⟨1, _⟩ => rfl

/-- The start index of an entry that is a row: the entry, as it is. -/
theorem start_at (e : IVec S1024x16 32) (z : BitVec 32) (hz : z = 0#32) (w : BitVec 32) (i : S1024x16.Idx) (he : (e i).toNat < 262144) :
    Scalar.select (IntOp.cmpi .slt (e i) z) (IntOp.addi (e i) w) (e i) = e i := by
  unfold Scalar.select
  refine if_neg fun h => ?_
  have h' := IntOp.cmpi_slt.mp h
  rw [hz, BitVec.toInt_eq_toNat_of_lt (by omega)] at h'
  exact absurd h' (by simp)

/-- The reference's guarded gather is the lookup. -/
theorem ref_lookup (d : GatherDims Srows Sidx S1024x16x64)
    (hoff : d.offsetDims = [2]) (hcoll : d.collapsedSliceDims = [0]) (hob : d.operandBatchingDims = [])
    (hsim : d.startIndexMap = [0]) (hivd : d.indexVectorDim = 2) (hsl : d.sliceSizes 0 = 1)
    (T : S512x16x32x64.Idx → α) (e : IVec S1024x16 32) (he : ∀ i, (e i).toNat < 262144) (N : S1024x16x64.Idx → α)
    (IDX : IVec Sidx 32) (hIDX : ∀ i : Sidx.Idx, IDX i = e (fun | 0 => i 0 | 1 => i 1))
    (lo hi : IVec Sidx 32) (hlo : ∀ i, lo i = 0#32) (hhi : ∀ i, hi i = 262143#32)
    (hc : S512x16x32x64.ShapeCasts Srows) (hr : Sidx.ReducesTo [2] S1024x16) (hu : 0 < Sone.numel)
    (hB : S1024x16.BroadcastsInDim S1024x16x64 ![0, 1]) :
    select (broadcastInDim S1024x16x64 ![0, 1] hB (Host.reduce IntOp.andi (andi (cmpi .sge IDX lo) (cmpi .sle IDX hi)) (constantI Sone 1 1#1) hr hu))
      (Host.gather d (shapeCast Srows T hc) IDX) N = Look T e := by
  funext x
  have hmask : ∀ i, Host.reduce IntOp.andi (andi (cmpi .sge IDX lo) (cmpi .sle IDX hi)) (constantI Sone 1 1#1) hr hu i = 1#1 := by
    intro i
    refine Host.reduce_andi_one _ _ _ _ _ rfl fun k => ?_
    show IntOp.andi (IntOp.cmpi .sge (IDX k) (lo k)) (IntOp.cmpi .sle (IDX k) (hi k)) = 1#1
    have hk := he (fun | 0 => k 0 | 1 => k 1)
    rw [hlo, hhi, hIDX]
    generalize e (fun | 0 => k 0 | 1 => k 1) = w at hk ⊢
    have hw : w.toInt = w.toNat := BitVec.toInt_eq_toNat_of_lt (by omega)
    refine IntOp.andi_eq_one.mpr ⟨IntOp.cmpi_sge.mpr ?_, IntOp.cmpi_sle.mpr ?_⟩
    · rw [hw, show (0#32 : BitVec 32).toInt = 0 from rfl]; omega
    · rw [hw, show (262143#32 : BitVec 32).toInt = 262143 from rfl]; omega
  show Scalar.select (Host.reduce IntOp.andi (andi (cmpi .sge IDX lo) (cmpi .sle IDX hi)) (constantI Sone 1 1#1) hr hu _) _ _ = _
  rw [hmask]
  unfold Scalar.select
  refine (if_pos rfl).trans ?_
  rw [gather_rows d hoff hcoll hob hsim hivd hsl]
  unfold Look
  refine congrArg (shapeCast Srows T hc) (funext fun a => ?_)
  match a with
  | ⟨0, _⟩ =>
    apply Fin.ext
    have hk := he (fun | 0 => x 0 | 1 => x 1)
    show min (IDX _).toInt.toNat 262143 = (e (fun | 0 => x 0 | 1 => x 1)).toNat % 262144
    rw [hIDX]
    show min (e (fun | 0 => x 0 | 1 => x 1)).toInt.toNat 262143 = _
    generalize e (fun | 0 => x 0 | 1 => x 1) = w at hk ⊢
    have hw : w.toInt = w.toNat := BitVec.toInt_eq_toNat_of_lt (by omega)
    rw [hw, Nat.mod_eq_of_lt hk, Int.toNat_natCast]
    omega
  | ⟨1, _⟩ => rfl

end Ref

end Cert.Proof.Sc

end

end
-- ==== Proof.Ends.lean ====
/-
  The four claims' runs: the kernel's and the reference's, each with the lookup as its result.
-/
module

public import proofs.«01_k».proof.Proof.Lookup
public import proofs.«01_k».proof.Proof.Gen.Reference
public import proofs.«01_k».proof.Proof.Gen.Reference.Run
public import proofs.«01_k».proof.Proof.Gen.ReferenceIdeal
public import proofs.«01_k».proof.Proof.Gen.ReferenceIdeal.Run

@[expose] public section

noncomputable section

namespace Cert.Proof.Sc

open Idealize.ShloMosaic
open Idealize.ShloMosaic.TcCoe

section Kernel

open Cert.KernelIdeal

variable {F : FTy → Type} [FloatOps F] [∀ e, Nonempty (Elt F e)]

/-- The kernel's run under the precondition: the result is the lookup, the arguments are unchanged, every counter is zero. -/
theorem kernel_run (m : (ℓ : Loc nD τ sig) → Buf (Elt F) ℓ) (ρ : Dev nD → PrngReg)
    (h : ∀ c : Dev nD, Cert.Pre_in_table.fn (F := F) (m ((c.tc : Thread nD τ).loc main_arg0)) (m ((c.tc : Thread nD τ).loc main_arg1)) = fun _ => 1#1) :
    θ_run (defs (F := F)) (threads (F := F)) ⟨m, fun _ => 0, ρ⟩ (fun r => (∀ c : Dev nD,
      r.2.mem ((c.tc : Thread nD τ).loc main_v8) = Look (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  have hI : InTable m := fun d i => in_table _ _ (h d) i
  refine (θ_run _ _ _).mono (fun r hr => ⟨fun c => ⟨?_, ?_, ?_⟩, hr.2⟩) (run_main m ρ (fun d j => Im_lt m hI d j))
  · exact ((hr.1 c).2.2).trans (V5_v8 m hI c)
  · exact ((hr.1 c).1).trans (V5_arg0 m c)
  · exact ((hr.1 c).2.1).trans (V5_arg1 m c)

end Kernel

section Ref

open Cert.Reference

variable {F : FTy → Type} [FloatOps F]

/-- The reference's run over a list in the table: the result is the lookup. -/
theorem reference_run (m : (ℓ : Loc nD τ sig) → Buf (Elt F) ℓ) (ρ : Dev nD → PrngReg)
    (he : ∀ (c : Dev nD) i, ((m ((c.tc : Thread nD τ).loc main_arg1) : S1024x16.Idx → BitVec 32) i).toNat < 262144) :
    θ_run (defs (F := F)) (onTc (τ := τ) (main (F := F))) ⟨m, fun _ => 0, ρ⟩ (fun r => ∀ c : Dev nD,
      r.2.mem ((c.tc : Thread nD τ).loc main_v1) = Look (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r hr c => ⟨(hr c).1.trans ?_, (hr c).2⟩) (Value.run m ρ)
  refine ref_lookup _ rfl rfl rfl rfl rfl rfl _ _ (he c) _ _ (fun i => ?_) _ _ (fun _ => rfl) (fun _ => rfl) _ _ _ _
  refine (bcast_idx _ _ i).trans ?_
  exact start_at _ _ rfl _ _ (he c _)

end Ref

section RefIdeal

open Cert.ReferenceIdeal

variable {F : FTy → Type} [FloatOps F]

/-- The same run of the idealized reference. -/
theorem referenceIdeal_run (m : (ℓ : Loc nD τ sig) → Buf (Elt F) ℓ) (ρ : Dev nD → PrngReg)
    (he : ∀ (c : Dev nD) i, ((m ((c.tc : Thread nD τ).loc main_arg1) : S1024x16.Idx → BitVec 32) i).toNat < 262144) :
    θ_run (defs (F := F)) (onTc (τ := τ) (main (F := F))) ⟨m, fun _ => 0, ρ⟩ (fun r => ∀ c : Dev nD,
      r.2.mem ((c.tc : Thread nD τ).loc main_v1) = Look (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact reference_run m ρ he

end RefIdeal

end Cert.Proof.Sc

end

end
-- ==== Proof.Same.lean ====
/-
  The program and its idealization are one text: their tables of bodies and their threads are equal over any float values.
-/
module

public import proofs.«01_k».proof.Proof.Gen.Kernel
public import proofs.«01_k».proof.Proof.Gen.KernelIdeal

@[expose] public section

noncomputable section

namespace Cert.Proof.Sc

open Idealize.ShloMosaic

variable {F : FTy → Type} [FloatOps F]

theorem same_gather : Cert.Kernel.cc0_k (F := F) = Cert.KernelIdeal.cc0_k (F := F) := rfl
theorem same_select : Cert.Kernel.cc1__k6_body (F := F) = Cert.KernelIdeal.cc1__k6_body (F := F) := rfl

theorem same_bodies : Cert.Kernel.defs₀ (F := F) = Cert.KernelIdeal.defs₀ (F := F) := by
  funext p l a
  match p, l, a with
  | .scVector c s, ⟨0, _⟩, a => rfl
  | .scVector c s, ⟨1, _⟩, a => rfl
  | .tc, ⟨0, _⟩, a => rfl
  | .tc, ⟨1, _⟩, (t, s) => rfl
  | .scScalar c, ⟨0, _⟩, a => rfl
  | .scScalar c, ⟨1, _⟩, a => rfl

theorem same_defs : Cert.Kernel.defs (F := F) = Cert.KernelIdeal.defs (F := F) :=
  congrArg (fun D => (Cert.KernelIdeal.sc (F := F)).defs (Pipeline.defs Cert.KernelIdeal.pcfgs D)) same_bodies
theorem same_threads : Cert.Kernel.threads (F := F) = Cert.KernelIdeal.threads (F := F) := rfl

end Cert.Proof.Sc

end

end
-- ==== Proof.Stages.lean ====
/-
  The kernels' values as repeated rounds: one round of the cluster pick and one round of the candidate pick as
  functions of the vectors, and the stored values as those rounds' columns side by side.
-/
module

public import proofs.«01_k».proof.Proof.Gen.TopkIdeal.Frame

@[expose] public section

set_option maxRecDepth 16384

noncomputable section

namespace Cert.Proof.Tk

open Cert.TopkIdeal Cert.TopkIdeal.Gen
open Idealize.ShloMosaic

variable {F : FTy → Type} [FloatOps F]

/-! ## The cluster pick -/

/-- The lane numbers of a row of scores. -/
def lanes0 : IVec S1024x512 32 := iota .tc S1024x512 32 [1] iota_S1024x512_d1_w32

/-- The first lane of the row's maximum. -/
def pick0 (s : FVec F S1024x512 .f32) : IVec S1024x1 32 :=
  shapeCast S1024x1 (multiReductionI .minsi [1] S1024
    (select (cmpf .oeq s (broadcastTo S1024x512 (shapeCast S1024x1
      (multiReduction .maximumf [1] S1024 s 0xFF800000#32 reduces_S1024x512_S1024 (.inl rfl) rfl) shapeCasts_S1024_S1024x1) broadcasts_S1024x1_S1024x512))
      lanes0 (broadcast S1024x512 512#32)) 2147483647#32 reduces_S1024x512_S1024 rfl) shapeCasts_S1024_S1024x1

/-- The scores with that lane removed. -/
def drop0 (s : FVec F S1024x512 .f32) : FVec F S1024x512 .f32 :=
  select (cmpi .eq lanes0 (broadcastTo S1024x512 (pick0 s) broadcasts_S1024x1_S1024x512))
    (broadcast S1024x512 (Scalar.ofBits .f32 0xFF800000#32)) s

/-- The scores before round `k`. -/
def at0 (x : FVec F S1024x64 .f32) (p : FVec F S512x64 .f32) : Nat → FVec F S1024x512 .f32
  | 0 => k0_pay2 x p
  | k + 1 => drop0 (at0 x p k)

/-- What the first call stores. -/
def cols0 (x : FVec F S1024x64 .f32) (p : FVec F S512x64 .f32) : IVec S1024x8 32 :=
  concatenate S1024x8 1 [⟨S1024x1, pick0 (at0 x p 0)⟩, ⟨S1024x1, pick0 (at0 x p 1)⟩, ⟨S1024x1, pick0 (at0 x p 2)⟩,
    ⟨S1024x1, pick0 (at0 x p 3)⟩, ⟨S1024x1, pick0 (at0 x p 4)⟩, ⟨S1024x1, pick0 (at0 x p 5)⟩, ⟨S1024x1, pick0 (at0 x p 6)⟩,
    ⟨S1024x1, pick0 (at0 x p 7)⟩]
    concatenates_S1024x1_S1024x1_S1024x1_S1024x1_S1024x1_S1024x1_S1024x1_S1024x1_S1024x8_d1

theorem out0_eq (x0 : Vec F S1024x64 .f32) (x1 : Vec F S512x64 .f32) :
    out0_2 x0 x1 = View.canon [⟨r0_2, cols0 (View.ld x0 r0_0) (View.ld x1 r0_1)⟩] := rfl

/-! ## The candidate pick -/

/-- The row's maximum. -/
def top2 (s : FVec F S64x8192 .f32) : FVec F S64x1 .f32 :=
  shapeCast S64x1 (multiReduction .maximumf [1] S64 s 0xFF800000#32 reduces_S64x8192_S64 (.inl rfl) rfl) shapeCasts_S64_S64x1

/-- Where the row's maximum is. -/
def tops2 (s : FVec F S64x8192 .f32) : IVec S64x8192 1 := cmpf .oeq s (broadcastTo S64x8192 (top2 s) broadcasts_S64x1_S64x8192)

/-- The lane picked: of the maximal ones that of the greatest candidate. -/
def hot2 (cand : IVec S64x8192 32) (s : FVec F S64x8192 .f32) : IVec S64x8192 1 :=
  andi (tops2 s) (cmpi .eq cand (broadcastTo S64x8192 (shapeCast S64x1 (multiReductionI .maxsi [1] S64
    (select (tops2 s) cand (broadcast S64x8192 4294967295#32)) 2147483648#32 reduces_S64x8192_S64 rfl) shapeCasts_S64_S64x1)
    broadcasts_S64x1_S64x8192))

/-- The scores with that lane removed. -/
def drop2 (h : IVec S64x8192 1) (s : FVec F S64x8192 .f32) : FVec F S64x8192 .f32 :=
  select h (broadcast S64x8192 (Scalar.ofBits .f32 0xFF800000#32)) s

/-- The scores before round `k`. -/
def at2 (cand : IVec S64x8192 32) (s : FVec F S64x8192 .f32) : Nat → FVec F S64x8192 .f32
  | 0 => s
  | k + 1 => drop2 (hot2 cand (at2 cand s k)) (at2 cand s k)

/-- The number of the lane picked. -/
def lane2 (io : IVec S64x8192 32) (h : IVec S64x8192 1) : IVec S64x1 32 :=
  shapeCast S64x1 (multiReductionI .minsi [1] S64 (select h io (broadcast S64x8192 8192#32)) 2147483647#32 reduces_S64x8192_S64 rfl)
    shapeCasts_S64_S64x1

/-- The row number at the lane picked. -/
def rid2 (rid : IVec S64x8192 32) (h : IVec S64x8192 1) : IVec S64x1 32 :=
  shapeCast S64x1 (multiReductionI .add [1] S64 (select h rid (broadcast S64x8192 0#32)) 0#32 reduces_S64x8192_S64 rfl)
    shapeCasts_S64_S64x1

/-- A sixteenth, rounded down, of a column of numbers. -/
def sixteenth (v : IVec S64x1 32) : IVec S64x1 32 :=
  select (andi (cmpi .ne (subi (extui 32 (cmpi .sgt v (broadcast S64x1 0#32)) natLt_1_32) (extui 32 (cmpi .slt v (broadcast S64x1 0#32)) natLt_1_32))
      (broadcast S64x1 (Scalar.subi (Scalar.extui (Scalar.cmpi .sgt 16#32 0#32)) (Scalar.extui (Scalar.cmpi .slt 16#32 0#32)))))
      (cmpi .ne (remsi v (broadcast S64x1 16#32)) (broadcast S64x1 0#32)))
    (subi (divsi v (broadcast S64x1 16#32)) (broadcast S64x1 1#32)) (divsi v (broadcast S64x1 16#32))

/-- The remainder. -/
def left16 (v : IVec S64x1 32) : IVec S64x1 32 := subi v (muli (sixteenth v) (broadcast S64x1 16#32))

/-- The id column of a round. -/
def id2 (rid io : IVec S64x8192 32) (h : IVec S64x8192 1) : IVec S64x1 32 :=
  addi (addi (rid2 rid h) (muli (left16 (lane2 io h)) (broadcast S64x1 32#32)))
    (muli (minsi (sixteenth (lane2 io h)) (broadcast S64x1 31#32)) (broadcast S64x1 512#32))

/-- The entry column of a round. -/
def entry2 (rid io : IVec S64x8192 32) (h : IVec S64x8192 1) : IVec S64x1 32 :=
  addi (addi (muli (sixteenth (lane2 io h)) (broadcast S64x1 512#32)) (muli (left16 (lane2 io h)) (broadcast S64x1 32#32))) (rid2 rid h)

/-- Sixteen columns side by side. -/
def side {α : Type} (f : Nat → S64x1.Idx → α) : S64x16.Idx → α :=
  concatenate S64x16 1 [⟨S64x1, f 0⟩, ⟨S64x1, f 1⟩, ⟨S64x1, f 2⟩, ⟨S64x1, f 3⟩, ⟨S64x1, f 4⟩, ⟨S64x1, f 5⟩, ⟨S64x1, f 6⟩, ⟨S64x1, f 7⟩,
    ⟨S64x1, f 8⟩, ⟨S64x1, f 9⟩, ⟨S64x1, f 10⟩, ⟨S64x1, f 11⟩, ⟨S64x1, f 12⟩, ⟨S64x1, f 13⟩, ⟨S64x1, f 14⟩, ⟨S64x1, f 15⟩]
    concatenates_S64x1_S64x1_S64x1_S64x1_S64x1_S64x1_S64x1_S64x1_S64x1_S64x1_S64x1_S64x1_S64x1_S64x1_S64x1_S64x1_S64x16_d1

section
variable (x0 : Vec F S64x8192 .f32) (x1 : Vec F S64x8192 .i32) (x2 : Vec F S64x8 .i32)

/-- The scores before round `k`, and the lane picked in it. -/
abbrev sc (k : Nat) : FVec F S64x8192 .f32 := at2 (k2_pay198 x0 x1 x2) (k2_pay199 x0 x1 x2) k
abbrev ho (k : Nat) : IVec S64x8192 1 := hot2 (k2_pay198 x0 x1 x2) (sc x0 x1 x2 k)

theorem h0 : k2_pay201 x0 x1 x2 = ho x0 x1 x2 0 := rfl
theorem s1 : k2_pay203 x0 x1 x2 = sc x0 x1 x2 1 := rfl
theorem h1 : k2_pay204 x0 x1 x2 = hot2 (k2_pay198 x0 x1 x2) (k2_pay203 x0 x1 x2) := rfl
theorem s2 : k2_pay209 x0 x1 x2 = drop2 (k2_pay204 x0 x1 x2) (k2_pay203 x0 x1 x2) := rfl
theorem h2 : k2_pay210 x0 x1 x2 = hot2 (k2_pay198 x0 x1 x2) (k2_pay209 x0 x1 x2) := rfl
theorem s3 : k2_pay212 x0 x1 x2 = drop2 (k2_pay210 x0 x1 x2) (k2_pay209 x0 x1 x2) := rfl
theorem h3 : k2_pay213 x0 x1 x2 = hot2 (k2_pay198 x0 x1 x2) (k2_pay212 x0 x1 x2) := rfl
theorem s4 : k2_pay217 x0 x1 x2 = drop2 (k2_pay213 x0 x1 x2) (k2_pay212 x0 x1 x2) := rfl
theorem h4 : k2_pay218 x0 x1 x2 = hot2 (k2_pay198 x0 x1 x2) (k2_pay217 x0 x1 x2) := rfl
theorem s5 : k2_pay223 x0 x1 x2 = drop2 (k2_pay218 x0 x1 x2) (k2_pay217 x0 x1 x2) := rfl
theorem h5 : k2_pay226 x0 x1 x2 = hot2 (k2_pay198 x0 x1 x2) (k2_pay223 x0 x1 x2) := rfl
theorem s6 : k2_pay227 x0 x1 x2 = drop2 (k2_pay226 x0 x1 x2) (k2_pay223 x0 x1 x2) := rfl
theorem h6 : k2_pay228 x0 x1 x2 = hot2 (k2_pay198 x0 x1 x2) (k2_pay227 x0 x1 x2) := rfl
theorem s7 : k2_pay234 x0 x1 x2 = drop2 (k2_pay228 x0 x1 x2) (k2_pay227 x0 x1 x2) := rfl
theorem h7 : k2_pay235 x0 x1 x2 = hot2 (k2_pay198 x0 x1 x2) (k2_pay234 x0 x1 x2) := rfl
theorem s8 : k2_pay238 x0 x1 x2 = drop2 (k2_pay235 x0 x1 x2) (k2_pay234 x0 x1 x2) := rfl
theorem h8 : k2_pay240 x0 x1 x2 = hot2 (k2_pay198 x0 x1 x2) (k2_pay238 x0 x1 x2) := rfl
theorem s9 : k2_pay244 x0 x1 x2 = drop2 (k2_pay240 x0 x1 x2) (k2_pay238 x0 x1 x2) := rfl
theorem h9 : k2_pay245 x0 x1 x2 = hot2 (k2_pay198 x0 x1 x2) (k2_pay244 x0 x1 x2) := rfl
theorem s10 : k2_pay250 x0 x1 x2 = drop2 (k2_pay245 x0 x1 x2) (k2_pay244 x0 x1 x2) := rfl
theorem h10 : k2_pay251 x0 x1 x2 = hot2 (k2_pay198 x0 x1 x2) (k2_pay250 x0 x1 x2) := rfl
theorem s11 : k2_pay253 x0 x1 x2 = drop2 (k2_pay251 x0 x1 x2) (k2_pay250 x0 x1 x2) := rfl
theorem h11 : k2_pay254 x0 x1 x2 = hot2 (k2_pay198 x0 x1 x2) (k2_pay253 x0 x1 x2) := rfl
theorem s12 : k2_pay259 x0 x1 x2 = drop2 (k2_pay254 x0 x1 x2) (k2_pay253 x0 x1 x2) := rfl
theorem h12 : k2_pay260 x0 x1 x2 = hot2 (k2_pay198 x0 x1 x2) (k2_pay259 x0 x1 x2) := rfl
theorem s13 : k2_pay264 x0 x1 x2 = drop2 (k2_pay260 x0 x1 x2) (k2_pay259 x0 x1 x2) := rfl
theorem h13 : k2_pay267 x0 x1 x2 = hot2 (k2_pay198 x0 x1 x2) (k2_pay264 x0 x1 x2) := rfl
theorem s14 : k2_pay269 x0 x1 x2 = drop2 (k2_pay267 x0 x1 x2) (k2_pay264 x0 x1 x2) := rfl
theorem h14 : k2_pay270 x0 x1 x2 = hot2 (k2_pay198 x0 x1 x2) (k2_pay269 x0 x1 x2) := rfl
theorem h15 : k2_pay275 x0 x1 x2 = hot2 (k2_pay198 x0 x1 x2) (drop2 (k2_pay270 x0 x1 x2) (k2_pay269 x0 x1 x2)) := rfl
theorem out3_eq : out2_3 x0 x1 x2 = View.canon [⟨r2_2, side fun k => top2 (sc x0 x1 x2 k)⟩] := rfl

theorem out4_eq : out2_4 x0 x1 x2 = View.canon [⟨r2_2, side fun k => id2 (k2_pay194 x0 x1 x2) (k2_pay192 x0 x1 x2) (ho x0 x1 x2 k)⟩] := rfl

theorem out5_eq : out2_5 x0 x1 x2 = View.canon [⟨r2_2, side fun k => entry2 (k2_pay194 x0 x1 x2) (k2_pay192 x0 x1 x2) (ho x0 x1 x2 k)⟩] := rfl
end

/-! ## The scores of one value of each row, and the running best -/

/-- The products of the queries with one column block. -/
def dot1 (x tb : FVec F S1024x64 .f32) : FVec F S1024x1024 .f32 :=
  matmul dot_S1024x64_S1024x64_S1024x1024_1_1_0_0_n_n none x (shapeCast S1024x64 tb shapeCasts_S1024x64_S1024x64)
    (constant S1024x1024 .f32 0x00000000#32)

/-- The best of the first `k + 1`. -/
def best1 (f : Nat → FVec F S1024x1024 .f32) : Nat → FVec F S1024x1024 .f32
  | 0 => f 0
  | k + 1 => select (cmpf .ogt (f (k + 1)) (best1 f k)) (f (k + 1)) (best1 f k)

/-- Which of the first `k + 1` it is. -/
def which1 (f : Nat → FVec F S1024x1024 .f32) : Nat → IVec S1024x1024 32
  | 0 => broadcast S1024x1024 0#32
  | k + 1 => select (cmpf .ogt (f (k + 1)) (best1 f k)) (broadcast S1024x1024 (BitVec.ofNat 32 (k + 1))) (which1 f k)

/-- The column blocks of a block of table rows. -/
def block1 (x1 : Vec F S1024x2048 .f32) : Nat → FVec F S1024x64 .f32
  | 0 => View.ld x1 r1_1
  | 1 => View.ld x1 r1_2
  | 2 => View.ld x1 r1_3
  | 3 => View.ld x1 r1_4
  | 4 => View.ld x1 r1_5
  | 5 => View.ld x1 r1_6
  | 6 => View.ld x1 r1_7
  | 7 => View.ld x1 r1_8
  | 8 => View.ld x1 r1_9
  | 9 => View.ld x1 r1_10
  | 10 => View.ld x1 r1_11
  | 11 => View.ld x1 r1_12
  | 12 => View.ld x1 r1_13
  | 13 => View.ld x1 r1_14
  | 14 => View.ld x1 r1_15
  | 15 => View.ld x1 r1_16
  | 16 => View.ld x1 r1_17
  | 17 => View.ld x1 r1_18
  | 18 => View.ld x1 r1_19
  | 19 => View.ld x1 r1_20
  | 20 => View.ld x1 r1_21
  | 21 => View.ld x1 r1_22
  | 22 => View.ld x1 r1_23
  | 23 => View.ld x1 r1_24
  | 24 => View.ld x1 r1_25
  | 25 => View.ld x1 r1_26
  | 26 => View.ld x1 r1_27
  | 27 => View.ld x1 r1_28
  | 28 => View.ld x1 r1_29
  | 29 => View.ld x1 r1_30
  | 30 => View.ld x1 r1_31
  | 31 => View.ld x1 r1_32
  | _ => View.ld x1 r1_1

/-- The products with each. -/
abbrev prods (x0 : Vec F S1024x64 .f32) (x1 : Vec F S1024x2048 .f32) (v : Nat) : FVec F S1024x1024 .f32 :=
  dot1 (View.ld x0 r1_0) (block1 x1 v)

section
variable (x0 : Vec F S1024x64 .f32) (x1 : Vec F S1024x2048 .f32)

theorem b4 : k1_pay102 x0 x1 = best1 (prods x0 x1) 4 := rfl
theorem b10 : k1_pay104 x0 x1 = best1 (prods x0 x1) 10 := by unfold k1_pay104; rw [b4]; rfl
theorem b15 : k1_pay105 x0 x1 = best1 (prods x0 x1) 15 := by unfold k1_pay105; rw [b10]; rfl
theorem b21 : k1_pay106 x0 x1 = best1 (prods x0 x1) 21 := by unfold k1_pay106; rw [b15]; rfl
theorem b26 : k1_pay107 x0 x1 = best1 (prods x0 x1) 26 := by unfold k1_pay107; rw [b21]; rfl
theorem b31 : k1_pay100 (View.ld x0 r1_0) (best1 (prods x0 x1) 26) (View.ld x1 r1_28) (View.ld x1 r1_29) (View.ld x1 r1_30) (View.ld x1 r1_31) (View.ld x1 r1_32) = best1 (prods x0 x1) 31 := rfl
theorem w4 : k1_pay14 (View.ld x0 r1_0) (View.ld x1 r1_1) (View.ld x1 r1_2) (View.ld x1 r1_3) (View.ld x1 r1_4) (View.ld x1 r1_5) = which1 (prods x0 x1) 4 := rfl
theorem w9 : k1_pay31 (View.ld x0 r1_0) (best1 (prods x0 x1) 4) (which1 (prods x0 x1) 4) (k1_pay103 x0 x1) (View.ld x1 r1_7) (View.ld x1 r1_8) (View.ld x1 r1_9) (View.ld x1 r1_10) = which1 (prods x0 x1) 9 := rfl
theorem w15 : k1_pay50 (View.ld x0 r1_0) (which1 (prods x0 x1) 9) (k1_pay33 (View.ld x0 r1_0) (best1 (prods x0 x1) 4) (k1_pay103 x0 x1) (View.ld x1 r1_7) (View.ld x1 r1_8) (View.ld x1 r1_9) (View.ld x1 r1_10) (View.ld x1 r1_11)) (best1 (prods x0 x1) 10) 10#32 (View.ld x1 r1_12) (View.ld x1 r1_13) (View.ld x1 r1_14) (View.ld x1 r1_15) (View.ld x1 r1_16) = which1 (prods x0 x1) 15 := rfl
theorem w20 : k1_pay66 (View.ld x0 r1_0) (best1 (prods x0 x1) 15) (which1 (prods x0 x1) 15) (View.ld x1 r1_17) (View.ld x1 r1_18) (View.ld x1 r1_19) (View.ld x1 r1_20) (View.ld x1 r1_21) = which1 (prods x0 x1) 20 := rfl
theorem w26 : k1_pay85 (View.ld x0 r1_0) (which1 (prods x0 x1) 20) (k1_pay68 (View.ld x0 r1_0) (best1 (prods x0 x1) 15) (View.ld x1 r1_17) (View.ld x1 r1_18) (View.ld x1 r1_19) (View.ld x1 r1_20) (View.ld x1 r1_21) (View.ld x1 r1_22)) (best1 (prods x0 x1) 21) (View.ld x1 r1_23) (View.ld x1 r1_24) (View.ld x1 r1_25) (View.ld x1 r1_26) (View.ld x1 r1_27) = which1 (prods x0 x1) 26 := rfl
theorem w31 : k1_pay101 (View.ld x0 r1_0) (best1 (prods x0 x1) 26) (which1 (prods x0 x1) 26) (View.ld x1 r1_28) (View.ld x1 r1_29) (View.ld x1 r1_30) (View.ld x1 r1_31) (View.ld x1 r1_32) = which1 (prods x0 x1) 31 := rfl

theorem out12_eq : out1_2 x0 x1 = View.canon [⟨r1_33, best1 (prods x0 x1) 31⟩] := by
  unfold out1_2; rw [b26, b31]

theorem out13_eq : out1_3 x0 x1 = View.canon [⟨r1_33, which1 (prods x0 x1) 31⟩] := by
  unfold out1_3; rw [b4, b10, b15, b21, b26, w4, w9, w15, w20, w26, w31]
end

end Cert.Proof.Tk

end
-- ==== Proof.Folds.lean ====
/-
  Reductions over a row that one position decides: the maximum is the value at a greatest position, a signed minimum
  or maximum of words the extreme word, a sum of which all other terms vanish the one term.
-/
module

public import Idealize.ShloMosaic.Lib.Pointwise

@[expose] public section

noncomputable section

namespace Cert.Proof.Tk

open Idealize.ShloMosaic

/-- A fold that one term absorbs is that term. -/
theorem fold_absorb {n : Nat} {β : Type} (op : β → β → β) [Std.Commutative op] [Std.Associative op] (b : β) (f : Fin n → β)
    (p : Fin n) (hb : op (f p) b = f p) (h : ∀ l, l ≠ p → op (f p) (f l) = f p) : Finset.univ.fold op b f = f p := by
  classical
  have step : ∀ s : Finset (Fin n), p ∉ s → op (f p) (s.fold op b f) = f p := by
    intro s
    induction s using Finset.induction_on with
    | empty => intro _; rw [Finset.fold_empty]; exact hb
    | insert a s ha ih =>
      intro hp
      rw [Finset.mem_insert, not_or] at hp
      rw [Finset.fold_insert ha, ← Std.Associative.assoc (op := op), h a (Ne.symm hp.1)]
      exact ih hp.2
  have e := step (Finset.univ.erase p) (Finset.notMem_erase p _)
  rw [← Finset.insert_erase (Finset.mem_univ p), Finset.fold_insert (Finset.notMem_erase p _)]
  exact e

theorem bot_word : Ideal.ofBits FTy.f32 4286578688#32 = ⊥ := by
  simp [Ideal.ofBits, Ideal.ieee]

/-- The maximum of a row. -/
theorem fold_max_eq {n : Nat} (f : Fin n → EReal) (p : Fin n) (h : ∀ l, f l ≤ f p) :
    Finset.univ.fold max (Ideal.ofBits FTy.f32 4286578688#32) f = f p := by
  rw [bot_word]
  exact fold_absorb max ⊥ f p (max_eq_left bot_le) (fun l _ => max_eq_left (h l))

theorem min_word {a b : Nat} (h : a ≤ b) (hb : b < 2 ^ 31) :
    IntOp.minsi (BitVec.ofNat 32 a) (BitVec.ofNat 32 b) = BitVec.ofNat 32 a := by
  have ea : (BitVec.ofNat 32 a).toInt = a := by rw [BitVec.toInt_ofNat']; exact Int.bmod_eq_of_le (by omega) (by omega)
  have eb : (BitVec.ofNat 32 b).toInt = b := by rw [BitVec.toInt_ofNat']; exact Int.bmod_eq_of_le (by omega) (by omega)
  unfold IntOp.minsi
  split
  · rfl
  · rename_i hn
    simp only [BitVec.slt, ea, eb, decide_eq_true_eq, not_lt] at hn
    rw [show a = b by omega]

theorem max_word {a b : Nat} (h : b ≤ a) (ha : a < 2 ^ 31) :
    IntOp.maxsi (BitVec.ofNat 32 a) (BitVec.ofNat 32 b) = BitVec.ofNat 32 a := by
  have ea : (BitVec.ofNat 32 a).toInt = a := by rw [BitVec.toInt_ofNat']; exact Int.bmod_eq_of_le (by omega) (by omega)
  have eb : (BitVec.ofNat 32 b).toInt = b := by rw [BitVec.toInt_ofNat']; exact Int.bmod_eq_of_le (by omega) (by omega)
  unfold IntOp.maxsi
  split
  · rfl
  · rename_i hn
    simp only [BitVec.slt, ea, eb, decide_eq_true_eq, not_lt] at hn
    rw [show a = b by omega]

theorem max_neg {a : Nat} (ha : a < 2 ^ 31) (v : BitVec 32) (hv : v.toInt < 0) :
    IntOp.maxsi (BitVec.ofNat 32 a) v = BitVec.ofNat 32 a := by
  have ea : (BitVec.ofNat 32 a).toInt = a := by rw [BitVec.toInt_ofNat']; exact Int.bmod_eq_of_le (by omega) (by omega)
  unfold IntOp.maxsi
  rw [if_pos]
  simp only [BitVec.slt, ea, decide_eq_true_eq]
  omega

/-- A choice by an equation of words. -/
theorem sel_eq {α : Type} (x y : BitVec 32) (a b : α) : Scalar.select (IntOp.cmpi .eq x y) a b = if x = y then a else b := by
  change (if BitVec.ofBool (x == y) = 1 then a else b) = _
  by_cases h : x = y
  · rw [if_pos h, beq_iff_eq.mpr h]; rfl
  · rw [if_neg h, beq_eq_false_iff_ne.mpr h]; rfl

theorem word_inj {a b : Nat} (ha : a < 2 ^ 32) (hb : b < 2 ^ 32) : BitVec.ofNat 32 a = BitVec.ofNat 32 b ↔ a = b := by
  refine ⟨fun e => ?_, fun e => by rw [e]⟩
  have := congrArg BitVec.toNat e
  rwa [BitVec.toNat_ofNat, BitVec.toNat_ofNat, Nat.mod_eq_of_lt ha, Nat.mod_eq_of_lt hb] at this

end Cert.Proof.Tk

end
-- ==== Proof.Rank.lean ====
/-
  Sorting and picking by rank. The rank of a position under a strict total order is the number of positions before
  it; a stable sort puts at each place the position of that rank, and repeated picking of the greatest key, each
  pick being removed, finds the positions in the order of their ranks.
-/
module

public import Idealize.ShloMosaic.Lib.SortFacts

@[expose] public section

noncomputable section

namespace Cert.Proof.Tk

open Idealize.ShloMosaic

/-- A strict total order on the positions. -/
structure Strict {n : Nat} (B : Fin n → Fin n → Prop) : Prop where
  irrefl : ∀ a, ¬ B a a
  trans : ∀ a b c, B a b → B b c → B a c
  total : ∀ a b, a ≠ b → B a b ∨ B b a

open Classical in
/-- How many positions come strictly before. -/
def rank {n : Nat} (B : Fin n → Fin n → Prop) (a : Fin n) : Nat := (Finset.univ.filter fun b => B b a).card

open Classical in
theorem rank_zero_of {n : Nat} {B : Fin n → Fin n → Prop} {a : Fin n} (h : ∀ b, ¬ B b a) : rank B a = 0 := by
  unfold rank
  rw [Finset.card_eq_zero, Finset.filter_eq_empty_iff]
  exact fun b _ => h b

theorem rank_lt_of {n : Nat} {B : Fin n → Fin n → Prop} (hB : Strict B) {a b : Fin n} (h : B a b) : rank B a < rank B b := by
  classical
  unfold rank
  refine Finset.card_lt_card ⟨fun c hc => ?_, fun hs => ?_⟩
  · simp only [Finset.mem_filter, Finset.mem_univ, true_and] at hc ⊢
    exact hB.trans c a b hc h
  · have := hs (by simp [h] : a ∈ _)
    simp only [Finset.mem_filter, Finset.mem_univ, true_and] at this
    exact hB.irrefl a this

theorem rank_inj {n : Nat} {B : Fin n → Fin n → Prop} (hB : Strict B) {a b : Fin n} (h : rank B a = rank B b) : a = b := by
  by_contra hne
  rcases hB.total a b hne with h' | h'
  · exact absurd (rank_lt_of hB h') (by omega)
  · exact absurd (rank_lt_of hB h') (by omega)

/-- A position of no smaller rank is the position itself or comes after it. -/
theorem eq_or_before {n : Nat} {B : Fin n → Fin n → Prop} (hB : Strict B) {a b : Fin n} (h : rank B a ≤ rank B b) :
    b = a ∨ B a b := by
  by_cases hne : b = a
  · exact .inl hne
  · rcases hB.total a b (Ne.symm hne) with h' | h'
    · exact .inr h'
    · exact absurd (rank_lt_of hB h') (by omega)

/-- An enumeration in order enumerates by rank. -/
theorem rank_of_mono {n : Nat} {B : Fin n → Fin n → Prop} (hB : Strict B) (f : Fin n → Fin n) (hf : Function.Bijective f)
    (hm : ∀ i j, i < j → B (f i) (f j)) (k : Fin n) : rank B (f k) = k.val := by
  classical
  have e : (Finset.univ.filter fun b => B b (f k)) = (Finset.univ.filter fun i => i < k).map ⟨f, hf.1⟩ := by
    ext b
    obtain ⟨i, rfl⟩ := hf.2 b
    simp only [Finset.mem_filter, Finset.mem_univ, true_and, Finset.mem_map, Function.Embedding.coeFn_mk]
    constructor
    · intro h
      refine ⟨i, ?_, rfl⟩
      rcases lt_trichotomy i k with h' | rfl | h'
      · exact h'
      · exact absurd h (hB.irrefl _)
      · exact absurd (hB.trans _ _ _ h (hm k i h')) (hB.irrefl _)
    · rintro ⟨j, hj, e⟩
      rw [← hf.1 e]
      exact hm j k hj
  unfold rank
  rw [e, Finset.card_map, show (Finset.univ.filter fun i => i < k) = Finset.Iio k from by ext i; rw [Finset.mem_filter, Finset.mem_Iio]; simp, Fin.card_Iio]

/-- Smaller key first, and of equal keys the smaller position. -/
def Up {n : Nat} {α : Type} [LinearOrder α] (x : Fin n → α) (a b : Fin n) : Prop := x a < x b ∨ (x a = x b ∧ a < b)

theorem strict_up {n : Nat} {α : Type} [LinearOrder α] (x : Fin n → α) : Strict (Up x) where
  irrefl a h := by rcases h with h | h; exacts [lt_irrefl _ h, lt_irrefl _ h.2]
  trans a b c h h' := by
    rcases h with h | ⟨h, h2⟩ <;> rcases h' with h' | ⟨h', h2'⟩
    · exact .inl (h.trans h')
    · exact .inl (h' ▸ h)
    · exact .inl (h ▸ h')
    · exact .inr ⟨h.trans h', h2.trans h2'⟩
  total a b hne := by
    rcases lt_trichotomy (x a) (x b) with h | h | h
    · exact .inl (.inl h)
    · rcases lt_or_gt_of_ne hne with h' | h'
      · exact .inl (.inr ⟨h, h'⟩)
      · exact .inr (.inr ⟨h.symm, h'⟩)
    · exact .inr (.inl h)

/-- Greater key first, and of equal keys the smaller position. -/
def Down {n : Nat} {α : Type} [LinearOrder α] (x : Fin n → α) (a b : Fin n) : Prop := x b < x a ∨ (x a = x b ∧ a < b)

theorem strict_down {n : Nat} {α : Type} [LinearOrder α] (x : Fin n → α) : Strict (Down x) :=
  strict_up (fun i => OrderDual.toDual (x i))

/-- Greater key first, and of equal keys the greater position. -/
def Back {n : Nat} {α : Type} [LinearOrder α] (x : Fin n → α) (a b : Fin n) : Prop := Up x b a

theorem strict_back {n : Nat} {α : Type} [LinearOrder α] (x : Fin n → α) : Strict (Back x) where
  irrefl a h := (strict_up x).irrefl a h
  trans a b c h h' := (strict_up x).trans c b a h' h
  total a b hne := (strict_up x).total b a (Ne.symm hne)

/-- A sort that never swaps equal keys orders equal keys by position. -/
theorem stableSort_up {n : Nat} {α : Type} [LinearOrder α] (x : Fin n → α) (R R' : Fin n → Fin n → Bool)
    (hR : ∀ a b, R a b = true ↔ x a < x b) (hR' : ∀ a b, R' a b = true ↔ Up x a b) (l : List (Fin n)) (hl : l.Pairwise (· < ·)) :
    stableSort R l = stableSort R' l := by
  induction l with
  | nil => rfl
  | cons a l ih =>
    rw [List.pairwise_cons] at hl
    unfold stableSort
    rw [ih hl.2]
    refine insertBefore_congr R R' a _ fun b hb => ?_
    have hab : a < b := hl.1 b ((perm_stableSort R' l).mem_iff.mp hb)
    rw [Bool.eq_iff_iff, hR, hR']
    constructor
    · exact .inl
    · rintro (h | h)
      · exact h
      · exact absurd h.2 (by omega)

/-- The stable sort's places hold the positions in order. -/
theorem sorted_up {n : Nat} {α : Type} [LinearOrder α] (x : Fin n → α) (R : Fin n → Fin n → Bool)
    (hR : ∀ a b, R a b = true ↔ x a < x b) (i j : Fin n) (hij : i < j) : Up x (sortedFrom R i) (sortedFrom R j) := by
  classical
  have e : sortedFrom R = sortedFrom (fun a b => decide (Up x a b)) := by
    funext k
    unfold sortedFrom
    have h : sortPositions n R = sortPositions n (fun a b => decide (Up x a b)) :=
      stableSort_up x R _ hR (fun a b => decide_eq_true_iff) (List.finRange n) (List.pairwise_lt_finRange n)
    rw [List.get_of_eq h]
    rfl
  have hs := strict_up x
  have h := sortedFrom_noInversion (fun a b => decide (Up x a b)) (fun a b => decide (Up x a b))
    (fun a b h => by
      simp only [decide_eq_true_eq, decide_eq_false_iff_not] at h ⊢
      exact fun h' => hs.irrefl _ (hs.trans _ _ _ h h'))
    (fun _ _ h => h)
    (fun a b c h h' => by
      simp only [decide_eq_false_iff_not] at h h' ⊢
      intro hac
      by_cases hbc : b = c
      · exact h (hbc ▸ hac)
      · rcases hs.total b c hbc with h1 | h1
        · exact h' h1
        · exact h (hs.trans _ _ _ hac h1)) i j hij
  rw [e]
  simp only [decide_eq_false_iff_not] at h
  rcases hs.total _ _ (fun e' => (ne_of_lt hij) (sortedFrom_injective _ e')) with h1 | h1
  · exact h1
  · exact absurd h1 h

theorem sortedFrom_bijective {n : Nat} (R : Fin n → Fin n → Bool) : Function.Bijective (sortedFrom R) :=
  ⟨sortedFrom_injective R, sortedFrom_surjective R⟩

/-- The stable sort by greater key puts at place `k` the position of rank `k`. -/
theorem rank_sorted_down {n : Nat} {α : Type} [LinearOrder α] (x : Fin n → α) (R : Fin n → Fin n → Bool)
    (hR : ∀ a b, R a b = true ↔ x b < x a) (k : Fin n) : rank (Down x) (sortedFrom R k) = k.val :=
  rank_of_mono (strict_down x) _ (sortedFrom_bijective R)
    (fun i j h => sorted_up (fun i => OrderDual.toDual (x i)) R (fun a b => hR a b) i j h) k

/-- The stable sort by smaller key, read from its end, puts at place `k` the position of rank `k` from the greatest. -/
theorem rank_sorted_back {n : Nat} {α : Type} [LinearOrder α] (x : Fin n → α) (R : Fin n → Fin n → Bool)
    (hR : ∀ a b, R a b = true ↔ x a < x b) (k : Fin n) : rank (Back x) (sortedFrom R k.rev) = k.val :=
  rank_of_mono (strict_back x) (fun k => sortedFrom R k.rev) ((sortedFrom_bijective R).comp Fin.rev_bijective)
    (fun i j h => sorted_up x R hR j.rev i.rev (Fin.rev_lt_rev.mpr h)) k

end Cert.Proof.Tk

end
-- ==== Proof.Pick.lean ====
/-
  The first call's rounds, read at an index: round `k` removes the position of rank `k`.
-/
module

public import proofs.«01_k».proof.Proof.Stages
public import proofs.«01_k».proof.Proof.Folds
public import proofs.«01_k».proof.Proof.Rank

@[expose] public section

set_option maxRecDepth 16384

noncomputable section

namespace Cert.Proof.Tk

open Cert.TopkIdeal Cert.TopkIdeal.Gen
open Idealize.ShloMosaic

/-- The position of rank `k`, greatest key first and of equal keys the smaller position. -/
def nth {n : Nat} (x : Fin n → EReal) (k : Fin n) : Fin n := sortedFrom (fun a b => decide (x b < x a)) k

theorem rank_nth {n : Nat} (x : Fin n → EReal) (k : Fin n) : rank (Down x) (nth x k) = k.val :=
  rank_sorted_down x _ (fun _ _ => decide_eq_true_iff) k

theorem nth_inj {n : Nat} (x : Fin n → EReal) {a b : Fin n} (h : nth x a = nth x b) : a = b := sortedFrom_injective _ h

/-- The greatest key, and of the positions that have it the first. -/
theorem first_of_rank {n : Nat} (x : Fin n → EReal) (k : Fin n) (l : Fin n) (hl : k.val ≤ rank (Down x) l) :
    x l ≤ x (nth x k) ∧ (x l = x (nth x k) → (nth x k).val ≤ l.val) := by
  rcases eq_or_before (strict_down x) (a := nth x k) (b := l) (by rw [rank_nth]; exact hl) with h | h
  · subst h; exact ⟨le_rfl, fun _ => le_rfl⟩
  · rcases h with h | ⟨h, h'⟩
    · exact ⟨h.le, fun e => absurd e h.ne⟩
    · exact ⟨h.symm.le, fun _ => (le_of_lt h')⟩

theorem scores_apply (x : FVec Ideal S1024x64 .f32) (p : FVec Ideal S512x64 .f32) (r : Fin 1024) (l : Fin 512) :
    k0_pay2 (F := Ideal) x p (ix2 r l) = ∑ d : Fin 64, x (ix2 r d) * p (ix2 l d) := by
  pointwise [k0_pay2]

theorem pick0_apply (s : FVec Ideal S1024x512 .f32) (r : Fin 1024) (p : Fin 512) (hmax : ∀ l, s (ix2 r l) ≤ s (ix2 r p))
    (hfst : ∀ l, s (ix2 r l) = s (ix2 r p) → p.val ≤ l.val) : pick0 s (ix2 r 0) = BitVec.ofNat 32 p.val := by
  pointwise [pick0, lanes0]
  rw [fold_max_eq (fun l => s (ix2 r l)) p hmax]
  refine (fold_absorb IntOp.minsi _ _ p ?_ ?_).trans (if_pos rfl)
  · rw [if_pos rfl]
    exact min_word (b := 2147483647) (by omega) (by norm_num)
  · intro l _
    rw [if_pos rfl]
    split
    · rename_i h
      exact min_word (hfst l h) (by omega)
    · exact min_word (b := 512) (by omega) (by norm_num)

theorem drop0_apply (s : FVec Ideal S1024x512 .f32) (r : Fin 1024) (p : Fin 512) (h : pick0 s (ix2 r 0) = BitVec.ofNat 32 p.val)
    (l : Fin 512) : drop0 s (ix2 r l) = if l = p then ⊥ else s (ix2 r l) := by
  pointwise [drop0, lanes0]
  rw [h, bot_word, sel_eq]
  exact ite_congr (propext ((word_inj (by omega) (by omega)).trans Fin.ext_iff.symm)) (fun _ => rfl) (fun _ => rfl)

/-- The scores before round `k`: those of rank below `k` are removed. -/
theorem at0_apply (x : FVec Ideal S1024x64 .f32) (p : FVec Ideal S512x64 .f32) (r : Fin 1024)
    (hfin : ∀ l, k0_pay2 (F := Ideal) x p (ix2 r l) ≠ ⊥) (k : Nat) (hk : k < 512) :
    (∀ l, at0 x p k (ix2 r l) = if rank (Down fun l => k0_pay2 (F := Ideal) x p (ix2 r l)) l < k then ⊥ else k0_pay2 (F := Ideal) x p (ix2 r l))
    ∧ pick0 (at0 x p k) (ix2 r 0) = BitVec.ofNat 32 (nth (fun l => k0_pay2 (F := Ideal) x p (ix2 r l)) ⟨k, hk⟩).val := by
  generalize hy : (fun l => k0_pay2 (F := Ideal) x p (ix2 r l)) = y
  have hy' : ∀ l, k0_pay2 (F := Ideal) x p (ix2 r l) = y l := fun l => by rw [← hy]
  have pick : ∀ k (hk : k < 512), (∀ l, at0 x p k (ix2 r l) = if rank (Down y) l < k then ⊥ else y l) →
      pick0 (at0 x p k) (ix2 r 0) = BitVec.ofNat 32 (nth y ⟨k, hk⟩).val := by
    intro k hk h
    have hp : at0 x p k (ix2 r (nth y ⟨k, hk⟩)) = y (nth y ⟨k, hk⟩) := by
      rw [h, rank_nth, if_neg (lt_irrefl k)]
    refine pick0_apply _ r (nth y ⟨k, hk⟩) (fun l => ?_) (fun l hl => ?_)
    · rw [hp, h]
      split
      · exact bot_le
      · rename_i hn
        exact (first_of_rank y ⟨k, hk⟩ l (not_lt.mp hn)).1
    · rw [hp, h] at hl
      split at hl
      · exact absurd hl.symm (by rw [← hy']; exact hfin _)
      · rename_i hn
        exact (first_of_rank y ⟨k, hk⟩ l (not_lt.mp hn)).2 hl
  have main : ∀ k (_ : k < 512), ∀ l, at0 x p k (ix2 r l) = if rank (Down y) l < k then ⊥ else y l := by
    intro k
    induction k with
    | zero => intro _ l; rw [if_neg (Nat.not_lt_zero _), ← hy']; rfl
    | succ k ih =>
      intro hk l
      have h := ih (by omega)
      rw [show at0 x p (k + 1) = drop0 (at0 x p k) from rfl, drop0_apply _ r _ (pick k (by omega) h), h]
      by_cases e : l = nth y ⟨k, by omega⟩
      · rw [if_pos e, if_pos (by rw [e, rank_nth]; exact Nat.lt_succ_self k)]
      · rw [if_neg e]
        have hne : rank (Down y) l ≠ k := fun e' => e (rank_inj (strict_down y) (by rw [e', rank_nth]))
        by_cases hl : rank (Down y) l < k
        · rw [if_pos hl, if_pos (by omega)]
        · rw [if_neg hl, if_neg (by omega)]
  refine ⟨fun l => ?_, pick k hk (main k hk)⟩
  rw [hy']
  exact main k hk l

/-- What the first call stores. -/
theorem cols0_apply (x : FVec Ideal S1024x64 .f32) (p : FVec Ideal S512x64 .f32) (r : Fin 1024)
    (hfin : ∀ l, k0_pay2 (F := Ideal) x p (ix2 r l) ≠ ⊥) (c : Fin 8) :
    cols0 x p (ix2 r c) = BitVec.ofNat 32 (nth (fun l => k0_pay2 (F := Ideal) x p (ix2 r l)) ⟨c.val, by omega⟩).val := by
  refine Eq.trans ?_ (at0_apply x p r hfin c.val (by omega)).2
  fin_vals c with hc <;> (pointwise [cols0]; simp [hc])

end Cert.Proof.Tk

end
-- ==== Proof.Best.lean ====
/-
  The second call, read at an index: the greatest of the 32 products and the first value that has it.
-/
module

public import proofs.«01_k».proof.Proof.Pick
public import Idealize.ShloMosaic.Lib.Pipeline.ValueKit

@[expose] public section

set_option maxRecDepth 16384

noncomputable section

namespace Cert.Proof.Tk

open Cert.TopkIdeal Cert.TopkIdeal.Gen
open Idealize.ShloMosaic

theorem block_apply (x1 : Vec Ideal S1024x2048 .f32) (o : Nat) (inb : ∀ a, (![0, o] : Fin 2 → Nat) a + S1024x64.size a ≤ S1024x2048.size a)
    (r : Fin 1024) (d : Fin 64) (h : o + d.val < 2048) :
    View.ld x1 (Rect.unit (s := S1024x2048) ![0, o] S1024x64.size inb) (ix2 r d : S1024x64.Idx) = x1 (ix2 r ⟨o + d.val, h⟩) :=
  View.ld_unit_apply_of x1 _ _ inb (ix2 r d) (ix2 r ⟨o + d.val, h⟩) (fun
    | ⟨0, _⟩ => (Nat.zero_add _).symm
    | ⟨1, _⟩ => rfl)

theorem block1_apply (x1 : Vec Ideal S1024x2048 .f32) (r : Fin 1024) (d : Fin 64) (v : Fin 32) :
    block1 x1 v.val (ix2 r d) = x1 (ix2 r ⟨64 * v.val + d.val, by omega⟩) := by
  obtain ⟨v, hv⟩ := v
  interval_cases v <;> exact block_apply x1 _ _ r d _

theorem prods_apply (x0 : Vec Ideal S1024x64 .f32) (x1 : Vec Ideal S1024x2048 .f32) (v : Fin 32) (r : Fin 1024) (i : Fin 1024) :
    prods x0 x1 v.val (ix2 r i) = ∑ d : Fin 64, x0 (ix2 r d) * x1 (ix2 i ⟨64 * v.val + d.val, by omega⟩) := by
  have e : prods x0 x1 v.val (ix2 r i) = ∑ d : Fin 64, x0 (ix2 r d) * block1 x1 v.val (ix2 i d) := by
    rw [show prods x0 x1 v.val = dot1 x0 (block1 x1 v.val) from
      congrArg (fun z => dot1 z (block1 x1 v.val)) (View.ld_unit_lit _ x0 (by decide))]
    pointwise [dot1]
  rw [e]
  exact Finset.sum_congr rfl fun d _ => by rw [block1_apply]

/-- The running best is the greatest of those seen, the first that has it. -/
theorem best_which (f : Nat → FVec Ideal S1024x1024 .f32) (r i : Fin 1024) (k : Nat) :
    ∃ v, v ≤ k ∧ best1 f k (ix2 r i) = f v (ix2 r i) ∧ which1 f k (ix2 r i) = BitVec.ofNat 32 v
      ∧ ∀ u, u ≤ k → f u (ix2 r i) ≤ f v (ix2 r i) ∧ (u < v → f u (ix2 r i) < f v (ix2 r i)) := by
  induction k with
  | zero =>
    refine ⟨0, le_rfl, rfl, rfl, fun u hu => ?_⟩
    rw [Nat.le_zero.mp hu]
    exact ⟨le_rfl, fun h => absurd h (lt_irrefl _)⟩
  | succ k ih =>
    obtain ⟨v, hv, hb, hw, hall⟩ := ih
    have eb : best1 f (k + 1) (ix2 r i) = if best1 f k (ix2 r i) < f (k + 1) (ix2 r i) then f (k + 1) (ix2 r i) else best1 f k (ix2 r i) := by
      rw [show best1 f (k + 1) = select (cmpf .ogt (f (k + 1)) (best1 f k)) (f (k + 1)) (best1 f k) from rfl]
      generalize best1 f k = b
      generalize f (k + 1) = a
      pointwise []
    have ew : which1 f (k + 1) (ix2 r i) = if best1 f k (ix2 r i) < f (k + 1) (ix2 r i) then BitVec.ofNat 32 (k + 1) else which1 f k (ix2 r i) := by
      rw [show which1 f (k + 1) = select (cmpf .ogt (f (k + 1)) (best1 f k)) (broadcast S1024x1024 (BitVec.ofNat 32 (k + 1))) (which1 f k) from rfl]
      generalize best1 f k = b
      generalize f (k + 1) = a
      generalize which1 f k = w
      pointwise []
    rw [hb] at eb ew
    by_cases h : f v (ix2 r i) < f (k + 1) (ix2 r i)
    · rw [if_pos h] at eb ew
      refine ⟨k + 1, le_rfl, eb, ew, fun u hu => ?_⟩
      rcases Nat.lt_or_ge u (k + 1) with hu' | hu'
      · have := (hall u (by omega)).1.trans_lt h
        exact ⟨this.le, fun _ => this⟩
      · rw [show u = k + 1 by omega]
        exact ⟨le_rfl, fun h => absurd h (lt_irrefl _)⟩
    · rw [if_neg h] at eb ew
      refine ⟨v, by omega, eb, ew.trans hw, fun u hu => ?_⟩
      rcases Nat.lt_or_ge u (k + 1) with hu' | hu'
      · exact hall u (by omega)
      · rw [show u = k + 1 by omega]
        exact ⟨not_lt.mp h, fun h => absurd h (by omega)⟩

/-- Nothing comes before the first of the greatest. -/
theorem nth_zero {n : Nat} (x : Fin n → EReal) (h : 0 < n) (v : Fin n) (hv : ∀ u, x u ≤ x v ∧ (u < v → x u < x v)) :
    v = nth x ⟨0, h⟩ := by
  refine rank_inj (strict_down x) ?_
  rw [rank_nth]
  refine rank_zero_of fun u hu => ?_
  rcases hu with hu | ⟨hu, hu'⟩
  · exact absurd (hv u).1 (not_le.mpr hu)
  · exact absurd hu ((hv u).2 hu').ne

/-- The products of one query with the values of one row. -/
def vals (x0 : Vec Ideal S1024x64 .f32) (x1 : Vec Ideal S1024x2048 .f32) (r i : Fin 1024) (v : Fin 32) : EReal :=
  ∑ d : Fin 64, x0 (ix2 r d) * x1 (ix2 i ⟨64 * v.val + d.val, by omega⟩)

theorem best31 (x0 : Vec Ideal S1024x64 .f32) (x1 : Vec Ideal S1024x2048 .f32) (r i : Fin 1024) :
    best1 (prods x0 x1) 31 (ix2 r i) = vals x0 x1 r i (nth (vals x0 x1 r i) 0)
    ∧ which1 (prods x0 x1) 31 (ix2 r i) = BitVec.ofNat 32 (nth (vals x0 x1 r i) 0).val := by
  obtain ⟨v, hv, hb, hw, hall⟩ := best_which (prods x0 x1) r i 31
  have hp : ∀ u : Fin 32, prods x0 x1 u.val (ix2 r i) = vals x0 x1 r i u := fun u => prods_apply x0 x1 u r i
  have e : (⟨v, by omega⟩ : Fin 32) = nth (vals x0 x1 r i) 0 := nth_zero _ (by decide) _ fun u => by
    rw [← hp u, ← hp ⟨v, by omega⟩]
    exact hall u.val (by omega)
  rw [hb, hw, ← e]
  exact ⟨hp ⟨v, by omega⟩, rfl⟩

end Cert.Proof.Tk

end
-- ==== Proof.Cands.lean ====
/-
  The third call's rounds, read at an index: round `k` finds the candidate of rank `k`, greatest score first and of
  equal scores the greater candidate, and removes it.
-/
module

public import proofs.«01_k».proof.Proof.Pick
public import Idealize.ShloMosaic.Lib.Pipeline.Value

@[expose] public section

set_option maxRecDepth 16384

noncomputable section

namespace Cert.Proof.Tk

open Cert.TopkIdeal Cert.TopkIdeal.Gen
open Idealize.ShloMosaic

theorem side_apply {α : Type} (f : Nat → S64x1.Idx → α) (r : Fin 64) (k : Fin 16) : side f (ix2 r k) = f k.val (ix2 r 0) :=
  concatenate_ofFn_unit_apply (t := S64x16) (s₁ := S64x1) 1 (fun k : Fin 16 => f k.val) concatenates_S64x1_S64x1_S64x1_S64x1_S64x1_S64x1_S64x1_S64x1_S64x1_S64x1_S64x1_S64x1_S64x1_S64x1_S64x1_S64x1_S64x16_d1
    rfl rfl (ix2 r k) k rfl (ix2 r 0) (fun
      | ⟨0, _⟩, _ => rfl
      | ⟨1, _⟩, h => absurd rfl h)

/-- The candidate of rank `k`, greatest key first and of equal keys the greater position. -/
def last {n : Nat} (x : Fin n → EReal) (k : Fin n) : Fin n := sortedFrom (fun a b => decide (x a < x b)) k.rev

theorem rank_last {n : Nat} (x : Fin n → EReal) (k : Fin n) : rank (Back x) (last x k) = k.val :=
  rank_sorted_back x _ (fun _ _ => decide_eq_true_iff) k

theorem last_of_rank {n : Nat} (x : Fin n → EReal) (k : Fin n) (l : Fin n) (hl : k.val ≤ rank (Back x) l) :
    x l ≤ x (last x k) ∧ (x l = x (last x k) → l.val ≤ (last x k).val) := by
  rcases eq_or_before (strict_back x) (a := last x k) (b := l) (by rw [rank_last]; exact hl) with h | h
  · subst h; exact ⟨le_rfl, fun _ => le_rfl⟩
  · rcases h with h | ⟨h, h'⟩
    · exact ⟨h.le, fun e => absurd e h.ne⟩
    · exact ⟨h.le, fun _ => (le_of_lt h')⟩

theorem top2_apply (s : FVec Ideal S64x8192 .f32) (r : Fin 64) (p : Fin 8192) (hmax : ∀ l, s (ix2 r l) ≤ s (ix2 r p)) :
    top2 s (ix2 r 0) = s (ix2 r p) := by
  pointwise [top2]
  exact fold_max_eq (fun l => s (ix2 r l)) p hmax

theorem andi_ofBool (a b : Bool) : IntOp.andi (BitVec.ofBool a) (BitVec.ofBool b) = BitVec.ofBool (a && b) := by
  cases a <;> cases b <;> rfl

theorem hot2_apply (c : IVec S64x8192 32) (s : FVec Ideal S64x8192 .f32) (r : Fin 64) (p : Fin 8192) (a : Nat) (ha : a < 2 ^ 31)
    (hmax : ∀ l, s (ix2 r l) ≤ s (ix2 r p)) (hp : c (ix2 r p) = BitVec.ofNat 32 a)
    (hlt : ∀ l, l ≠ p → s (ix2 r l) = s (ix2 r p) → ∃ b, b < a ∧ c (ix2 r l) = BitVec.ofNat 32 b) (l : Fin 8192) :
    hot2 c s (ix2 r l) = BitVec.ofBool (decide (l = p)) := by
  pointwise [hot2, tops2]
  rw [top2_apply s r p hmax]
  have e : Finset.univ.fold IntOp.maxsi 2147483648#32 (fun x : Fin 8192 => if s (ix2 r x) = s (ix2 r p) then c (ix2 r x) else 4294967295#32)
      = BitVec.ofNat 32 a := by
    refine (fold_absorb IntOp.maxsi _ _ p ?_ ?_).trans ((if_pos rfl).trans hp)
    · rw [if_pos rfl, hp]
      exact max_neg ha _ (by decide)
    · intro l hl
      rw [if_pos rfl, hp]
      split
      · rename_i h
        obtain ⟨b, hb, e⟩ := hlt l hl h
        rw [e]
        exact max_word hb.le ha
      · exact max_neg ha _ (by decide)
  rw [e, show IntOp.cmpi CmpIPredicate.eq (c (ix2 r l)) (BitVec.ofNat 32 a) = BitVec.ofBool (c (ix2 r l) == BitVec.ofNat 32 a) from rfl, andi_ofBool]
  congr 1
  by_cases h : l = p
  · subst h
    rw [hp]
    simp
  · rw [decide_eq_false h]
    by_cases h' : s (ix2 r l) = s (ix2 r p)
    · obtain ⟨b, hb, e⟩ := hlt l h h'
      rw [e, Bool.and_eq_false_iff]
      refine .inr (beq_eq_false_iff_ne.mpr fun e' => ?_)
      have := (word_inj (by omega) (by omega)).mp e'
      omega
    · rw [decide_eq_false h']
      rfl

theorem sel_ofBool {α : Type} (b : Bool) (x y : α) : Scalar.select (BitVec.ofBool b) x y = if b then x else y := by
  cases b <;> rfl

theorem drop2_apply (h : IVec S64x8192 1) (s : FVec Ideal S64x8192 .f32) (r : Fin 64) (p : Fin 8192)
    (hh : ∀ l, h (ix2 r l) = BitVec.ofBool (decide (l = p))) (l : Fin 8192) :
    drop2 h s (ix2 r l) = if l = p then ⊥ else s (ix2 r l) := by
  pointwise [drop2]
  rw [hh, sel_ofBool, bot_word]
  by_cases e : l = p
  · rw [if_pos e, if_pos (decide_eq_true e)]
  · rw [if_neg e, if_neg (by rw [decide_eq_false e]; exact Bool.false_ne_true)]

theorem lane2_apply (io : IVec S64x8192 32) (h : IVec S64x8192 1) (r : Fin 64) (p : Fin 8192)
    (hio : ∀ l : Fin 8192, io (ix2 r l) = BitVec.ofNat 32 l.val)
    (hh : ∀ l, h (ix2 r l) = BitVec.ofBool (decide (l = p))) : lane2 io h (ix2 r 0) = BitVec.ofNat 32 p.val := by
  pointwise [lane2]
  have e : (fun x : Fin 8192 => Scalar.select (h (ix2 r x)) (io (ix2 r x)) 8192#32) = fun x => if x = p then BitVec.ofNat 32 x.val else 8192#32 := by
    funext x
    rw [hh, sel_ofBool, hio]
    by_cases e : x = p
    · rw [if_pos e, if_pos (decide_eq_true e)]
    · rw [if_neg e, if_neg (by rw [decide_eq_false e]; exact Bool.false_ne_true)]
  rw [e]
  refine (fold_absorb IntOp.minsi _ _ p ?_ ?_).trans (if_pos rfl)
  · rw [if_pos rfl]
    exact min_word (b := 2147483647) (by omega) (by norm_num)
  · intro l hl
    rw [if_pos rfl, if_neg hl]
    exact min_word (b := 8192) (by omega) (by norm_num)

theorem rid2_apply (rid : IVec S64x8192 32) (h : IVec S64x8192 1) (r : Fin 64) (p : Fin 8192)
    (hh : ∀ l, h (ix2 r l) = BitVec.ofBool (decide (l = p))) : rid2 rid h (ix2 r 0) = rid (ix2 r p) := by
  pointwise [rid2]
  have e : (fun x : Fin 8192 => Scalar.select (h (ix2 r x)) (rid (ix2 r x)) 0#32) = fun x => if x = p then rid (ix2 r x) else 0#32 := by
    funext x
    rw [hh, sel_ofBool]
    by_cases e : x = p
    · rw [if_pos e, if_pos (decide_eq_true e)]
    · rw [if_neg e, if_neg (by rw [decide_eq_false e]; exact Bool.false_ne_true)]
  rw [e]
  refine (fold_absorb IntOp.addi _ _ p ?_ ?_).trans (if_pos rfl)
  · exact BitVec.add_zero _
  · intro l hl
    rw [if_neg hl]
    exact BitVec.add_zero _

/-- The scores before round `k`, and the lane picked in it, from the lanes of the candidates. -/
theorem at2_apply (c : IVec S64x8192 32) (s : FVec Ideal S64x8192 .f32) (r : Fin 64) (L : Fin 128 → Fin 8192) (hL : Function.Injective L)
    (y : Fin 128 → EReal) (hy : ∀ a, y a ≠ ⊥) (hc : ∀ a, c (ix2 r (L a)) = BitVec.ofNat 32 a.val) (hs : ∀ a, s (ix2 r (L a)) = y a)
    (ho : ∀ l, (∀ a, l ≠ L a) → s (ix2 r l) = ⊥) (k : Nat) (hk : k < 128) :
    top2 (at2 c s k) (ix2 r 0) = y (last y ⟨k, hk⟩)
    ∧ ∀ l, hot2 c (at2 c s k) (ix2 r l) = BitVec.ofBool (decide (l = L (last y ⟨k, hk⟩))) := by
  have pick : ∀ k (hk : k < 128), (∀ a, at2 c s k (ix2 r (L a)) = if rank (Back y) a < k then ⊥ else y a) →
      (∀ l, (∀ a, l ≠ L a) → at2 c s k (ix2 r l) = ⊥) →
      top2 (at2 c s k) (ix2 r 0) = y (last y ⟨k, hk⟩)
      ∧ ∀ l, hot2 c (at2 c s k) (ix2 r l) = BitVec.ofBool (decide (l = L (last y ⟨k, hk⟩))) := by
    intro k hk h h'
    have hp : at2 c s k (ix2 r (L (last y ⟨k, hk⟩))) = y (last y ⟨k, hk⟩) := by
      rw [h, rank_last, if_neg (lt_irrefl k)]
    have hmax : ∀ l, at2 c s k (ix2 r l) ≤ at2 c s k (ix2 r (L (last y ⟨k, hk⟩))) := by
      intro l
      rw [hp]
      by_cases hl : ∃ a, l = L a
      · obtain ⟨a, rfl⟩ := hl
        rw [h]
        split
        · exact bot_le
        · rename_i hn
          exact (last_of_rank y ⟨k, hk⟩ a (not_lt.mp hn)).1
      · rw [h' l (fun a e => hl ⟨a, e⟩)]
        exact bot_le
    refine ⟨(top2_apply _ r _ hmax).trans hp, hot2_apply c _ r _ (last y ⟨k, hk⟩).val (by omega) hmax (hc _) (fun l hl e => ?_)⟩
    rw [hp] at e
    by_cases hl' : ∃ a, l = L a
    · obtain ⟨a, rfl⟩ := hl'
      rw [h] at e
      split at e
      · exact absurd e.symm (hy _)
      · rename_i hn
        refine ⟨a.val, ?_, hc a⟩
        have h1 := (last_of_rank y ⟨k, hk⟩ a (not_lt.mp hn)).2 e
        rcases Nat.lt_or_ge a.val (last y ⟨k, hk⟩).val with h2 | h2
        · exact h2
        · exact absurd (congrArg L (Fin.ext (Nat.le_antisymm h1 h2))) hl
    · rw [h' l (fun a e => hl' ⟨a, e⟩)] at e
      exact absurd e.symm (hy _)
  have main : ∀ k (_ : k < 128), (∀ a, at2 c s k (ix2 r (L a)) = if rank (Back y) a < k then ⊥ else y a)
      ∧ (∀ l, (∀ a, l ≠ L a) → at2 c s k (ix2 r l) = ⊥) := by
    intro k
    induction k with
    | zero => exact fun _ => ⟨fun a => by rw [if_neg (Nat.not_lt_zero _)]; exact hs a, ho⟩
    | succ k ih =>
      intro hk
      obtain ⟨h, h'⟩ := ih (by omega)
      have hd := drop2_apply _ (at2 c s k) r _ (pick k (by omega) h h').2
      rw [show at2 c s (k + 1) = drop2 (hot2 c (at2 c s k)) (at2 c s k) from rfl]
      refine ⟨fun a => ?_, fun l hl => ?_⟩
      · rw [hd, h]
        by_cases e : a = last y ⟨k, by omega⟩
        · rw [if_pos (congrArg L e), if_pos (by rw [e, rank_last]; exact Nat.lt_succ_self k)]
        · rw [if_neg (fun e' => e (hL e'))]
          have hne : rank (Back y) a ≠ k := fun e' => e (rank_inj (strict_back y) (by rw [e', rank_last]))
          by_cases hl : rank (Back y) a < k
          · rw [if_pos hl, if_pos (by omega)]
          · rw [if_neg hl, if_neg (by omega)]
      · rw [hd, h' l hl, ite_self]
  exact pick k hk (main k hk).1 (main k hk).2

theorem sixteenth_word (n : Fin 8192) : Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 n.val) 16#32) 0#32))
      (IntOp.subi (IntOp.divsi ArithUnit.vector (BitVec.ofNat 32 n.val) 16#32) 1#32)
      (IntOp.divsi ArithUnit.vector (BitVec.ofNat 32 n.val) 16#32) = BitVec.ofNat 32 (n.val / 16) := by
  revert n
  decide +kernel

theorem sixteenth_apply (v : IVec S64x1 32) (r : Fin 64) (n : Fin 8192) (h : v (ix2 r 0) = BitVec.ofNat 32 n.val) :
    sixteenth v (ix2 r 0) = BitVec.ofNat 32 (n.val / 16) := by
  pointwise [sixteenth]
  rw [h]
  exact sixteenth_word n

theorem left16_word (n : Fin 8192) : BitVec.ofNat 32 n.val - BitVec.ofNat 32 (n.val / 16) * 16#32 = BitVec.ofNat 32 (n.val % 16) := by
  apply BitVec.eq_of_toNat_eq
  have h := n.isLt
  have h2 : n.val / 16 * 16 ≤ n.val := Nat.div_mul_le_self _ _
  rw [BitVec.toNat_sub_of_le] <;> simp [BitVec.le_def] <;> omega

theorem left16_apply (v : IVec S64x1 32) (r : Fin 64) (n : Fin 8192) (h : v (ix2 r 0) = BitVec.ofNat 32 n.val) :
    left16 v (ix2 r 0) = BitVec.ofNat 32 (n.val % 16) := by
  pointwise [left16]
  rw [h, sixteenth_apply v r n h]
  exact left16_word n

/-- The id and the entry of a round, from the lane picked. -/
theorem id2_apply (rid io : IVec S64x8192 32) (h : IVec S64x8192 1) (r : Fin 64) (p : Fin 8192)
    (hio : ∀ l : Fin 8192, io (ix2 r l) = BitVec.ofNat 32 l.val)
    (hh : ∀ l, h (ix2 r l) = BitVec.ofBool (decide (l = p))) (w : Nat) (hw : rid (ix2 r p) = BitVec.ofNat 32 w) :
    id2 rid io h (ix2 r 0) = BitVec.ofNat 32 (w + 32 * (p.val % 16) + 512 * min (p.val / 16) 31) := by
  have e1 := sixteenth_apply _ r p (lane2_apply io h r p hio hh)
  have e2 := left16_apply _ r p (lane2_apply io h r p hio hh)
  have e3 := rid2_apply rid h r p hh
  pointwise [id2]
  rw [e1, e2, e3, hw]
  have : IntOp.minsi (BitVec.ofNat 32 (p.val / 16)) 31#32 = BitVec.ofNat 32 (min (p.val / 16) 31) := by
    rcases Nat.le_total (p.val / 16) 31 with h | h
    · rw [Nat.min_eq_left h]; exact min_word h (by norm_num)
    · rw [Nat.min_eq_right h]
      unfold IntOp.minsi
      split
      · rename_i h'
        revert h'
        have ea : (BitVec.ofNat 32 (p.val / 16)).toInt = ((p.val / 16 : Nat) : Int) := by
          rw [BitVec.toInt_ofNat']; exact Int.bmod_eq_of_le (by omega) (by omega)
        have eb : (31#32).toInt = ((31 : Nat) : Int) := by decide
        simp only [BitVec.slt, ea, eb, decide_eq_true_eq]
        intro h'
        exact absurd (Int.ofNat_lt.mp h') (not_lt.mpr h)
      · rfl
  rw [this]
  change BitVec.ofNat 32 w + BitVec.ofNat 32 (p.val % 16) * BitVec.ofNat 32 32 + BitVec.ofNat 32 (min (p.val / 16) 31) * BitVec.ofNat 32 512 = _
  rw [← BitVec.ofNat_mul, ← BitVec.ofNat_mul, ← BitVec.ofNat_add, ← BitVec.ofNat_add, Nat.mul_comm 32, Nat.mul_comm 512]

theorem entry2_apply (rid io : IVec S64x8192 32) (h : IVec S64x8192 1) (r : Fin 64) (p : Fin 8192)
    (hio : ∀ l : Fin 8192, io (ix2 r l) = BitVec.ofNat 32 l.val)
    (hh : ∀ l, h (ix2 r l) = BitVec.ofBool (decide (l = p))) (w : Nat) (hw : rid (ix2 r p) = BitVec.ofNat 32 w) :
    entry2 rid io h (ix2 r 0) = BitVec.ofNat 32 (w + 32 * (p.val % 16) + 512 * (p.val / 16)) := by
  have e1 := sixteenth_apply _ r p (lane2_apply io h r p hio hh)
  have e2 := left16_apply _ r p (lane2_apply io h r p hio hh)
  have e3 := rid2_apply rid h r p hh
  pointwise [entry2]
  rw [e1, e2, e3, hw]
  change BitVec.ofNat 32 (p.val / 16) * BitVec.ofNat 32 512 + BitVec.ofNat 32 (p.val % 16) * BitVec.ofNat 32 32 + BitVec.ofNat 32 w = _
  rw [← BitVec.ofNat_mul, ← BitVec.ofNat_mul, ← BitVec.ofNat_add, ← BitVec.ofNat_add]
  exact congrArg (BitVec.ofNat 32) (by omega)

end Cert.Proof.Tk

end
-- ==== Proof.Lanes.lean ====
/-
  The third call's candidates: the sixteen lanes of each cluster picked, numbered by the cluster's place and the row.
-/
module

public import proofs.«01_k».proof.Proof.Cands
public import Idealize.ShloMosaic.Lib.Pipeline.ValueKit

@[expose] public section

set_option maxRecDepth 16384

noncomputable section

namespace Cert.Proof.Tk

open Cert.TopkIdeal Cert.TopkIdeal.Gen
open Idealize.ShloMosaic

theorem pay6_at (r : Fin 64) (l : Fin 8192) : k2_pay6 (ix2 r l) = BitVec.ofNat 32 (l.val / 16) := by
  pointwise [k2_pay6]
  exact sixteenth_word l

theorem pay7_at (r : Fin 64) (l : Fin 8192) : k2_pay7 (ix2 r l) = BitVec.ofNat 32 (l.val % 16) := by
  have h := pay6_at r l
  pointwise [k2_pay7]
  rw [h]
  exact left16_word l

theorem pay9_at (v : Vec Ideal S64x8 .i32) (r : Fin 64) (l : Fin 8192) :
    k2_pay9 (F := Ideal) v (ix2 r l) = if k2_pay6 (ix2 r l) = v (ix2 r 0) then k2_pay7 (ix2 r l) else 4294967295#32 := by
  pointwise [k2_pay9, k2_pay8, k2_pay5]
  exact sel_eq _ _ _ _

theorem pay10_at (v : Vec Ideal S64x8 .i32) (r : Fin 64) (l : Fin 8192) :
    k2_pay10 (F := Ideal) v (ix2 r l) = IntOp.cmpi .eq (k2_pay6 (ix2 r l)) (v (ix2 r 1)) := by
  pointwise [k2_pay10, k2_pay5]

theorem pay11_at (v : Vec Ideal S64x8 .i32) (r : Fin 64) (l : Fin 8192) :
    k2_pay11 (F := Ideal) v (ix2 r l) = IntOp.ori (IntOp.cmpi .eq (k2_pay6 (ix2 r l)) (v (ix2 r 0))) (IntOp.cmpi .eq (k2_pay6 (ix2 r l)) (v (ix2 r 1))) := by
  pointwise [k2_pay11, k2_pay10, k2_pay8, k2_pay5]

theorem pay18_at (v5 : IVec S64x8 32) (v30 v33 v38 : IVec S64x8192 32) (v41 : IVec S64x8192 1) (r : Fin 64) (l : Fin 8192) :
    k2_pay18 v5 v30 v33 v38 v41 16#32 (ix2 r l) =
      if v30 (ix2 r l) = v5 (ix2 r 7) then 112#32 + v33 (ix2 r l) else if v30 (ix2 r l) = v5 (ix2 r 6) then 96#32 + v33 (ix2 r l)
      else if v30 (ix2 r l) = v5 (ix2 r 5) then 80#32 + v33 (ix2 r l) else if v30 (ix2 r l) = v5 (ix2 r 4) then 64#32 + v33 (ix2 r l)
      else if v30 (ix2 r l) = v5 (ix2 r 3) then 48#32 + v33 (ix2 r l) else if v30 (ix2 r l) = v5 (ix2 r 2) then 32#32 + v33 (ix2 r l)
      else Scalar.select (v41 (ix2 r l)) (16#32 + v33 (ix2 r l)) (v38 (ix2 r l)) := by
  pointwise [k2_pay18, k2_pay12, k2_pay13, k2_pay14, k2_pay15, k2_pay16, k2_pay17]
  simp only [sel_eq]
  rfl

theorem pay19_at (v1 : FVec Ideal S64x8192 .f32) (v5 : IVec S64x8 32) (v30 : IVec S64x8192 32) (v42 : IVec S64x8192 1) (r : Fin 64) (l : Fin 8192) :
    k2_pay19 v1 v5 v30 v42 (ix2 r l) =
      Scalar.select (IntOp.ori (IntOp.ori (IntOp.ori (IntOp.ori (IntOp.ori (IntOp.ori (v42 (ix2 r l))
        (IntOp.cmpi .eq (v30 (ix2 r l)) (v5 (ix2 r 2)))) (IntOp.cmpi .eq (v30 (ix2 r l)) (v5 (ix2 r 3)))) (IntOp.cmpi .eq (v30 (ix2 r l)) (v5 (ix2 r 4))))
        (IntOp.cmpi .eq (v30 (ix2 r l)) (v5 (ix2 r 5)))) (IntOp.cmpi .eq (v30 (ix2 r l)) (v5 (ix2 r 6)))) (IntOp.cmpi .eq (v30 (ix2 r l)) (v5 (ix2 r 7))))
        (v1 (ix2 r l)) ⊥ := by
  rw [← bot_word]
  pointwise [k2_pay19, k2_pay12, k2_pay13, k2_pay14, k2_pay15, k2_pay16, k2_pay17]

/-- The lane of a candidate. -/
def lane (C : Fin 8 → Fin 512) (a : Fin 128) : Fin 8192 := ⟨16 * (C ⟨a.val / 16, by omega⟩).val + a.val % 16, by
  have := (C ⟨a.val / 16, by omega⟩).isLt
  omega⟩

theorem lane_div (C : Fin 8 → Fin 512) (a : Fin 128) : (lane C a).val / 16 = (C ⟨a.val / 16, by omega⟩).val := by
  change (16 * (C ⟨a.val / 16, by omega⟩).val + a.val % 16) / 16 = _
  omega

theorem lane_mod (C : Fin 8 → Fin 512) (a : Fin 128) : (lane C a).val % 16 = a.val % 16 := by
  change (16 * (C ⟨a.val / 16, by omega⟩).val + a.val % 16) % 16 = _
  omega

theorem lane_inj (C : Fin 8 → Fin 512) (hC : Function.Injective C) : Function.Injective (lane C) := by
  intro a b h
  have h1 : C ⟨a.val / 16, by omega⟩ = C ⟨b.val / 16, by omega⟩ := Fin.ext (by rw [← lane_div, ← lane_div, h])
  have h2 : a.val / 16 = b.val / 16 := congrArg Fin.val (hC h1)
  have h3 : a.val % 16 = b.val % 16 := by rw [← lane_mod C a, ← lane_mod C b, h]
  exact Fin.ext (by omega)

theorem ori_ofBool (a b : Bool) : IntOp.ori (BitVec.ofBool a) (BitVec.ofBool b) = BitVec.ofBool (a || b) := by
  cases a <;> cases b <;> rfl

theorem or8 (P : Fin 8 → Prop) : (((((((P 0 ∨ P 1) ∨ P 2) ∨ P 3) ∨ P 4) ∨ P 5) ∨ P 6) ∨ P 7) ↔ ∃ c, P c := by
  constructor
  · rintro (((((((h | h) | h) | h) | h) | h) | h) | h) <;> exact ⟨_, h⟩
  · rintro ⟨⟨c, hc⟩, h⟩
    interval_cases c
    · exact .inl (.inl (.inl (.inl (.inl (.inl (.inl h))))))
    · exact .inl (.inl (.inl (.inl (.inl (.inl (.inr h))))))
    · exact .inl (.inl (.inl (.inl (.inl (.inr h)))))
    · exact .inl (.inl (.inl (.inl (.inr h))))
    · exact .inl (.inl (.inl (.inr h)))
    · exact .inl (.inl (.inr h))
    · exact .inl (.inr h)
    · exact .inr h

section
variable (x0 : Vec Ideal S64x8192 .f32) (x1 : Vec Ideal S64x8192 .i32) (x2 : Vec Ideal S64x8 .i32) (r : Fin 64)

theorem cand_at (l : Fin 8192) : k2_pay198 x0 x1 x2 (ix2 r l) =
    if BitVec.ofNat 32 (l.val / 16) = x2 (ix2 r 7) then 112#32 + BitVec.ofNat 32 (l.val % 16)
    else if BitVec.ofNat 32 (l.val / 16) = x2 (ix2 r 6) then 96#32 + BitVec.ofNat 32 (l.val % 16)
    else if BitVec.ofNat 32 (l.val / 16) = x2 (ix2 r 5) then 80#32 + BitVec.ofNat 32 (l.val % 16)
    else if BitVec.ofNat 32 (l.val / 16) = x2 (ix2 r 4) then 64#32 + BitVec.ofNat 32 (l.val % 16)
    else if BitVec.ofNat 32 (l.val / 16) = x2 (ix2 r 3) then 48#32 + BitVec.ofNat 32 (l.val % 16)
    else if BitVec.ofNat 32 (l.val / 16) = x2 (ix2 r 2) then 32#32 + BitVec.ofNat 32 (l.val % 16)
    else if BitVec.ofNat 32 (l.val / 16) = x2 (ix2 r 1) then 16#32 + BitVec.ofNat 32 (l.val % 16)
    else if BitVec.ofNat 32 (l.val / 16) = x2 (ix2 r 0) then BitVec.ofNat 32 (l.val % 16) else 4294967295#32 := by
  have e : k2_pay198 x0 x1 x2 = k2_pay18 (k2_pay5 (F := Ideal) x2) k2_pay6 k2_pay7 (k2_pay9 x2) (k2_pay10 x2) 16#32 := by
    rw [show k2_pay198 x0 x1 x2 = k2_pay18 (k2_pay5 (F := Ideal) (View.ld x2 r2_1)) k2_pay6 k2_pay7 (k2_pay9 (View.ld x2 r2_1)) (k2_pay10 (View.ld x2 r2_1)) 16#32 from rfl,
      show View.ld x2 r2_1 = x2 from View.ld_unit_lit _ x2 (by decide)]
  have e5 : ∀ c : Fin 8, k2_pay5 (F := Ideal) x2 (ix2 r c) = x2 (ix2 r c) := fun c => by pointwise [k2_pay5]
  rw [e, pay18_at, pay9_at, pay10_at, sel_eq, pay6_at, pay7_at]
  simp only [e5]

theorem score_at (l : Fin 8192) : k2_pay199 x0 x1 x2 (ix2 r l) =
    if ∃ c : Fin 8, BitVec.ofNat 32 (l.val / 16) = x2 (ix2 r c) then x0 (ix2 r l) else ⊥ := by
  have e : k2_pay199 x0 x1 x2 = k2_pay19 (k2_pay193 x0 x1 x2) (k2_pay5 (F := Ideal) x2) k2_pay6 (k2_pay11 x2) := by
    rw [show k2_pay199 x0 x1 x2 = k2_pay19 (k2_pay193 x0 x1 x2) (k2_pay5 (F := Ideal) (View.ld x2 r2_1)) k2_pay6 (k2_pay11 (View.ld x2 r2_1)) from rfl,
      show View.ld x2 r2_1 = x2 from View.ld_unit_lit _ x2 (by decide)]
  have e5 : ∀ c : Fin 8, k2_pay5 (F := Ideal) x2 (ix2 r c) = x2 (ix2 r c) := fun c => by pointwise [k2_pay5]
  have e3 : k2_pay193 x0 x1 x2 (ix2 r l) = x0 (ix2 r l) := by
    rw [show k2_pay193 x0 x1 x2 = k2_pay3 (View.ld x0 r2_0) from rfl, show View.ld x0 r2_0 = x0 from View.ld_unit_lit _ x0 (by decide)]
    pointwise [k2_pay3]
  rw [e, pay19_at, pay11_at, pay6_at, e3]
  simp only [e5]
  have ec : ∀ x y : BitVec 32, IntOp.cmpi .eq x y = BitVec.ofBool (x == y) := fun _ _ => rfl
  simp only [ec, ori_ofBool, sel_ofBool]
  refine ite_congr (propext ?_) (fun _ => rfl) (fun _ => rfl)
  simp only [Bool.or_eq_true, beq_iff_eq]
  exact or8 fun c => BitVec.ofNat 32 (l.val / 16) = x2 (ix2 r c)

theorem rid_at (l : Fin 8192) : k2_pay194 x0 x1 x2 (ix2 r l) = x1 (ix2 r l) := by
  rw [show k2_pay194 x0 x1 x2 = k2_pay4 (F := Ideal) (View.ld x1 r2_0) from rfl, show View.ld x1 r2_0 = x1 from View.ld_unit_lit _ x1 (by decide)]
  pointwise [k2_pay4]

theorem io_at (l : Fin 8192) : k2_pay192 x0 x1 x2 (ix2 r l) = BitVec.ofNat 32 l.val := by
  pointwise [k2_pay192]

variable (C : Fin 8 → Fin 512) (hC : Function.Injective C) (h2 : ∀ c, x2 (ix2 r c) = BitVec.ofNat 32 (C c).val)

include hC h2

theorem place (a : Fin 128) (c : Fin 8) : BitVec.ofNat 32 ((lane C a).val / 16) = x2 (ix2 r c) ↔ c.val = a.val / 16 := by
  rw [h2, lane_div, word_inj (by omega) (by omega)]
  refine ⟨fun e => ?_, fun e => ?_⟩
  · exact (congrArg Fin.val (hC (Fin.ext e))).symm
  · rw [show c = ⟨a.val / 16, by omega⟩ from Fin.ext e]

theorem cand_lane (a : Fin 128) : k2_pay198 x0 x1 x2 (ix2 r (lane C a)) = BitVec.ofNat 32 a.val := by
  rw [cand_at]
  simp only [place x2 r C hC h2, lane_mod]
  have hq : a.val / 16 < 8 := by omega
  have hd := Nat.div_add_mod a.val 16
  generalize a.val / 16 = q at hq hd
  have add : ∀ b : Nat, 16 * q = b → BitVec.ofNat 32 b + BitVec.ofNat 32 (a.val % 16) = BitVec.ofNat 32 a.val := by
    intro b hb
    rw [← BitVec.ofNat_add]
    exact congrArg (BitVec.ofNat 32) (by omega)
  interval_cases q
  · simp
    exact congrArg (BitVec.ofNat 32) (by omega)
  · simp
    exact add 16 rfl
  · simp
    exact add 32 rfl
  · simp
    exact add 48 rfl
  · simp
    exact add 64 rfl
  · simp
    exact add 80 rfl
  · simp
    exact add 96 rfl
  · simp
    exact add 112 rfl

theorem score_lane (a : Fin 128) : k2_pay199 x0 x1 x2 (ix2 r (lane C a)) = x0 (ix2 r (lane C a)) := by
  rw [score_at, if_pos ⟨⟨a.val / 16, by omega⟩, (place x2 r C hC h2 a _).mpr rfl⟩]

theorem score_other (l : Fin 8192) (hl : ∀ a, l ≠ lane C a) : k2_pay199 x0 x1 x2 (ix2 r l) = ⊥ := by
  rw [score_at, if_neg]
  rintro ⟨c, h⟩
  rw [h2, word_inj (by omega) (by omega)] at h
  refine hl ⟨16 * c.val + l.val % 16, by omega⟩ (Fin.ext ?_)
  have e : (⟨(16 * c.val + l.val % 16) / 16, by omega⟩ : Fin 8) = c := Fin.ext (by show (16 * c.val + l.val % 16) / 16 = c.val; omega)
  change l.val = 16 * (C ⟨(16 * c.val + l.val % 16) / 16, _⟩).val + (16 * c.val + l.val % 16) % 16
  rw [e]
  omega

/-- The rounds of one row of a block: round `k` finds the candidate of rank `k`. -/
theorem round_at (y : Fin 128 → EReal) (hy : ∀ a, y a ≠ ⊥) (h0 : ∀ a, x0 (ix2 r (lane C a)) = y a) (k : Nat) (hk : k < 128) :
    top2 (sc x0 x1 x2 k) (ix2 r 0) = y (last y ⟨k, hk⟩)
    ∧ ∀ l, ho x0 x1 x2 k (ix2 r l) = BitVec.ofBool (decide (l = lane C (last y ⟨k, hk⟩))) :=
  at2_apply _ _ r (lane C) (lane_inj C hC) y hy (cand_lane x0 x1 x2 r C hC h2)
    (fun a => (score_lane x0 x1 x2 r C hC h2 a).trans (h0 a)) (score_other x0 x1 x2 r C hC h2) k hk
end

end Cert.Proof.Tk

end
-- ==== Proof.Spec.lean ====
/-
  What the three calls compute, query by query: the clusters a query visits, the best word of a row, and the
  candidates of the visited rows in the order they are kept.
-/
module

public import proofs.«01_k».proof.Proof.Best
public import proofs.«01_k».proof.Proof.Lanes

@[expose] public section

set_option maxRecDepth 16384

noncomputable section

namespace Cert.Proof.Tk

open Cert.TopkIdeal Cert.TopkIdeal.Gen
open Idealize.ShloMosaic

section
variable (Q : S1024x64.Idx → EReal) (T : S512x16x32x64.Idx → EReal) (P : S512x64.Idx → EReal)

/-- The query's score against each cluster's prototype. -/
def near (q : Fin 1024) (l : Fin 512) : EReal := ∑ d : Fin 64, Q (ix2 q d) * P (ix2 l d)

/-- The eight clusters the query visits, nearest first. -/
def clus (q : Fin 1024) (c : Fin 8) : Fin 512 := nth (near Q P q) ⟨c.val, by omega⟩

theorem clus_inj (q : Fin 1024) : Function.Injective (clus Q P q) := fun a b h => by
  have e := nth_inj (near Q P q) h
  exact Fin.ext (Fin.mk.inj e)

/-- The query's score against each word of a row of the table. -/
def dots (q : Fin 1024) (i : Fin 8192) (v : Fin 32) : EReal :=
  ∑ d : Fin 64, Q (ix2 q d) * T (ix4 ⟨i.val / 16, by omega⟩ ⟨i.val % 16, by omega⟩ v d)

/-- The row's best word for the query. -/
def word (q : Fin 1024) (i : Fin 8192) : Fin 32 := nth (dots Q T q i) 0

/-- The row's best score for the query. -/
def best (q : Fin 1024) (i : Fin 8192) : EReal := dots Q T q i (word Q T q i)

/-- The score of each row the query visits. -/
def keys (q : Fin 1024) (a : Fin 128) : EReal := best Q T q (lane (clus Q P q) a)

/-- The visited row kept at place `k`. -/
def kept (q : Fin 1024) (k : Fin 16) : Fin 128 := last (keys Q T P q) ⟨k.val, by omega⟩

/-- The row of the table kept at place `k`. -/
def krow (q : Fin 1024) (k : Fin 16) : Fin 8192 := lane (clus Q P q) (kept Q T P q k)

/-- The three results. -/
def scoreOf (q : Fin 1024) (k : Fin 16) : EReal := keys Q T P q (kept Q T P q k)

def idOf (q : Fin 1024) (k : Fin 16) : BitVec 32 :=
  BitVec.ofNat 32 ((word Q T q (krow Q T P q k)).val + 32 * ((krow Q T P q k).val % 16) + 512 * min ((krow Q T P q k).val / 16) 31)

def entryOf (q : Fin 1024) (k : Fin 16) : BitVec 32 :=
  BitVec.ofNat 32 ((word Q T q (krow Q T P q k)).val + 32 * ((krow Q T P q k).val % 16) + 512 * ((krow Q T P q k).val / 16))
end

end Cert.Proof.Tk
-- ==== Proof.Finite.lean ====
/-
  Finite arguments: every entry is a real number, so no score is -∞.
-/
module

public import proofs.«01_k».proof.Proof.Spec
public import proofs.«01_k».proof.Proof.Gen.Pre_finite
public import Idealize.ShloMosaic.Lib.ReduceAll

@[expose] public section

set_option maxRecDepth 16384

noncomputable section

namespace Cert.Proof.Tk

open Cert.TopkIdeal Cert.TopkIdeal.Gen
open Idealize.ShloMosaic

/-- An entry below +∞ in absolute value is a real number. -/
theorem real_of_abs (x : Ideal .f32) (h : FloatOps.cmpf .olt (FloatOps.absf x) (FloatOps.ofBits (F := Ideal) .f32 0x7F800000#32) = 1#1) : ∃ r : ℝ, x = (r : EReal) := by
  have hw : Ideal.ofBits FTy.f32 0x7F800000#32 = ⊤ := by simp [Ideal.ofBits, Ideal.ieee]
  have h' : BitVec.ofBool (decide (max x (-x) < Ideal.ofBits FTy.f32 0x7F800000#32)) = 1#1 := h
  rw [hw] at h'
  have hlt : max x (-x) < ⊤ := by
    by_contra hn
    rw [decide_eq_false hn] at h'
    exact absurd h' (by decide)
  obtain ⟨h1, h2⟩ := max_lt_iff.mp hlt
  have hb : x ≠ ⊥ := by
    rintro rfl
    exact absurd h2 (by simp)
  exact ⟨x.toReal, (EReal.coe_toReal h1.ne hb).symm⟩

theorem finite_args (Q : FVec Ideal S1024x64 .f32) (T : FVec Ideal S512x16x32x64 .f32) (P : FVec Ideal S512x64 .f32)
    (h : Cert.Pre_finite.fn (F := Ideal) Q T P = fun _ => 1#1) :
    (∀ i, ∃ r : ℝ, Q i = (r : EReal)) ∧ (∀ i, ∃ r : ℝ, T i = (r : EReal)) ∧ (∀ i, ∃ r : ℝ, P i = (r : EReal)) := by
  have h1 := congrFun h (fun a => a.elim0)
  simp only [Cert.Pre_finite.fn] at h1
  obtain ⟨h12, h3⟩ := IntOp.andi_eq_one.mp h1
  obtain ⟨h1, h2⟩ := IntOp.andi_eq_one.mp h12
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i)⟩

/-- A sum of products of real numbers is a real number. -/
theorem sum_real {n : Nat} (f g : Fin n → EReal) (hf : ∀ d, ∃ r : ℝ, f d = (r : EReal)) (hg : ∀ d, ∃ r : ℝ, g d = (r : EReal)) :
    ∑ d, f d * g d ≠ ⊥ := by
  choose a ha using hf
  choose b hb using hg
  have e : ∑ d, f d * g d = ((∑ d, a d * b d : ℝ) : EReal) := by
    rw [show ((∑ d, a d * b d : ℝ) : EReal) = ∑ d, ((a d * b d : ℝ) : EReal) from map_sum (⟨⟨Real.toEReal, rfl⟩, EReal.coe_add⟩ : ℝ →+ EReal) _ _]
    exact Finset.sum_congr rfl fun d _ => by rw [ha, hb, EReal.coe_mul]
  rw [e]
  exact EReal.coe_ne_bot _

section
variable (Q : FVec Ideal S1024x64 .f32) (T : FVec Ideal S512x16x32x64 .f32) (P : FVec Ideal S512x64 .f32)
  (h : Cert.Pre_finite.fn (F := Ideal) Q T P = fun _ => 1#1)
include h

theorem near_real (q : Fin 1024) (l : Fin 512) : near Q P q l ≠ ⊥ :=
  sum_real _ _ (fun d => (finite_args Q T P h).1 _) fun d => (finite_args Q T P h).2.2 _

theorem best_real (q : Fin 1024) (i : Fin 8192) : best Q T q i ≠ ⊥ :=
  sum_real _ _ (fun d => (finite_args Q T P h).1 _) fun d => (finite_args Q T P h).2.1 _
end

end Cert.Proof.Tk
-- ==== Proof.Arrays.lean ====
/-
  What each of the three calls leaves in its result arrays, at an index.
-/
module

public import proofs.«01_k».proof.Proof.Spec
public import proofs.«01_k».proof.Proof.Gen.TopkIdeal.Frame
public import Idealize.ShloMosaic.Lib.Pipeline.ValueKit

@[expose] public section

set_option maxRecDepth 16384

noncomputable section

namespace Cert.Proof.Tk

open Cert.TopkIdeal Cert.TopkIdeal.Gen
open Idealize.ShloMosaic Idealize.ShloMosaic.TcCoe

section
variable (V : (c : Dev nD) → (b : Ref sig .tc) → Buf (Elt Ideal) ((c : Thread nD τ).loc b))

theorem near_eq (Q : S1024x64.Idx → EReal) (P : S512x64.Idx → EReal) (q : Fin 1024) :
    (fun l => k0_pay2 (F := Ideal) Q P (ix2 q l)) = near Q P q :=
  funext fun l => scores_apply Q P q l

theorem iblk0_0 (c : Dev nD) (t : Fin cfg0.N) : iblk0 V c 0 t = V c main_arg0 := by
  funext x
  blk_simp [iblk0]
  refine congrArg (V c main_arg0) ?_
  funext a
  refine Fin.ext ?_
  blk_simp
  rw [show win0_0.index t a = 0 from rfl]
  omega

theorem iblk0_1 (c : Dev nD) (t : Fin cfg0.N) : iblk0 V c 1 t = V c main_arg2 := by
  funext x
  blk_simp [iblk0]
  refine congrArg (V c main_arg2) ?_
  funext a
  refine Fin.ext ?_
  blk_simp
  rw [show win0_1.index t a = 0 from rfl]
  omega

theorem out0_cols (x0 : Vec Ideal S1024x64 .f32) (x1 : Vec Ideal S512x64 .f32) : out0_2 (F := Ideal) x0 x1 = cols0 (F := Ideal) x0 x1 := by
  have l0 : View.ld x0 r0_0 = x0 := View.ld_unit_lit _ x0 (by decide)
  have l1 : View.ld x1 r0_1 = x1 := View.ld_unit_lit _ x1 (by decide)
  rw [out0_eq, View.canon_cons_unit_lit _ _ _ (by decide)]
  exact congrArg₂ (cols0 (F := Ideal)) l0 l1

theorem cols_clus (Q : FVec Ideal S1024x64 .f32) (P : FVec Ideal S512x64 .f32) (q : Fin 1024) (hfin : ∀ l, near Q P q l ≠ ⊥) (c : Fin 8) :
    cols0 Q P (ix2 q c) = BitVec.ofNat 32 (clus Q P q c).val := by
  have h := cols0_apply Q P q (fun l => by rw [scores_apply]; exact hfin l) c
  rw [near_eq] at h
  exact h

theorem call0 (c : Dev nD) (hfin : ∀ q l, near (V c main_arg0) (V c main_arg2) q l ≠ ⊥) :
    (dat0 V c).arrAt 2 cfg0.N
      = (fun i : S1024x8.Idx => BitVec.ofNat 32 (clus (V c main_arg0) (V c main_arg2) (i 0) (i 1)).val) := by
  refine (dat0 V c).arrAt_eq_of_covers 2 _ (by decide +kernel) fun t hf y => ?_
  blk_simp
  rw [after0_2, iblk0_0, iblk0_1, out0_cols]
  have e0 : (win0_2.blk t).view.emb y 0 = y 0 := Fin.ext (by blk_simp; rw [show win0_2.index t 0 = 0 from rfl]; omega)
  have e1 : (win0_2.blk t).view.emb y 1 = y 1 := Fin.ext (by blk_simp; rw [show win0_2.index t 1 = 0 from rfl]; omega)
  rw [e0, e1]
  refine (congrArg _ (eq_ix2 (n0 := 1024) (n1 := 8) y)).trans ?_
  exact cols_clus (V c main_arg0) (V c main_arg2) (y 0) (hfin (y 0)) (y 1)

/-- The score of a row's word, the table held as a matrix. -/
def flat (Q : S1024x64.Idx → EReal) (T : S8192x2048.Idx → EReal) (q : Fin 1024) (i : Fin 8192) (v : Fin 32) : EReal :=
  ∑ d : Fin 64, Q (ix2 q d) * T (ix2 i ⟨64 * v.val + d.val, by omega⟩)

theorem index1_0 : ∀ t : Fin cfg1.N, win1_0.index t = ![0, 0] := (by decide +kernel : ∀ t : Fin grid1.N, _)
theorem index1_1 : ∀ t : Fin cfg1.N, win1_1.index t = ![t.val, 0] := (by decide +kernel : ∀ t : Fin grid1.N, _)
theorem index1_2 : ∀ t : Fin cfg1.N, win1_2.index t = ![0, t.val] := (by decide +kernel : ∀ t : Fin grid1.N, _)
theorem index1_3 : ∀ t : Fin cfg1.N, win1_3.index t = ![0, t.val] := (by decide +kernel : ∀ t : Fin grid1.N, _)

theorem iblk1_0 (c : Dev nD) (t : Fin cfg1.N) (r : Fin 1024) (d : Fin 64) :
    iblk1 V c 0 t (ix2 r d : S1024x64.Idx) = V c main_arg0 (ix2 r d : S1024x64.Idx) := by
  blk_simp [iblk1]
  refine congrArg (V c main_arg0) ?_
  blk_ext [index1_0]

theorem iblk1_1 (c : Dev nD) (t : Fin cfg1.N) (i : Fin 1024) (j : Fin 2048) :
    iblk1 V c 1 t (ix2 i j : S1024x2048.Idx) = V c main_v1 (ix2 ⟨t.val * 1024 + i.val, by have : t.val < 8 := t.isLt; omega⟩ j : S8192x2048.Idx) := by
  blk_simp [iblk1]
  refine congrArg (V c main_v1) ?_
  blk_ext [index1_1]

theorem vals_flat (c : Dev nD) (t : Fin cfg1.N) (r i : Fin 1024) (v : Fin 32) :
    vals (iblk1 V c 0 t) (iblk1 V c 1 t) r i v
      = flat (V c main_arg0) (V c main_v1) r ⟨t.val * 1024 + i.val, by have : t.val < 8 := t.isLt; omega⟩ v := by
  unfold vals flat
  refine Finset.sum_congr rfl fun d _ => ?_
  exact congrArg₂ (· * ·) (iblk1_0 V c t r d) (iblk1_1 V c t i _)

theorem call1_2 (c : Dev nD) :
    (dat1 V c).arrAt 2 cfg1.N
      = (fun i : S1024x8192.Idx => flat (V c main_arg0) (V c main_v1) (i 0) (i 1) (nth (flat (V c main_arg0) (V c main_v1) (i 0) (i 1)) 0)) := by
  refine (dat1 V c).arrAt_eq_of_covers 2 _ (by decide +kernel) fun t hf y => ?_
  blk_simp
  rw [after1_2, out12_eq, View.canon_cons_unit_lit _ _ _ (by decide)]
  have hb := (best31 (iblk1 V c 0 t) (iblk1 V c 1 t) (y 0) (y 1)).1
  rw [show vals (iblk1 V c 0 t) (iblk1 V c 1 t) (y 0) (y 1) = _ from funext (vals_flat V c t (y 0) (y 1))] at hb
  refine (congrArg _ (eq_ix2 (n0 := 1024) (n1 := 1024) y)).trans (hb.trans ?_)
  have e0 : (win1_2.blk t).view.emb y 0 = y 0 := Fin.ext (by blk_simp [index1_2])
  have e1 : (win1_2.blk t).view.emb y 1 = (⟨t.val * 1024 + (y 1).val, by have : t.val < 8 := t.isLt; have : (y 1).val < 1024 := (y 1).isLt; omega⟩ : Fin 8192) :=
    Fin.ext (by blk_simp [index1_2])
  rw [e0, e1]
theorem call1_3 (c : Dev nD) :
    (dat1 V c).arrAt 3 cfg1.N
      = (fun i : S1024x8192.Idx => BitVec.ofNat 32 (nth (flat (V c main_arg0) (V c main_v1) (i 0) (i 1)) 0).val) := by
  refine (dat1 V c).arrAt_eq_of_covers 3 _ (by decide +kernel) fun t hf y => ?_
  blk_simp
  rw [after1_3, out13_eq, View.canon_cons_unit_lit _ _ _ (by decide)]
  have hb := (best31 (iblk1 V c 0 t) (iblk1 V c 1 t) (y 0) (y 1)).2
  rw [show vals (iblk1 V c 0 t) (iblk1 V c 1 t) (y 0) (y 1) = _ from funext (vals_flat V c t (y 0) (y 1))] at hb
  refine (congrArg _ (eq_ix2 (n0 := 1024) (n1 := 1024) y)).trans (hb.trans ?_)
  have e0 : (win1_3.blk t).view.emb y 0 = y 0 := Fin.ext (by blk_simp [index1_3])
  have e1 : (win1_3.blk t).view.emb y 1 = (⟨t.val * 1024 + (y 1).val, by have : t.val < 8 := t.isLt; have : (y 1).val < 1024 := (y 1).isLt; omega⟩ : Fin 8192) :=
    Fin.ext (by blk_simp [index1_3])
  rw [e0, e1]

theorem index2_0 : ∀ t : Fin cfg2.N, win2_0.index t = ![t.val, 0] := (by decide +kernel : ∀ t : Fin grid2.N, _)
theorem index2_1 : ∀ t : Fin cfg2.N, win2_1.index t = ![t.val, 0] := (by decide +kernel : ∀ t : Fin grid2.N, _)
theorem index2_2 : ∀ t : Fin cfg2.N, win2_2.index t = ![t.val, 0] := (by decide +kernel : ∀ t : Fin grid2.N, _)
theorem index2_3 : ∀ t : Fin cfg2.N, win2_3.index t = ![t.val, 0] := (by decide +kernel : ∀ t : Fin grid2.N, _)
theorem index2_4 : ∀ t : Fin cfg2.N, win2_4.index t = ![t.val, 0] := (by decide +kernel : ∀ t : Fin grid2.N, _)
theorem index2_5 : ∀ t : Fin cfg2.N, win2_5.index t = ![t.val, 0] := (by decide +kernel : ∀ t : Fin grid2.N, _)

/-- The query a row of a block is. -/
def qOf (t : Fin cfg2.N) (r : Fin 64) : Fin 1024 := ⟨t.val * 64 + r.val, by have : t.val < 16 := t.isLt; omega⟩

theorem iblk2_0 (c : Dev nD) (t : Fin cfg2.N) (r : Fin 64) (l : Fin 8192) :
    iblk2 V c 0 t (ix2 r l : S64x8192.Idx) = V c main_v2_0 (ix2 (qOf t r) l : S1024x8192.Idx) := by
  blk_simp [iblk2]
  refine congrArg (V c main_v2_0) ?_
  unfold qOf
  blk_ext [index2_0]

theorem iblk2_1 (c : Dev nD) (t : Fin cfg2.N) (r : Fin 64) (l : Fin 8192) :
    iblk2 V c 1 t (ix2 r l : S64x8192.Idx) = V c main_v2_1 (ix2 (qOf t r) l : S1024x8192.Idx) := by
  blk_simp [iblk2]
  refine congrArg (V c main_v2_1) ?_
  unfold qOf
  blk_ext [index2_1]

theorem iblk2_2 (c : Dev nD) (t : Fin cfg2.N) (r : Fin 64) (l : Fin 8) :
    iblk2 V c 2 t (ix2 r l : S64x8.Idx) = V c main_v0 (ix2 (qOf t r) l : S1024x8.Idx) := by
  blk_simp [iblk2]
  refine congrArg (V c main_v0) ?_
  unfold qOf
  blk_ext [index2_2]

section
variable (c : Dev nD) (C : Fin 1024 → Fin 8 → Fin 512) (hC : ∀ q, Function.Injective (C q))
  (B : Fin 1024 → Fin 8192 → EReal) (hB : ∀ q l, B q l ≠ ⊥) (W : Fin 1024 → Fin 8192 → Fin 32)
  (h0 : ∀ q l, V c main_v2_0 (ix2 q l : S1024x8192.Idx) = B q l)
  (h1 : ∀ q l, V c main_v2_1 (ix2 q l : S1024x8192.Idx) = BitVec.ofNat 32 (W q l).val)
  (h2 : ∀ q a, V c main_v0 (ix2 q a : S1024x8.Idx) = BitVec.ofNat 32 (C q a).val)

/-- The visited row kept at place `k`, of given scores. -/
def held (q : Fin 1024) (k : Fin 16) : Fin 128 := last (fun a => B q (lane (C q) a)) ⟨k.val, by omega⟩

include hC hB h0 h2

theorem step2 (t : Fin cfg2.N) (r : Fin 64) (k : Fin 16) :
    top2 (sc (iblk2 V c 0 t) (iblk2 V c 1 t) (iblk2 V c 2 t) k) (ix2 r 0) = B (qOf t r) (lane (C (qOf t r)) (held C B (qOf t r) k))
    ∧ ∀ l, ho (iblk2 V c 0 t) (iblk2 V c 1 t) (iblk2 V c 2 t) k (ix2 r l) = BitVec.ofBool (decide (l = lane (C (qOf t r)) (held C B (qOf t r) k))) :=
  round_at (iblk2 V c 0 t) (iblk2 V c 1 t) (iblk2 V c 2 t) r (C (qOf t r)) (hC _) (fun a => (iblk2_2 V c t r a).trans (h2 _ _))
    (fun a => B (qOf t r) (lane (C (qOf t r)) a)) (fun a => hB _ _) (fun a => (iblk2_0 V c t r _).trans (h0 _ _)) k.val (by omega)

theorem call2_3 : (dat2 V c).arrAt 3 cfg2.N = (fun i : S1024x16.Idx => B (i 0) (lane (C (i 0)) (held C B (i 0) (i 1)))) := by
  refine (dat2 V c).arrAt_eq_of_covers 3 _ (by decide +kernel) fun t hf y => ?_
  blk_simp
  rw [after2_3, out3_eq, View.canon_cons_unit_lit _ _ _ (by decide)]
  refine (congrArg _ (eq_ix2 (n0 := 64) (n1 := 16) y)).trans ?_
  refine (side_apply _ (y 0) (y 1)).trans (((step2 V c C hC B hB h0 h2 t (y 0) (y 1)).1).trans ?_)
  have e0 : (win2_3.blk t).view.emb y 0 = qOf t (y 0) := Fin.ext (by unfold qOf; blk_simp [index2_3])
  have e1 : (win2_3.blk t).view.emb y 1 = y 1 := Fin.ext (by blk_simp [index2_3])
  rw [e0, e1]

include h1

theorem call2_4 : (dat2 V c).arrAt 4 cfg2.N = (fun i : S1024x16.Idx =>
    BitVec.ofNat 32 ((W (i 0) (lane (C (i 0)) (held C B (i 0) (i 1)))).val + 32 * ((lane (C (i 0)) (held C B (i 0) (i 1))).val % 16)
      + 512 * min ((lane (C (i 0)) (held C B (i 0) (i 1))).val / 16) 31)) := by
  refine (dat2 V c).arrAt_eq_of_covers 4 _ (by decide +kernel) fun t hf y => ?_
  blk_simp
  rw [after2_4, out4_eq, View.canon_cons_unit_lit _ _ _ (by decide)]
  refine (congrArg _ (eq_ix2 (n0 := 64) (n1 := 16) y)).trans ?_
  refine (side_apply _ (y 0) (y 1)).trans ((id2_apply _ _ _ (y 0) _ (io_at _ _ _ (y 0)) (step2 V c C hC B hB h0 h2 t (y 0) (y 1)).2 _
    (((rid_at _ _ _ (y 0) _).trans (iblk2_1 V c t (y 0) _)).trans (h1 _ _))).trans ?_)
  have e0 : (win2_4.blk t).view.emb y 0 = qOf t (y 0) := Fin.ext (by unfold qOf; blk_simp [index2_4])
  have e1 : (win2_4.blk t).view.emb y 1 = y 1 := Fin.ext (by blk_simp [index2_4])
  rw [e0, e1]

theorem call2_5 : (dat2 V c).arrAt 5 cfg2.N = (fun i : S1024x16.Idx =>
    BitVec.ofNat 32 ((W (i 0) (lane (C (i 0)) (held C B (i 0) (i 1)))).val + 32 * ((lane (C (i 0)) (held C B (i 0) (i 1))).val % 16)
      + 512 * ((lane (C (i 0)) (held C B (i 0) (i 1))).val / 16))) := by
  refine (dat2 V c).arrAt_eq_of_covers 5 _ (by decide +kernel) fun t hf y => ?_
  blk_simp
  rw [after2_5, out5_eq, View.canon_cons_unit_lit _ _ _ (by decide)]
  refine (congrArg _ (eq_ix2 (n0 := 64) (n1 := 16) y)).trans ?_
  refine (side_apply _ (y 0) (y 1)).trans ((entry2_apply _ _ _ (y 0) _ (io_at _ _ _ (y 0)) (step2 V c C hC B hB h0 h2 t (y 0) (y 1)).2 _
    (((rid_at _ _ _ (y 0) _).trans (iblk2_1 V c t (y 0) _)).trans (h1 _ _))).trans ?_)
  have e0 : (win2_5.blk t).view.emb y 0 = qOf t (y 0) := Fin.ext (by unfold qOf; blk_simp [index2_5])
  have e1 : (win2_5.blk t).view.emb y 1 = y 1 := Fin.ext (by blk_simp [index2_5])
  rw [e0, e1]
end
end

end Cert.Proof.Tk
-- ==== Proof.TopkRun.lean ====
/-
  The run of the three calls: every result array at its contents, and the arguments unchanged.
-/
module

public import proofs.«01_k».proof.Proof.Arrays

@[expose] public section

set_option maxRecDepth 16384

noncomputable section

namespace Cert.Proof.Tk

open Cert.TopkIdeal Cert.TopkIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

/-! ## The contents at the boundaries -/

section
variable (m : (ℓ : Loc nD τ sig) → Buf (Elt Ideal) ℓ) (ρ : Dev nD → PrngReg) (c : Dev nD)

abbrev Qm : S1024x64.Idx → EReal := m ((c : Thread nD τ).loc main_arg0)
abbrev Tb : S512x16x32x64.Idx → EReal := m ((c : Thread nD τ).loc main_arg1)
abbrev Pm : S512x64.Idx → EReal := m ((c : Thread nD τ).loc main_arg2)

theorem V2_arg0 : V2 m ρ c main_arg0 = Qm m c := W2_args m ρ c main_arg0 (by decide)

theorem V2_v1 : V2 m ρ c main_v1 = shapeCast S8192x2048 (Tb m c) shapeCasts_S512x16x32x64_S8192x2048 := by
  have h : W1 m ρ c (Proc.devRef .tc main_arg1) = Tb m c := W1_args m ρ c main_arg1 (by decide)
  rw [← h]
  show StableHlo.after hostOps1 (W1 m ρ c) (Proc.devRef .tc main_v1) = _
  simp only [hostOps1, StableHlo.reshape, StableHlo.TRef.binary, StableHlo.TRef.unary, StableHlo.TRef.toBuf, StableHlo.TRef.ofBuf, cast_eq]; after_results <;> rfl

/-- The matrix's row `i` is the table's row `i % 16` of cluster `i / 16`, its words side by side. -/
theorem table_at (T : S512x16x32x64.Idx → EReal) (i : Fin 8192) (v : Fin 32) (d : Fin 64) :
    shapeCast S8192x2048 T shapeCasts_S512x16x32x64_S8192x2048 (ix2 i ⟨64 * v.val + d.val, by omega⟩)
      = T (ix4 ⟨i.val / 16, by omega⟩ ⟨i.val % 16, by omega⟩ v d) := by
  refine shapeCast_apply T _ _ _ ?_
  rw [Shape.rowMajor_val_four, Shape.rowMajor_val_two]
  show ((i.val / 16 * 16 + i.val % 16) * 32 + v.val) * 64 + d.val = i.val * 2048 + (64 * v.val + d.val)
  omega

theorem flat_dots (q : Fin 1024) (i : Fin 8192) : flat (V2 m ρ c main_arg0) (V2 m ρ c main_v1) q i = dots (Qm m c) (Tb m c) q i := by
  rw [V2_arg0, V2_v1]
  funext v
  unfold flat dots
  exact Finset.sum_congr rfl fun d _ => by rw [table_at]

theorem V3_v2_0 (q : Fin 1024) (l : Fin 8192) : V3 m ρ c main_v2_0 (ix2 q l : S1024x8192.Idx) = best (Qm m c) (Tb m c) q l := by
  have h := congrFun ((W3_arr m ρ c 2).trans (call1_2 (V2 m ρ) c)) (ix2 q l : S1024x8192.Idx)
  refine h.trans ?_
  show flat _ _ q l (nth (flat _ _ q l) 0) = _
  rw [flat_dots]
  rfl

theorem V3_v2_1 (q : Fin 1024) (l : Fin 8192) : V3 m ρ c main_v2_1 (ix2 q l : S1024x8192.Idx) = BitVec.ofNat 32 (word (Qm m c) (Tb m c) q l).val := by
  have h := congrFun ((W3_arr m ρ c 3).trans (call1_3 (V2 m ρ) c)) (ix2 q l : S1024x8192.Idx)
  refine h.trans ?_
  show BitVec.ofNat 32 (nth (flat _ _ q l) 0).val = _
  rw [flat_dots]
  rfl

theorem V3_v0 (hfin : ∀ q l, near (Qm m c) (Pm m c) q l ≠ ⊥) (q : Fin 1024) (a : Fin 8) :
    V3 m ρ c main_v0 (ix2 q a : S1024x8.Idx) = BitVec.ofNat 32 (clus (Qm m c) (Pm m c) q a).val := by
  have h3 : V3 m ρ c main_v0 = V2 m ρ c main_v0 := W3_of m ρ c main_v0 (by decide)
  have h2 : V2 m ρ c main_v0 = W1 m ρ c (Proc.devRef .tc main_v0) := W2_of m ρ c main_v0 (by decide)
  exact congrFun (h3.trans (h2.trans ((W1_arr m ρ c 2).trans (call0 (V0 m ρ) c hfin)))) (ix2 q a : S1024x8.Idx)

variable (hnear : ∀ q l, near (Qm m c) (Pm m c) q l ≠ ⊥) (hbest : ∀ q l, best (Qm m c) (Tb m c) q l ≠ ⊥)
include hnear hbest

theorem W4_scores : W4 m ρ c (Proc.devRef .tc main_v3_0) = (fun i : S1024x16.Idx => scoreOf (Qm m c) (Tb m c) (Pm m c) (i 0) (i 1)) :=
  (W4_arr m ρ c 3).trans (call2_3 (V3 m ρ) c (clus (Qm m c) (Pm m c)) (clus_inj _ _) (best (Qm m c) (Tb m c)) hbest
    (V3_v2_0 m ρ c) (V3_v0 m ρ c hnear))

theorem W4_ids : W4 m ρ c (Proc.devRef .tc main_v3_1) = (fun i : S1024x16.Idx => idOf (Qm m c) (Tb m c) (Pm m c) (i 0) (i 1)) :=
  (W4_arr m ρ c 4).trans (call2_4 (V3 m ρ) c (clus (Qm m c) (Pm m c)) (clus_inj _ _) (best (Qm m c) (Tb m c)) hbest
    (word (Qm m c) (Tb m c)) (V3_v2_0 m ρ c) (V3_v2_1 m ρ c) (V3_v0 m ρ c hnear))

theorem W4_entries : W4 m ρ c (Proc.devRef .tc main_v3_2) = (fun i : S1024x16.Idx => entryOf (Qm m c) (Tb m c) (Pm m c) (i 0) (i 1)) :=
  (W4_arr m ρ c 5).trans (call2_5 (V3 m ρ) c (clus (Qm m c) (Pm m c)) (clus_inj _ _) (best (Qm m c) (Tb m c)) hbest
    (word (Qm m c) (Tb m c)) (V3_v2_0 m ρ c) (V3_v2_1 m ρ c) (V3_v0 m ρ c hnear))
end

/-! ## The run -/

section
variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every buffer of the cores ends at the last boundary's contents. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

theorem run (hnear : ∀ c q l, near (Qm m c) (Pm m c) q l ≠ ⊥) (hbest : ∀ c q l, best (Qm m c) (Tb m c) q l ≠ ⊥) :
    θ_run defs (onTc (τ := τ) (main (F := Ideal))) ⟨m, fun _ => 0, ρ⟩ (fun r => ∀ c : Dev nD,
      r.2.mem ((c.tc : Thread nD τ).loc main_v3_0) = (fun i : S1024x16.Idx => scoreOf (Qm m c) (Tb m c) (Pm m c) (i 0) (i 1))
      ∧ r.2.mem ((c.tc : Thread nD τ).loc main_v3_1) = (fun i : S1024x16.Idx => idOf (Qm m c) (Tb m c) (Pm m c) (i 0) (i 1))
      ∧ r.2.mem ((c.tc : Thread nD τ).loc main_v3_2) = (fun i : S1024x16.Idx => entryOf (Qm m c) (Tb m c) (Pm m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3_0 (by decide))).trans (W4_scores m ρ c (hnear c) (hbest c)),
     (h c _ (mem_uc main_v3_1 (by decide))).trans (W4_ids m ρ c (hnear c) (hbest c)),
     (h c _ (mem_uc main_v3_2 (by decide))).trans (W4_entries m ρ c (hnear c) (hbest c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (ends m ρ)
end

end Cert.Proof.Tk
-- ==== Proof.TopkRef.lean ====
/-
  The reference's results, read at an index.
-/
module

public import proofs.«01_k».proof.Proof.Spec
public import proofs.«01_k».proof.Proof.Gen.TopkReferenceIdeal.Run
public import Idealize.ShloMosaic.Lib.Pointwise
public import Idealize.ShloMosaic.Lib.SortFacts

@[expose] public section

set_option maxRecDepth 16384

noncomputable section

namespace Cert.Proof.Tk.Ref

open Cert.TopkReferenceIdeal Cert.TopkReferenceIdeal.Gen
open Idealize.ShloMosaic Idealize.ShloMosaic.TcCoe

/-! ## The stages -/

section
variable (Q : FVec Ideal S1024x64 .f32) (T : FVec Ideal S512x16x32x64 .f32) (P : FVec Ideal S512x64 .f32)

/-- The queries' scores against the prototypes. -/
def psc : FVec Ideal S1024x512 .f32 := Host.dotGeneral dot_S1024x64_S512x64_S1024x512_1_1_0_0_n_n none Q P

/-- The clusters of the eight greatest. -/
def cls : IVec S1024x8 32 := (Host.topK S1024x8 1 (FloatOps.cmpfTotal .gt) (psc Q P) sliceFits_S1024x512_S1024x8).2

/-- Indices into an axis of length `n`, a negative one counted from the end. -/
def starts (n : BitVec 32) (x : IVec S1024x8 32) : IVec S1024x8x1 32 :=
  broadcastInDim S1024x8x1 ![0, 1] bcast_S1024x8_S1024x8x1_0_1 (select (cmpi .slt x (broadcastInDim S1024x8 ![] bcast_S_S1024x8 (constantI S_ 32 0#32)))
    (addi x (broadcastInDim S1024x8 ![] bcast_S_S1024x8 (constantI S_ 32 n))) x)

/-- The visited clusters of the table. -/
def rows : FVec Ideal S1024x8x16x32x64 .f32 :=
  Host.gather gather_S512x16x32x64_S1024x8x1_S1024x8x16x32x64_234_0_n_n_0_2_1163264 T (starts 512#32 (cls Q P))

/-- The queries' scores against the visited words. -/
def wsc : FVec Ideal S1024x8x16x32 .f32 := Host.dotGeneral dot_S1024x64_S1024x8x16x32x64_S1024x8x16x32_1_4_n_123_0_0 none Q (rows Q T P)

/-- Each row's best score and its word. -/
def tops : FVec Ideal S1024x8x16x1 .f32 × IVec S1024x8x16x1 32 :=
  Host.topK S1024x8x16x1 3 (FloatOps.cmpfTotal .gt) (wsc Q T P) sliceFits_S1024x8x16x32_S1024x8x16x1

/-- The word's number within its cluster. -/
def value : IVec S1024x8x16x1 32 :=
  addi (tops Q T P).2 (broadcastInDim S1024x8x16x1 ![0, 1, 2, 3] bcast_S1x1x16x1_S1024x8x16x1_0_1_2_3 (shapeCast S1x1x16x1 (addi (broadcastInDim S16 ![] bcast_S_S16 (constantI S_ 32 0#32))
    (muli (broadcastInDim S16 ![] bcast_S_S16 (constantI S_ 32 32#32)) (iotaInDim S16 32 0))) shapeCasts_S16_S1x1x16x1))

/-- The multiples of 512, at the visited clusters. -/
def base : IVec S1024x8 32 :=
  Host.gather gather_S32_S1024x8x1_S1024x8_n_0_n_n_0_2_1 (addi (broadcastInDim S32 ![] bcast_S_S32 (constantI S_ 32 0#32))
    (muli (broadcastInDim S32 ![] bcast_S_S32 (constantI S_ 32 512#32)) (iotaInDim S32 32 0))) (starts 32#32 (cls Q P))

def ids : IVec S1024x8x16x1 32 :=
  addi (value Q T P) (broadcastInDim S1024x8x16x1 ![0, 1, 2, 3] bcast_S1024x8x1x1_S1024x8x16x1_0_1_2_3 (shapeCast S1024x8x1x1 (base Q P) shapeCasts_S1024x8_S1024x8x1x1))

def ents : IVec S1024x8x16x1 32 :=
  addi (value Q T P) (broadcastInDim S1024x8x16x1 ![0, 1, 2, 3] bcast_S1024x8x1x1_S1024x8x16x1_0_1_2_3
    (muli (shapeCast S1024x8x1x1 (cls Q P) shapeCasts_S1024x8_S1024x8x1x1) (broadcastInDim S1024x8x1x1 ![] bcast_S_S1024x8x1x1 (constantI S_ 32 512#32))))

/-- The candidates sorted by score, each with its numbers. -/
def sorted : FVec Ideal S1024x128 .f32 × IVec S1024x128 32 × IVec S1024x128 32 :=
  Host.sort3 S1024x128 1 comparator_f32_i32_i32_d1 (shapeCast S1024x128 (tops Q T P).1 shapeCasts_S1024x8x16x1_S1024x128)
    (shapeCast S1024x128 (ids Q T P) shapeCasts_S1024x8x16x1_S1024x128) (shapeCast S1024x128 (ents Q T P) shapeCasts_S1024x8x16x1_S1024x128)

/-- The last sixteen, last first. -/
def tail {α : Type} (x : S1024x128.Idx → α) : S1024x16.Idx → α :=
  Host.reverse [1] (extractStridedSlice S1024x16 ![0, 112] x slices_S1024x128_S1024x16_0_112)
end

section
variable (m : (ℓ : Loc nD τ sig) → Buf (Elt Ideal) ℓ) (c : Dev nD)

theorem res0 : Value.res_main_v42 m c = tail (sorted (m ((c.tc : Thread nD τ).loc main_arg0)) (m ((c.tc : Thread nD τ).loc main_arg1)) (m ((c.tc : Thread nD τ).loc main_arg2))).1 := rfl
theorem res1 : Value.res_main_v44 m c = tail (sorted (m ((c.tc : Thread nD τ).loc main_arg0)) (m ((c.tc : Thread nD τ).loc main_arg1)) (m ((c.tc : Thread nD τ).loc main_arg2))).2.1 := rfl
theorem res2 : Value.res_main_v46 m c = tail (sorted (m ((c.tc : Thread nD τ).loc main_arg0)) (m ((c.tc : Thread nD τ).loc main_arg1)) (m ((c.tc : Thread nD τ).loc main_arg2))).2.2 := rfl
end

section
variable (Q : FVec Ideal S1024x64 .f32) (T : FVec Ideal S512x16x32x64 .f32) (P : FVec Ideal S512x64 .f32)

theorem psc_at (q : Fin 1024) (l : Fin 512) : psc Q P (ix2 q l) = near Q P q l := by
  pointwise [psc]
  rfl

theorem gt_iff (a b : EReal) : (FloatOps.cmpfTotal (F := Ideal) (φ := .f32) .gt a b == 1#1) = decide (b < a) := by
  show (BitVec.ofBool (decide (b < a)) == 1#1) = _
  cases decide (b < a) <;> rfl

theorem row_axes : 1 < S1024x512.rank := by decide

theorem key_axes : 1 < S1024x128.rank := by decide

theorem four_axes : 3 < S1024x8x16x32.rank := by decide

/-- The greatest of an axis, read at one index: the element and its position, at the place the sort gives. -/
theorem topK_one {s : Shape} (t : Shape) (d : Nat) (hd : d < s.rank) (x : s.Idx → EReal) (h : s.Slices (fun _ => 0) t) (j : t.Idx) (J : s.Idx)
    (hJ : ∀ a, (J a).val = (j (a.cast h.1.symm)).val) (p : Fin (s.size ⟨d, hd⟩))
    (hp : p = sortedFrom (fun k k' => decide (x (J.along ⟨d, hd⟩ k') < x (J.along ⟨d, hd⟩ k))) (J ⟨d, hd⟩)) :
    (Host.topK t d (FloatOps.cmpfTotal (F := Ideal) (φ := .f32) .gt) x h).1 j = x (J.along ⟨d, hd⟩ p)
    ∧ (Host.topK t d (FloatOps.cmpfTotal (F := Ideal) (φ := .f32) .gt) x h).2 j = BitVec.ofNat 32 p.val := by
  subst hp
  have e : J = fun a => ⟨0 + (j (a.cast h.1.symm)).val, Nat.lt_of_lt_of_le (Nat.add_lt_add_left (j _).isLt _) (h.2 a)⟩ :=
    funext fun a => Fin.ext ((hJ a).trans (Nat.zero_add _).symm)
  subst e
  unfold Host.topK Host.sort2 extractStridedSlice
  simp only [hd, dif_pos, gt_iff]
  refine ⟨trivial, ?_⟩
  unfold iotaInDim Shape.Idx.along
  rw [Function.update_self]

theorem topk_row (x : FVec Ideal S1024x512 .f32) (q : Fin 1024) (c : Fin 8) :
    (Host.topK S1024x8 1 (FloatOps.cmpfTotal .gt) x sliceFits_S1024x512_S1024x8).2 (ix2 q c)
      = BitVec.ofNat 32 (nth (fun l => x (ix2 q l)) ⟨c.val, by omega⟩).val := by
  have hal : ∀ k : Fin 512, Shape.Idx.along (s := S1024x512) (ix2 q ⟨c.val, by omega⟩) ⟨1, row_axes⟩ k = ix2 q k := by
    intro k
    funext a
    match a with
    | ⟨0, _⟩ => rfl
    | ⟨1, _⟩ => rfl
  refine (topK_one (s := S1024x512) S1024x8 1 row_axes x sliceFits_S1024x512_S1024x8 (ix2 q c) (ix2 q ⟨c.val, by omega⟩) ?_ (nth (fun l => x (ix2 q l)) ⟨c.val, by omega⟩ : Fin 512) ?_).2
  · intro a
    match a with
    | ⟨0, _⟩ => rfl
    | ⟨1, _⟩ => rfl
  · unfold nth
    refine congrFun (congrArg sortedFrom ?_) _
    funext k k'
    exact congrArg₂ (fun u v => decide (x u < x v)) (hal k').symm (hal k).symm

theorem topk_word (x : FVec Ideal S1024x8x16x32 .f32) (q : Fin 1024) (c : Fin 8) (r : Fin 16) :
    (Host.topK S1024x8x16x1 3 (FloatOps.cmpfTotal .gt) x sliceFits_S1024x8x16x32_S1024x8x16x1).1 (ix4 q c r 0)
      = x (ix4 q c r (nth (fun l => x (ix4 q c r l)) 0))
    ∧ (Host.topK S1024x8x16x1 3 (FloatOps.cmpfTotal .gt) x sliceFits_S1024x8x16x32_S1024x8x16x1).2 (ix4 q c r 0)
      = BitVec.ofNat 32 (nth (fun l => x (ix4 q c r l)) 0).val := by
  have hal : ∀ k : Fin 32, Shape.Idx.along (s := S1024x8x16x32) (ix4 q c r 0) ⟨3, four_axes⟩ k = ix4 q c r k := by
    intro k
    funext a
    match a with
    | ⟨0, _⟩ => rfl
    | ⟨1, _⟩ => rfl
    | ⟨2, _⟩ => rfl
    | ⟨3, _⟩ => rfl
  have h := topK_one (s := S1024x8x16x32) S1024x8x16x1 3 four_axes x sliceFits_S1024x8x16x32_S1024x8x16x1 (ix4 q c r 0) (ix4 q c r 0) (by
    intro a
    match a with
    | ⟨0, _⟩ => rfl
    | ⟨1, _⟩ => rfl
    | ⟨2, _⟩ => rfl
    | ⟨3, _⟩ => rfl) (nth (fun l => x (ix4 q c r l)) 0 : Fin 32) (by
    unfold nth
    refine congrFun (congrArg sortedFrom ?_) _
    funext k k'
    exact congrArg₂ (fun u v => decide (x u < x v)) (hal k').symm (hal k).symm)
  exact ⟨h.1.trans (congrArg x (hal _)), h.2⟩

theorem cls_at (q : Fin 1024) (c : Fin 8) : cls Q P (ix2 q c) = BitVec.ofNat 32 (clus Q P q c).val := by
  unfold cls clus
  rw [topk_row, show (fun l => psc Q P (ix2 q l)) = near Q P q from funext (psc_at Q P q)]

theorem slt_zero {w : Nat} (hw : w < 2 ^ 31) : IntOp.cmpi .slt (BitVec.ofNat 32 w) 0#32 = 0#1 := by
  have e : (BitVec.ofNat 32 w).toInt = w := by rw [BitVec.toInt_ofNat']; exact Int.bmod_eq_of_le (by omega) (by omega)
  show BitVec.ofBool (BitVec.slt (BitVec.ofNat 32 w) 0#32) = 0#1
  rw [BitVec.slt, e, decide_eq_false (by show ¬ ((w : Int) < 0); omega)]
  rfl

theorem starts_at (n : BitVec 32) (x : IVec S1024x8 32) (q : Fin 1024) (c : Fin 8) (w : Nat) (hw : w < 2 ^ 31) (h : x (ix2 q c) = BitVec.ofNat 32 w) :
    starts n x (ix3 q c 0) = BitVec.ofNat 32 w := by
  pointwise [starts]
  rw [h, slt_zero hw]
  rfl

theorem toNat_clamp {w n : Nat} (hw : w < 2 ^ 31) : min (BitVec.ofNat 32 w).toInt.toNat n = min w n := by
  have e : (BitVec.ofNat 32 w).toInt = w := by rw [BitVec.toInt_ofNat']; exact Int.bmod_eq_of_le (by omega) (by omega)
  rw [e]
  rfl

theorem gather_clusters (x : S512x16x32x64.Idx → EReal) (idx : IVec S1024x8x1 32) (q : Fin 1024) (c : Fin 8) (r : Fin 16) (v : Fin 32) (d : Fin 64)
    (w : Fin 512) (h : idx (ix3 q c 0) = BitVec.ofNat 32 w.val) :
    Host.gather gather_S512x16x32x64_S1024x8x1_S1024x8x16x32x64_234_0_n_n_0_2_1163264 x idx (ix5 q c r v d) = x (ix4 w r v d) := by
  unfold Host.gather
  refine congrArg x (funext fun a => Fin.ext ?_)
  match a with
  | ⟨0, _⟩ =>
    have e : idx (gather_S512x16x32x64_S1024x8x1_S1024x8x16x32x64_234_0_n_n_0_2_1163264.siIdx (ix5 q c r v d) ⟨0, by decide⟩) = BitVec.ofNat 32 w.val := by
      refine (congrArg idx (funext fun b => ?_)).trans h
      match b with
      | ⟨0, _⟩ => rfl
      | ⟨1, _⟩ => rfl
      | ⟨2, _⟩ => rfl
    show min (idx (gather_S512x16x32x64_S1024x8x1_S1024x8x16x32x64_234_0_n_n_0_2_1163264.siIdx (ix5 q c r v d) ⟨0, by decide⟩)).toInt.toNat 511 + 0 + 0 = w.val
    rw [e, toNat_clamp (by omega)]
    omega
  | ⟨1, _⟩ => exact Nat.zero_add _
  | ⟨2, _⟩ => exact Nat.zero_add _
  | ⟨3, _⟩ => exact Nat.zero_add _

theorem gather_multiples (x : S32.Idx → BitVec 32) (idx : IVec S1024x8x1 32) (q : Fin 1024) (c : Fin 8)
    (w : Fin 512) (h : idx (ix3 q c 0) = BitVec.ofNat 32 w.val) :
    Host.gather gather_S32_S1024x8x1_S1024x8_n_0_n_n_0_2_1 x idx (ix2 q c) = x (ix1 ⟨min w.val 31, by omega⟩) := by
  unfold Host.gather
  refine congrArg x (funext fun a => Fin.ext ?_)
  match a with
  | ⟨0, _⟩ =>
    have e : idx (gather_S32_S1024x8x1_S1024x8_n_0_n_n_0_2_1.siIdx (ix2 q c) ⟨0, by decide⟩) = BitVec.ofNat 32 w.val := by
      refine (congrArg idx (funext fun b => ?_)).trans h
      match b with
      | ⟨0, _⟩ => rfl
      | ⟨1, _⟩ => rfl
      | ⟨2, _⟩ => rfl
    show min (idx (gather_S32_S1024x8x1_S1024x8_n_0_n_n_0_2_1.siIdx (ix2 q c) ⟨0, by decide⟩)).toInt.toNat 31 + 0 + 0 = min w.val 31
    rw [e, toNat_clamp (by omega)]
    omega

theorem rows_at (q : Fin 1024) (c : Fin 8) (r : Fin 16) (v : Fin 32) (d : Fin 64) : rows Q T P (ix5 q c r v d) = T (ix4 (clus Q P q c) r v d) :=
  gather_clusters T _ q c r v d _ (starts_at _ _ q c _ (by omega) (cls_at Q P q c))

/-- The row of the table at row `r` of the query's cluster `c`. -/
def at16 (q : Fin 1024) (c : Fin 8) (r : Fin 16) : Fin 8192 := ⟨16 * (clus Q P q c).val + r.val, by omega⟩

theorem wsc_at (q : Fin 1024) (c : Fin 8) (r : Fin 16) (v : Fin 32) : wsc Q T P (ix4 q c r v) = dots Q T q (at16 Q P q c r) v := by
  pointwise [wsc]
  unfold dots
  refine Finset.sum_congr rfl fun d _ => ?_
  rw [rows_at]
  refine congrArg (Q (ix2 q d) * ·) (congrArg T ?_)
  refine congrArg₂ (fun a b => ix4 a b v d) (Fin.ext ?_) (Fin.ext ?_)
  · show (clus Q P q c).val = (16 * (clus Q P q c).val + r.val) / 16
    omega
  · show r.val = (16 * (clus Q P q c).val + r.val) % 16
    omega

theorem tops_at (q : Fin 1024) (c : Fin 8) (r : Fin 16) :
    (tops Q T P).1 (ix4 q c r 0) = best Q T q (at16 Q P q c r) ∧ (tops Q T P).2 (ix4 q c r 0) = BitVec.ofNat 32 (word Q T q (at16 Q P q c r)).val := by
  have h := topk_word (wsc Q T P) q c r
  rw [show (fun l => wsc Q T P (ix4 q c r l)) = dots Q T q (at16 Q P q c r) from funext (wsc_at Q T P q c r)] at h
  exact ⟨h.1.trans (wsc_at Q T P q c r _), h.2⟩

theorem value_at (q : Fin 1024) (c : Fin 8) (r : Fin 16) :
    value Q T P (ix4 q c r 0) = BitVec.ofNat 32 ((word Q T q (at16 Q P q c r)).val + 32 * r.val) := by
  pointwise [value]
  rw [(tops_at Q T P q c r).2]
  show BitVec.ofNat 32 _ + (0#32 + BitVec.ofNat 32 32 * BitVec.ofNat 32 r.val) = _
  rw [BitVec.zero_add, ← BitVec.ofNat_mul, ← BitVec.ofNat_add]

theorem base_at (q : Fin 1024) (c : Fin 8) : base Q P (ix2 q c) = BitVec.ofNat 32 (512 * min (clus Q P q c).val 31) := by
  unfold base
  rw [gather_multiples _ _ q c _ (starts_at _ _ q c _ (by omega) (cls_at Q P q c))]
  pointwise
  show 0#32 + BitVec.ofNat 32 512 * BitVec.ofNat 32 _ = _
  rw [BitVec.zero_add, ← BitVec.ofNat_mul]

theorem ids_at (q : Fin 1024) (c : Fin 8) (r : Fin 16) :
    ids Q T P (ix4 q c r 0) = BitVec.ofNat 32 ((word Q T q (at16 Q P q c r)).val + 32 * r.val + 512 * min (clus Q P q c).val 31) := by
  pointwise [ids]
  rw [value_at, base_at]
  exact (BitVec.ofNat_add ..).symm

theorem ents_at (q : Fin 1024) (c : Fin 8) (r : Fin 16) :
    ents Q T P (ix4 q c r 0) = BitVec.ofNat 32 ((word Q T q (at16 Q P q c r)).val + 32 * r.val + 512 * (clus Q P q c).val) := by
  pointwise [ents]
  rw [value_at, cls_at]
  show _ + BitVec.ofNat 32 _ * BitVec.ofNat 32 512 = _
  rw [← BitVec.ofNat_mul, ← BitVec.ofNat_add, Nat.mul_comm (clus Q P q c).val]

theorem tail_at {α : Type} (x : S1024x128.Idx → α) (q : Fin 1024) (k : Fin 16) : tail x (ix2 q k) = x (ix2 q ⟨127 - k.val, by omega⟩) := by
  pointwise [tail]
  refine congrArg x ?_
  refine congrArg₂ ix2 (if_neg (by decide)) (Fin.ext ?_)
  show 112 + (if 1 ∈ [1] then k.rev else k).val = 127 - k.val
  rw [if_pos (by decide), Fin.val_rev]
  omega

/-- Candidate `a` is row `a % 16` of the query's cluster `a / 16`. -/
theorem flat_at {α : Type} (x : S1024x8x16x1.Idx → α) (q : Fin 1024) (a : Fin 128) :
    shapeCast S1024x128 x shapeCasts_S1024x8x16x1_S1024x128 (ix2 q a) = x (ix4 q ⟨a.val / 16, by omega⟩ ⟨a.val % 16, by omega⟩ 0) := by
  refine shapeCast_apply x _ _ _ ?_
  rw [Shape.rowMajor_val_four, Shape.rowMajor_val_two]
  show ((q.val * 8 + a.val / 16) * 16 + a.val % 16) * 1 + 0 = q.val * 128 + a.val
  omega

theorem oeq_iff (a b : EReal) : FloatOps.cmpf (F := Ideal) (φ := .f32) .oeq a b = BitVec.ofBool (decide (a = b)) := rfl

/-- Zero stands for itself. -/
theorem select_zero (a z : EReal) : Scalar.select (FloatOps.cmpf (F := Ideal) (φ := .f32) .oeq a z) z a = a := by
  rw [oeq_iff]
  by_cases h : a = z
  · rw [decide_eq_true h, h]
    rfl
  · rw [decide_eq_false h]
    rfl

theorem select_une (a b c : EReal) : Scalar.select (FloatOps.cmpf (F := Ideal) (φ := .f32) .une a a) b c = c := by
  show Scalar.select (BitVec.ofBool (decide (a ≠ a))) b c = c
  rw [decide_eq_false (by simp)]
  rfl

theorem lt_iff (a b : EReal × BitVec 32 × BitVec 32) : (comparator_f32_i32_i32_d1 (F := Ideal) a b == 1#1) = decide (a.1 < b.1) := by
  unfold comparator_f32_i32_i32_d1
  simp only [select_zero, select_une]
  show (BitVec.ofBool (decide (a.1 < b.1)) == 1#1) = _
  cases decide (a.1 < b.1) <;> rfl

/-- A sort of three by the first, read at one index. -/
theorem sort3_one {s : Shape} (d : Nat) (hd : d < s.rank) (x : s.Idx → EReal) (y z : s.Idx → BitVec 32) (J : s.Idx) (p : Fin (s.size ⟨d, hd⟩))
    (hp : p = sortedFrom (fun k k' => decide (x (J.along ⟨d, hd⟩ k) < x (J.along ⟨d, hd⟩ k'))) (J ⟨d, hd⟩)) :
    (Host.sort3 s d (comparator_f32_i32_i32_d1 (F := Ideal)) x y z).1 J = x (J.along ⟨d, hd⟩ p)
    ∧ (Host.sort3 s d (comparator_f32_i32_i32_d1 (F := Ideal)) x y z).2.1 J = y (J.along ⟨d, hd⟩ p)
    ∧ (Host.sort3 s d (comparator_f32_i32_i32_d1 (F := Ideal)) x y z).2.2 J = z (J.along ⟨d, hd⟩ p) := by
  subst hp
  unfold Host.sort3
  simp only [hd, dif_pos, lt_iff]
  exact ⟨trivial, trivial, trivial⟩

theorem key_at (q : Fin 1024) (a : Fin 128) :
    shapeCast S1024x128 (tops Q T P).1 shapeCasts_S1024x8x16x1_S1024x128 (ix2 q a) = keys Q T P q a := by
  rw [flat_at, (tops_at Q T P q _ _).1]
  rfl

theorem sorted_at (q : Fin 1024) (k : Fin 16) :
    (sorted Q T P).1 (ix2 q ⟨127 - k.val, by omega⟩) = keys Q T P q (kept Q T P q k)
    ∧ (sorted Q T P).2.1 (ix2 q ⟨127 - k.val, by omega⟩) = shapeCast S1024x128 (ids Q T P) shapeCasts_S1024x8x16x1_S1024x128 (ix2 q (kept Q T P q k))
    ∧ (sorted Q T P).2.2 (ix2 q ⟨127 - k.val, by omega⟩) = shapeCast S1024x128 (ents Q T P) shapeCasts_S1024x8x16x1_S1024x128 (ix2 q (kept Q T P q k)) := by
  have hal : ∀ a : Fin 128, Shape.Idx.along (s := S1024x128) (ix2 q ⟨127 - k.val, by omega⟩) ⟨1, key_axes⟩ a = ix2 q a := by
    intro k
    funext a
    match a with
    | ⟨0, _⟩ => rfl
    | ⟨1, _⟩ => rfl
  have h := sort3_one (s := S1024x128) 1 key_axes (shapeCast S1024x128 (tops Q T P).1 shapeCasts_S1024x8x16x1_S1024x128)
    (shapeCast S1024x128 (ids Q T P) shapeCasts_S1024x8x16x1_S1024x128) (shapeCast S1024x128 (ents Q T P) shapeCasts_S1024x8x16x1_S1024x128)
    (ix2 q ⟨127 - k.val, by omega⟩) (kept Q T P q k) (by
      unfold kept last
      refine congr (congrArg sortedFrom ?_) (Fin.ext ?_)
      · funext a b
        exact congrArg₂ (fun u v : EReal => decide (u < v)) ((key_at Q T P q a).symm.trans (congrArg _ (hal a).symm)) ((key_at Q T P q b).symm.trans (congrArg _ (hal b).symm))
      · show 128 - (k.val + 1) = 127 - k.val
        omega)
  exact ⟨h.1.trans ((congrArg _ (hal _)).trans (key_at Q T P q _)), h.2.1.trans (congrArg _ (hal _)), h.2.2.trans (congrArg _ (hal _))⟩

theorem score_at (q : Fin 1024) (k : Fin 16) : tail (sorted Q T P).1 (ix2 q k) = scoreOf Q T P q k := by
  rw [tail_at, (sorted_at Q T P q k).1]
  rfl

theorem id_at (q : Fin 1024) (k : Fin 16) : tail (sorted Q T P).2.1 (ix2 q k) = idOf Q T P q k := by
  rw [tail_at, (sorted_at Q T P q k).2.1, flat_at, ids_at]
  unfold idOf krow
  rw [lane_div, lane_mod]
  rfl

theorem entry_at (q : Fin 1024) (k : Fin 16) : tail (sorted Q T P).2.2 (ix2 q k) = entryOf Q T P q k := by
  rw [tail_at, (sorted_at Q T P q k).2.2, flat_at, ents_at]
  unfold entryOf krow
  rw [lane_div, lane_mod]
  rfl

theorem scores : tail (sorted Q T P).1 = fun i : S1024x16.Idx => scoreOf Q T P (i 0) (i 1) := by
  funext i
  exact (congrArg _ (eq_ix2 i)).trans (score_at Q T P _ _)

theorem words : tail (sorted Q T P).2.1 = fun i : S1024x16.Idx => idOf Q T P (i 0) (i 1) := by
  funext i
  exact (congrArg _ (eq_ix2 i)).trans (id_at Q T P _ _)

theorem entries : tail (sorted Q T P).2.2 = fun i : S1024x16.Idx => entryOf Q T P (i 0) (i 1) := by
  funext i
  exact (congrArg _ (eq_ix2 i)).trans (entry_at Q T P _ _)
end

end Cert.Proof.Tk.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_table
public import proofs.«01_k».proof.Proof.Gen.Topk
public import proofs.«01_k».proof.Proof.Gen.Topk.Skeleton
public import proofs.«01_k».proof.Proof.Gen.Topk.Launch
public import proofs.«01_k».proof.Proof.Gen.Topk.Points
public import proofs.«01_k».proof.Proof.Gen.Topk.Frame
public import proofs.«01_k».proof.Proof.Gen.TopkIdeal
public import proofs.«01_k».proof.Proof.Gen.TopkIdeal.Skeleton
public import proofs.«01_k».proof.Proof.Gen.TopkIdeal.Launch
public import proofs.«01_k».proof.Proof.Gen.TopkIdeal.Points
public import proofs.«01_k».proof.Proof.Gen.TopkIdeal.Frame
public import proofs.«01_k».proof.Proof.Gen.TopkReferenceIdeal
public import proofs.«01_k».proof.Proof.Gen.TopkReferenceIdeal.Run
public import proofs.«01_k».proof.Proof.Gen.Pre_finite
public import Idealize.ShloMosaic.Adequacy
public import Idealize.ShloMosaic.Init
public import proofs.«01_k».proof.Proof.Ends
public import proofs.«01_k».proof.Proof.Same
public import proofs.«01_k».proof.Proof.Finite
public import proofs.«01_k».proof.Proof.TopkRun
public import proofs.«01_k».proof.Proof.TopkRef

@[expose] public section

noncomputable section

namespace Cert.Proof

open Idealize.ShloMosaic Cert.Proof.Sc

set_option maxHeartbeats 4000000 in
/-- What holds of the idealized program's runs at machine floats holds of the program's: the text is the same. -/
theorem of_ideal (m : (ℓ : Loc Cert.Kernel.nD Cert.Kernel.τ Cert.Kernel.sig) → Buf (Elt Bits) ℓ) (g : Dev Cert.Kernel.nD → PrngReg)
    (Q : PUnit × MemSt Cert.Kernel.nD Cert.Kernel.τ Cert.Kernel.sig (Elt Bits) → Prop)
    (h : θ_run (Cert.KernelIdeal.defs (F := Bits)) (Cert.KernelIdeal.threads (F := Bits)) ⟨m, fun _ => 0, g⟩ Q) :
    θ_run (Cert.Kernel.defs (F := Bits)) (Cert.Kernel.threads (F := Bits)) ⟨m, fun _ => 0, g⟩ Q :=
  (congrArg (fun D => θ_run D (Cert.KernelIdeal.threads (F := Bits)) ⟨m, fun _ => 0, g⟩ Q) (same_defs (F := Bits))).mpr h

theorem frame_kernel : Cert.quiescent_Kernel := fun m ρ h => of_ideal m ρ _
  ((θ_run Cert.KernelIdeal.defs _ _).mono (fun _ hr => ⟨fun c => (hr.1 c).2, hr.2⟩) (kernel_run (F := Bits) m ρ h))

theorem frame_kernelIdeal : Cert.quiescent_KernelIdeal := fun m ρ h =>
  (θ_run Cert.KernelIdeal.defs _ _).mono (fun _ hr => ⟨fun c => (hr.1 c).2, hr.2⟩) (kernel_run (F := Ideal) m ρ h)

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

theorem frame_referenceIdeal_in_table : Cert.quiescent_ReferenceIdeal_pre_in_table := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

theorem frame_reference : Cert.quiescent_Reference := fun m ρ _ =>
  (θ_run Cert.Reference.defs _ _).mono
    (fun r h => ⟨fun c => (h c).2, Idealize.ShloMosaic.sem_eq_zero_of_no_sems (by decide) r.2⟩) (Cert.Reference.Value.run (F := Bits) m ρ)

theorem algebraic : Cert.algebraic_KernelIdeal_ReferenceIdeal := fun m g m' g' h ha =>
  ⟨fun c => Look (m (c.tc.loc Cert.KernelIdeal.main_arg0)) (m (c.tc.loc Cert.KernelIdeal.main_arg1)),
    (θ_run Cert.KernelIdeal.defs _ _).mono (fun _ hr c => hr.1 c) (kernel_run (F := Ideal) m g h),
    (θ_run Cert.ReferenceIdeal.defs _ _).mono
      (fun _ hr c => ⟨(hr c).1.trans (by rw [(ha c).1, (ha c).2]), (hr c).2⟩)
      (referenceIdeal_run (F := Ideal) m' g' (fun c i => by rw [(ha c).2]; exact in_table _ _ (h c) i))⟩

theorem bitexact : Cert.bitexact_Kernel_Reference := fun m g m' g' h ha =>
  ⟨fun c => Look (m (c.tc.loc Cert.Kernel.main_arg0)) (m (c.tc.loc Cert.Kernel.main_arg1)),
    of_ideal m g _ ((θ_run Cert.KernelIdeal.defs _ _).mono (fun _ hr c => hr.1 c) (kernel_run (F := Bits) m g h)),
    (θ_run Cert.Reference.defs _ _).mono
      (fun _ hr c => ⟨(hr c).1.trans (by rw [(ha c).1, (ha c).2]), (hr c).2⟩)
      (reference_run (F := Bits) m' g' (fun c i => by rw [(ha c).2]; exact in_table _ _ (h c) i))⟩

theorem frame_topk : Cert.quiescent_Topk := fun m ρ _ => Cert.Topk.Gen.frame m ρ

theorem frame_topkIdeal : Cert.quiescent_TopkIdeal := fun m ρ _ => Cert.TopkIdeal.Gen.frame m ρ

theorem frame_topkIdeal_finite : Cert.quiescent_TopkIdeal_pre_finite := fun m ρ _ => Cert.TopkIdeal.Gen.frame m ρ

theorem frame_topkReferenceIdeal : Cert.quiescent_TopkReferenceIdeal := fun m ρ _ =>
  (θ_run Cert.TopkReferenceIdeal.defs _ _).mono
    (fun r h => ⟨fun c => (h c).2.2.2, Idealize.ShloMosaic.sem_eq_zero_of_no_sems (by decide) r.2⟩) (Cert.TopkReferenceIdeal.Value.run (F := Ideal) m ρ)

theorem frame_topkReferenceIdeal_finite : Cert.quiescent_TopkReferenceIdeal_pre_finite := fun m ρ _ =>
  (θ_run Cert.TopkReferenceIdeal.defs _ _).mono
    (fun r h => ⟨fun c => (h c).2.2.2, Idealize.ShloMosaic.sem_eq_zero_of_no_sems (by decide) r.2⟩) (Cert.TopkReferenceIdeal.Value.run (F := Ideal) m ρ)

theorem algebraic_topk : Cert.algebraic_TopkIdeal_TopkReferenceIdeal_pre_finite := fun m g m' g' h ha =>
  ⟨fun c => (fun i : Cert.TopkIdeal.S1024x16.Idx => Tk.scoreOf (Tk.Qm m c) (Tk.Tb m c) (Tk.Pm m c) (i 0) (i 1)),
    fun c => (fun i : Cert.TopkIdeal.S1024x16.Idx => Tk.idOf (Tk.Qm m c) (Tk.Tb m c) (Tk.Pm m c) (i 0) (i 1)),
    fun c => (fun i : Cert.TopkIdeal.S1024x16.Idx => Tk.entryOf (Tk.Qm m c) (Tk.Tb m c) (Tk.Pm m c) (i 0) (i 1)),
    Tk.run m g (fun c => Tk.near_real _ _ _ (h c)) (fun c => Tk.best_real _ _ _ (h c)),
    (θ_run Cert.TopkReferenceIdeal.defs _ _).mono
      (fun _ hr c => ⟨(hr c).1.trans ((Tk.Ref.res0 m' c).trans (by rw [(ha c).1, (ha c).2.1, (ha c).2.2]; exact Tk.Ref.scores _ _ _)),
        (hr c).2.1.trans ((Tk.Ref.res1 m' c).trans (by rw [(ha c).1, (ha c).2.1, (ha c).2.2]; exact Tk.Ref.words _ _ _)),
        (hr c).2.2.1.trans ((Tk.Ref.res2 m' c).trans (by rw [(ha c).1, (ha c).2.1, (ha c).2.2]; exact Tk.Ref.entries _ _ _)), (hr c).2.2.2⟩)
      (Cert.TopkReferenceIdeal.Value.run (F := Ideal) m' g')⟩

theorem claim : Cert.Claim :=
  ⟨Cert.Kernel.Gen.facts, Cert.KernelIdeal.Gen.facts, Cert.ReferenceIdeal.Gen.facts, Cert.Reference.Gen.facts, Cert.Topk.Gen.facts, Cert.TopkIdeal.Gen.facts,
    Cert.TopkReferenceIdeal.Gen.facts, Cert.Pre_in_table.Gen.facts, Cert.Pre_finite.Gen.facts,
    frame_kernel, frame_kernelIdeal, frame_referenceIdeal, frame_referenceIdeal_in_table, frame_reference,
    frame_topk, frame_topkIdeal, frame_topkIdeal_finite, frame_topkReferenceIdeal, frame_topkReferenceIdeal_finite,
    trivial, algebraic, bitexact, trivial, algebraic_topk⟩

end Cert.Proof

end

end
